-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_finite_memory [hPre_finite_memory : Cert.Pre_finite_memory.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_finite_memory.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2))).1 = (fun _ => 1#1)
    ∧ (Cert.Pre_finite_memory.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2))).2 = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_finite_memory [hPre_finite_memory : Cert.Pre_finite_memory.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_finite_memory.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2))).1 = (fun _ => 1#1)
    ∧ (Cert.Pre_finite_memory.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnIdeal_pre_finite_memory [hMemAttnIdeal : Cert.MemAttnIdeal.Facts] [hPre_finite_memory : Cert.Pre_finite_memory.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_finite_memory m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def quiescent_MemAttnRefIdeal_pre_finite_memory [hMemAttnRefIdeal : Cert.MemAttnRefIdeal.Facts] [hPre_finite_memory : Cert.Pre_finite_memory.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_finite_memory m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v244)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v244) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)
      ∧ m' ((c.tc : Thread Cert.InRefIdeal.nD Cert.InRefIdeal.τ).loc Cert.InRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v29_0)) (v1 : (c : Dev Cert.InProjIdeal.nD) → Buf (Elt Ideal) ((c.tc : Thread Cert.InProjIdeal.nD Cert.InProjIdeal.τ).loc Cert.InProjIdeal.main_v29_1)) (v2 : (c : Dev Cert.InProjIdeal.nD) → Buf (Elt Ideal) ((c.tc : Thread Cert.InProjIdeal.nD Cert.InProjIdeal.τ).loc Cert.InProjIdeal.main_v29_2)) (v3 : (c : Dev Cert.InProjIdeal.nD) → Buf (Elt Ideal) ((c.tc : Thread Cert.InProjIdeal.nD Cert.InProjIdeal.τ).loc Cert.InProjIdeal.main_v29_3)) (v4 : (c : Dev Cert.InProjIdeal.nD) → Buf (Elt Ideal) ((c.tc : Thread Cert.InProjIdeal.nD Cert.InProjIdeal.τ).loc Cert.InProjIdeal.main_v29_4)) (v5 : (c : Dev Cert.InProjIdeal.nD) → Buf (Elt Ideal) ((c.tc : Thread Cert.InProjIdeal.nD Cert.InProjIdeal.τ).loc Cert.InProjIdeal.main_v29_5)) (v6 : (c : Dev Cert.InProjIdeal.nD) → Buf (Elt Ideal) ((c.tc : Thread Cert.InProjIdeal.nD Cert.InProjIdeal.τ).loc Cert.InProjIdeal.main_v29_6)) (v7 : (c : Dev Cert.InProjIdeal.nD) → Buf (Elt Ideal) ((c.tc : Thread Cert.InProjIdeal.nD Cert.InProjIdeal.τ).loc Cert.InProjIdeal.main_v29_7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v29_0) = v0 c
          ∧ r.2.mem ((c.tc : Thread Cert.InProjIdeal.nD Cert.InProjIdeal.τ).loc Cert.InProjIdeal.main_v29_1) = v1 c
          ∧ r.2.mem ((c.tc : Thread Cert.InProjIdeal.nD Cert.InProjIdeal.τ).loc Cert.InProjIdeal.main_v29_2) = v2 c
          ∧ r.2.mem ((c.tc : Thread Cert.InProjIdeal.nD Cert.InProjIdeal.τ).loc Cert.InProjIdeal.main_v29_3) = v3 c
          ∧ r.2.mem ((c.tc : Thread Cert.InProjIdeal.nD Cert.InProjIdeal.τ).loc Cert.InProjIdeal.main_v29_4) = v4 c
          ∧ r.2.mem ((c.tc : Thread Cert.InProjIdeal.nD Cert.InProjIdeal.τ).loc Cert.InProjIdeal.main_v29_5) = v5 c
          ∧ r.2.mem ((c.tc : Thread Cert.InProjIdeal.nD Cert.InProjIdeal.τ).loc Cert.InProjIdeal.main_v29_6) = v6 c
          ∧ r.2.mem ((c.tc : Thread Cert.InProjIdeal.nD Cert.InProjIdeal.τ).loc Cert.InProjIdeal.main_v29_7) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v40) = v0 c
          ∧ r.2.mem ((c.tc : Thread Cert.InRefIdeal.nD Cert.InRefIdeal.τ).loc Cert.InRefIdeal.main_v49) = v1 c
          ∧ r.2.mem ((c.tc : Thread Cert.InRefIdeal.nD Cert.InRefIdeal.τ).loc Cert.InRefIdeal.main_v58) = v2 c
          ∧ r.2.mem ((c.tc : Thread Cert.InRefIdeal.nD Cert.InRefIdeal.τ).loc Cert.InRefIdeal.main_v60) = v3 c
          ∧ r.2.mem ((c.tc : Thread Cert.InRefIdeal.nD Cert.InRefIdeal.τ).loc Cert.InRefIdeal.main_v61) = v4 c
          ∧ r.2.mem ((c.tc : Thread Cert.InRefIdeal.nD Cert.InRefIdeal.τ).loc Cert.InRefIdeal.main_v34) = v5 c
          ∧ r.2.mem ((c.tc : Thread Cert.InRefIdeal.nD Cert.InRefIdeal.τ).loc Cert.InRefIdeal.main_v70) = v6 c
          ∧ r.2.mem ((c.tc : Thread Cert.InRefIdeal.nD Cert.InRefIdeal.τ).loc Cert.InRefIdeal.main_v79) = v7 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_OutProj_OutProjIdeal : Prop :=
  True

def algebraic_OutProjIdeal_OutRefIdeal [hOutProjIdeal : Cert.OutProjIdeal.Facts] [hOutRefIdeal : Cert.OutRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)
      ∧ m' ((c.tc : Thread Cert.OutRefIdeal.nD Cert.OutRefIdeal.τ).loc Cert.OutRefIdeal.main_arg4) = m ((c.tc : Thread Cert.OutProjIdeal.nD Cert.OutProjIdeal.τ).loc Cert.OutProjIdeal.main_arg4)
      ∧ m' ((c.tc : Thread Cert.OutRefIdeal.nD Cert.OutRefIdeal.τ).loc Cert.OutRefIdeal.main_arg5) = m ((c.tc : Thread Cert.OutProjIdeal.nD Cert.OutProjIdeal.τ).loc Cert.OutProjIdeal.main_arg5)
      ∧ m' ((c.tc : Thread Cert.OutRefIdeal.nD Cert.OutRefIdeal.τ).loc Cert.OutRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v16)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v16) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v32) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)) →
    ∃ (v0 : (c : Dev Cert.RouteIdeal.nD) → Buf (Elt Ideal) ((c.tc : Thread Cert.RouteIdeal.nD Cert.RouteIdeal.τ).loc Cert.RouteIdeal.main_v6_0)) (v1 : (c : Dev Cert.RouteIdeal.nD) → Buf (Elt Ideal) ((c.tc : Thread Cert.RouteIdeal.nD Cert.RouteIdeal.τ).loc Cert.RouteIdeal.main_v6_1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v6_0) = v0 c
          ∧ r.2.mem ((c.tc : Thread Cert.RouteIdeal.nD Cert.RouteIdeal.τ).loc Cert.RouteIdeal.main_v6_1) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v14) = v0 c
          ∧ r.2.mem ((c.tc : Thread Cert.RouteRefIdeal.nD Cert.RouteRefIdeal.τ).loc Cert.RouteRefIdeal.main_v16) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v6_0)) (v1 : (c : Dev Cert.MemKvIdeal.nD) → Buf (Elt Ideal) ((c.tc : Thread Cert.MemKvIdeal.nD Cert.MemKvIdeal.τ).loc Cert.MemKvIdeal.main_v6_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v6_0) = v0 c
          ∧ r.2.mem ((c.tc : Thread Cert.MemKvIdeal.nD Cert.MemKvIdeal.τ).loc Cert.MemKvIdeal.main_v6_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v10) = v0 c
          ∧ r.2.mem ((c.tc : Thread Cert.MemKvRefIdeal.nD Cert.MemKvRefIdeal.τ).loc Cert.MemKvRefIdeal.main_v11) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_MemAttn_MemAttnIdeal : Prop :=
  True

def algebraic_MemAttnIdeal_MemAttnRefIdeal_pre_finite_memory [hMemAttnIdeal : Cert.MemAttnIdeal.Facts] [hMemAttnRefIdeal : Cert.MemAttnRefIdeal.Facts] [hPre_finite_memory : Cert.Pre_finite_memory.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_finite_memory m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)) →
    ∃ (v0 : (c : Dev Cert.MemAttnIdeal.nD) → Buf (Elt Ideal) ((c.tc : Thread Cert.MemAttnIdeal.nD Cert.MemAttnIdeal.τ).loc Cert.MemAttnIdeal.main_v18)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v18) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v17) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInRefIdeal : Cert.InRefIdeal.Facts) (hOutProj : Cert.OutProj.Facts) (hOutProjIdeal : Cert.OutProjIdeal.Facts) (hOutRefIdeal : Cert.OutRefIdeal.Facts) (hRoute : Cert.Route.Facts) (hRouteIdeal : Cert.RouteIdeal.Facts) (hRouteRefIdeal : Cert.RouteRefIdeal.Facts) (hMemKv : Cert.MemKv.Facts) (hMemKvIdeal : Cert.MemKvIdeal.Facts) (hMemKvRefIdeal : Cert.MemKvRefIdeal.Facts) (hMemAttn : Cert.MemAttn.Facts) (hMemAttnIdeal : Cert.MemAttnIdeal.Facts) (hMemAttnRefIdeal : Cert.MemAttnRefIdeal.Facts) (hPre_finite_scores : Cert.Pre_finite_scores.Facts) (hPre_finite_memory : Cert.Pre_finite_memory.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InProj (hInProj := hInProj)
    ∧ quiescent_InProjIdeal (hInProjIdeal := hInProjIdeal)
    ∧ quiescent_InRefIdeal (hInRefIdeal := hInRefIdeal)
    ∧ quiescent_OutProj (hOutProj := hOutProj)
    ∧ quiescent_OutProjIdeal (hOutProjIdeal := hOutProjIdeal)
    ∧ quiescent_OutRefIdeal (hOutRefIdeal := hOutRefIdeal)
    ∧ quiescent_Route (hRoute := hRoute)
    ∧ quiescent_RouteIdeal (hRouteIdeal := hRouteIdeal)
    ∧ quiescent_RouteRefIdeal (hRouteRefIdeal := hRouteRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemAttn (hMemAttn := hMemAttn)
    ∧ quiescent_MemAttnIdeal (hMemAttnIdeal := hMemAttnIdeal)
    ∧ quiescent_MemAttnIdeal_pre_finite_memory (hMemAttnIdeal := hMemAttnIdeal) (hPre_finite_memory := hPre_finite_memory)
    ∧ quiescent_MemAttnRefIdeal (hMemAttnRefIdeal := hMemAttnRefIdeal)
    ∧ quiescent_MemAttnRefIdeal_pre_finite_memory (hMemAttnRefIdeal := hMemAttnRefIdeal) (hPre_finite_memory := hPre_finite_memory)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InProj_InProjIdeal
    ∧ algebraic_InProjIdeal_InRefIdeal (hInProjIdeal := hInProjIdeal) (hInRefIdeal := hInRefIdeal)
    ∧ preserves_OutProj_OutProjIdeal
    ∧ algebraic_OutProjIdeal_OutRefIdeal (hOutProjIdeal := hOutProjIdeal) (hOutRefIdeal := hOutRefIdeal)
    ∧ preserves_Route_RouteIdeal
    ∧ algebraic_RouteIdeal_RouteRefIdeal (hRouteIdeal := hRouteIdeal) (hRouteRefIdeal := hRouteRefIdeal)
    ∧ preserves_MemKv_MemKvIdeal
    ∧ algebraic_MemKvIdeal_MemKvRefIdeal (hMemKvIdeal := hMemKvIdeal) (hMemKvRefIdeal := hMemKvRefIdeal)
    ∧ preserves_MemAttn_MemAttnIdeal
    ∧ algebraic_MemAttnIdeal_MemAttnRefIdeal_pre_finite_memory (hMemAttnIdeal := hMemAttnIdeal) (hMemAttnRefIdeal := hMemAttnRefIdeal) (hPre_finite_memory := hPre_finite_memory)
-- ==== Pre_finite_memory.lean ====
abbrev S16x4096x4x64 : Shape := ⟨4, ![16, 4096, 4, 64]⟩
abbrev S16x256x4x64 : Shape := ⟨4, ![16, 256, 4, 64]⟩
abbrev S_ : Shape := ⟨0, ![]⟩

class Facts : Prop where
  bcast_S_S16x4096x4x64 : S_.BroadcastsInDim S16x4096x4x64 (![] : Fin 0 → Fin S16x4096x4x64.rank)
  bcast_S_S16x256x4x64 : S_.BroadcastsInDim S16x256x4x64 (![] : Fin 0 → Fin S16x256x4x64.rank)

variable [Facts]

def fn {F : FTy → Type} [FloatOps F] (main_arg0 : FVec F S16x4096x4x64 .f32) (main_arg1 : FVec F S16x256x4x64 .f32) (main_arg2 : FVec F S16x256x4x64 .f32) : IVec S16x4096x4x64 1 × IVec S16x256x4x64 1 :=
  let main_v0 : FVec F S16x4096x4x64 .f32 := Host.absf main_arg0
  let main_cst : FVec F S_ .f32 := constant S_ .f32 0x7F800000#32
  let main_v1 : FVec F S16x4096x4x64 .f32 := broadcastInDim S16x4096x4x64 ![] bcast_S_S16x4096x4x64 main_cst
  let main_v2 : IVec S16x4096x4x64 1 := cmpf .olt main_v0 main_v1
  let main_v3 : FVec F S16x256x4x64 .f32 := Host.absf main_arg1
  let main_cst_0 : FVec F S_ .f32 := constant S_ .f32 0x7F800000#32
  let main_v4 : FVec F S16x256x4x64 .f32 := broadcastInDim S16x256x4x64 ![] bcast_S_S16x256x4x64 main_cst_0
  let main_v5 : IVec S16x256x4x64 1 := cmpf .olt main_v3 main_v4
  (main_v2, main_v5)
-- ==== Pre_finite_scores.lean ====
abbrev S16x4096x8x64 : Shape := ⟨4, ![16, 4096, 8, 64]⟩
abbrev S8x15x31 : Shape := ⟨3, ![8, 15, 31]⟩
abbrev S_ : Shape := ⟨0, ![]⟩

class Facts : Prop where
  bcast_S_S16x4096x8x64 : S_.BroadcastsInDim S16x4096x8x64 (![] : Fin 0 → Fin S16x4096x8x64.rank)
  bcast_S_S8x15x31 : S_.BroadcastsInDim S8x15x31 (![] : Fin 0 → Fin S8x15x31.rank)

variable [Facts]

def fn {F : FTy → Type} [FloatOps F] (main_arg0 : FVec F S16x4096x8x64 .f32) (main_arg1 : FVec F S16x4096x8x64 .f32) (main_arg2 : FVec F S16x4096x8x64 .f32) (main_arg3 : FVec F S8x15x31 .f32) : IVec S16x4096x8x64 1 × IVec S16x4096x8x64 1 × IVec S8x15x31 1 :=
  let main_v0 : FVec F S16x4096x8x64 .f32 := Host.absf main_arg0
  let main_cst : FVec F S_ .f32 := constant S_ .f32 0x7F800000#32
  let main_v1 : FVec F S16x4096x8x64 .f32 := broadcastInDim S16x4096x8x64 ![] bcast_S_S16x4096x8x64 main_cst
  let main_v2 : IVec S16x4096x8x64 1 := cmpf .olt main_v0 main_v1
  let main_v3 : FVec F S16x4096x8x64 .f32 := Host.absf main_arg1
  let main_cst_0 : FVec F S_ .f32 := constant S_ .f32 0x7F800000#32
  let main_v4 : FVec F S16x4096x8x64 .f32 := broadcastInDim S16x4096x8x64 ![] bcast_S_S16x4096x8x64 main_cst_0
  let main_v5 : IVec S16x4096x8x64 1 := cmpf .olt main_v3 main_v4
  let main_v6 : FVec F S8x15x31 .f32 := Host.absf main_arg3
  let main_cst_1 : FVec F S_ .f32 := constant S_ .f32 0x7F800000#32
  let main_v7 : FVec F S8x15x31 .f32 := broadcastInDim S8x15x31 ![] bcast_S_S8x15x31 main_cst_1
  let main_v8 : IVec S8x15x31 1 := cmpf .olt main_v6 main_v7
  (main_v2, main_v5, main_v8)
-- ==== Kernel.lean ====
abbrev S16x4096x8x64 : Shape := ⟨4, ![16, 4096, 8, 64]⟩
abbrev S8x15x31 : Shape := ⟨3, ![8, 15, 31]⟩
abbrev S512 : Shape := ⟨1, ![512]⟩
abbrev S65536x512 : Shape := ⟨2, ![65536, 512]⟩
abbrev S1x512 : Shape := ⟨2, ![1, 512]⟩
abbrev S_ : Shape := ⟨0, ![]⟩
abbrev S512x65536 : Shape := ⟨2, ![512, 65536]⟩
abbrev S8x15x127 : Shape := ⟨3, ![8, 15, 127]⟩
abbrev S8x15x64 : Shape := ⟨3, ![8, 15, 64]⟩
abbrev S8x15x1x64 : Shape := ⟨4, ![8, 15, 1, 64]⟩
abbrev S8x15x16x64 : Shape := ⟨4, ![8, 15, 16, 64]⟩
abbrev S8x15x64x64 : Shape := ⟨4, ![8, 15, 64, 64]⟩
abbrev S8x64x64 : Shape := ⟨3, ![8, 64, 64]⟩
abbrev S8x1x64x64 : Shape := ⟨4, ![8, 1, 64, 64]⟩
abbrev S8x64x1024 : Shape := ⟨3, ![8, 64, 1024]⟩
abbrev S8x64x128 : Shape := ⟨3, ![8, 64, 128]⟩
abbrev S8x64x1152 : Shape := ⟨3, ![8, 64, 1152]⟩
abbrev S8x128x1152 : Shape := ⟨3, ![8, 128, 1152]⟩
abbrev S128 : Shape := ⟨1, ![128]⟩
abbrev S1152 : Shape := ⟨1, ![1152]⟩
abbrev S1x1152 : Shape := ⟨2, ![1, 1152]⟩
abbrev S128x1 : Shape := ⟨2, ![128, 1]⟩
abbrev S128x1152 : Shape := ⟨2, ![128, 1152]⟩
abbrev S1x128x1152 : Shape := ⟨3, ![1, 128, 1152]⟩
abbrev S128x512 : Shape := ⟨2, ![128, 512]⟩
abbrev S512x128 : Shape := ⟨2, ![512, 128]⟩
abbrev S512x640 : Shape := ⟨2, ![512, 640]⟩
abbrev S640x512 : Shape := ⟨2, ![640, 512]⟩
abbrev S128x640 : Shape := ⟨2, ![128, 640]⟩
abbrev S128x128 : Shape := ⟨2, ![128, 128]⟩
abbrev S1x128x640 : Shape := ⟨3, ![1, 128, 640]⟩
abbrev S640x128 : Shape := ⟨2, ![640, 128]⟩

abbrev nBuf : Space → Nat
  | .hbm => 271
  | .vmem => 29
  | .smem => 0
  | _ => 0

abbrev hbmTy0_0 (i : Nat) : BufTy := match i % 128 with
  | 0 => ⟨S16x4096x8x64, .f32⟩
  | 1 => ⟨S16x4096x8x64, .f32⟩
  | 2 => ⟨S16x4096x8x64, .f32⟩
  | 3 => ⟨S8x15x31, .f32⟩
  | 4 => ⟨S512, .f32⟩
  | 5 => ⟨S512, .f32⟩
  | 6 => ⟨S65536x512, .f32⟩
  | 7 => ⟨S1x512, .f32⟩
  | 8 => ⟨S65536x512, .f32⟩
  | 9 => ⟨S65536x512, .f32⟩
  | 10 => ⟨S_, .f32⟩
  | 11 => ⟨S65536x512, .f32⟩
  | 12 => ⟨S65536x512, .f32⟩
  | 13 => ⟨S65536x512, .bf16⟩
  | 14 => ⟨S1x512, .f32⟩
  | 15 => ⟨S65536x512, .f32⟩
  | 16 => ⟨S65536x512, .f32⟩
  | 17 => ⟨S_, .f32⟩
  | 18 => ⟨S65536x512, .f32⟩
  | 19 => ⟨S65536x512, .f32⟩
  | 20 => ⟨S65536x512, .bf16⟩
  | 21 => ⟨S65536x512, .f32⟩
  | 22 => ⟨S512x65536, .f32⟩
  | 23 => ⟨S512x65536, .bf16⟩
  | 24 => ⟨S65536x512, .f32⟩
  | 25 => ⟨S65536x512, .bf16⟩
  | 26 => ⟨S_, .i32⟩
  | 27 => ⟨S_, .f32⟩
  | 28 => ⟨S8x15x127, .f32⟩
  | 29 => ⟨S8x15x64, .f32⟩
  | 30 => ⟨S8x15x64, .f32⟩
  | 31 => ⟨S8x15x64, .f32⟩
  | 32 => ⟨S8x15x64, .f32⟩
  | 33 => ⟨S8x15x64, .f32⟩
  | 34 => ⟨S8x15x64, .f32⟩
  | 35 => ⟨S8x15x64, .f32⟩
  | 36 => ⟨S8x15x64, .f32⟩
  | 37 => ⟨S8x15x64, .f32⟩
  | 38 => ⟨S8x15x64, .f32⟩
  | 39 => ⟨S8x15x64, .f32⟩
  | 40 => ⟨S8x15x64, .f32⟩
  | 41 => ⟨S8x15x64, .f32⟩
  | 42 => ⟨S8x15x64, .f32⟩
  | 43 => ⟨S8x15x64, .f32⟩
  | 44 => ⟨S8x15x64, .f32⟩
  | 45 => ⟨S8x15x64, .f32⟩
  | 46 => ⟨S8x15x64, .f32⟩
  | 47 => ⟨S8x15x64, .f32⟩
  | 48 => ⟨S8x15x64, .f32⟩
  | 49 => ⟨S8x15x64, .f32⟩
  | 50 => ⟨S8x15x64, .f32⟩
  | 51 => ⟨S8x15x64, .f32⟩
  | 52 => ⟨S8x15x64, .f32⟩
  | 53 => ⟨S8x15x64, .f32⟩
  | 54 => ⟨S8x15x64, .f32⟩
  | 55 => ⟨S8x15x64, .f32⟩
  | 56 => ⟨S8x15x64, .f32⟩
  | 57 => ⟨S8x15x64, .f32⟩
  | 58 => ⟨S8x15x64, .f32⟩
  | 59 => ⟨S8x15x64, .f32⟩
  | 60 => ⟨S8x15x64, .f32⟩
  | 61 => ⟨S8x15x64, .f32⟩
  | 62 => ⟨S8x15x64, .f32⟩
  | 63 => ⟨S8x15x64, .f32⟩
  | 64 => ⟨S8x15x64, .f32⟩
  | 65 => ⟨S8x15x64, .f32⟩
  | 66 => ⟨S8x15x64, .f32⟩
  | 67 => ⟨S8x15x64, .f32⟩
  | 68 => ⟨S8x15x64, .f32⟩
  | 69 => ⟨S8x15x64, .f32⟩
  | 70 => ⟨S8x15x64, .f32⟩
  | 71 => ⟨S8x15x64, .f32⟩
  | 72 => ⟨S8x15x64, .f32⟩
  | 73 => ⟨S8x15x64, .f32⟩
  | 74 => ⟨S8x15x64, .f32⟩
  | 75 => ⟨S8x15x64, .f32⟩
  | 76 => ⟨S8x15x64, .f32⟩
  | 77 => ⟨S8x15x64, .f32⟩
  | 78 => ⟨S8x15x64, .f32⟩
  | 79 => ⟨S8x15x64, .f32⟩
  | 80 => ⟨S8x15x64, .f32⟩
  | 81 => ⟨S8x15x64, .f32⟩
  | 82 => ⟨S8x15x64, .f32⟩
  | 83 => ⟨S8x15x64, .f32⟩
  | 84 => ⟨S8x15x64, .f32⟩
  | 85 => ⟨S8x15x64, .f32⟩
  | 86 => ⟨S8x15x64, .f32⟩
  | 87 => ⟨S8x15x64, .f32⟩
  | 88 => ⟨S8x15x64, .f32⟩
  | 89 => ⟨S8x15x64, .f32⟩
  | 90 => ⟨S8x15x64, .f32⟩
  | 91 => ⟨S8x15x64, .f32⟩
  | 92 => ⟨S8x15x64, .f32⟩
  | 93 => ⟨S8x15x1x64, .f32⟩
  | 94 => ⟨S8x15x1x64, .f32⟩
  | 95 => ⟨S8x15x1x64, .f32⟩
  | 96 => ⟨S8x15x1x64, .f32⟩
  | 97 => ⟨S8x15x1x64, .f32⟩
  | 98 => ⟨S8x15x1x64, .f32⟩
  | 99 => ⟨S8x15x1x64, .f32⟩
  | 100 => ⟨S8x15x1x64, .f32⟩
  | 101 => ⟨S8x15x1x64, .f32⟩
  | 102 => ⟨S8x15x1x64, .f32⟩
  | 103 => ⟨S8x15x1x64, .f32⟩
  | 104 => ⟨S8x15x1x64, .f32⟩
  | 105 => ⟨S8x15x1x64, .f32⟩
  | 106 => ⟨S8x15x1x64, .f32⟩
  | 107 => ⟨S8x15x1x64, .f32⟩
  | 108 => ⟨S8x15x1x64, .f32⟩
  | 109 => ⟨S8x15x1x64, .f32⟩
  | 110 => ⟨S8x15x1x64, .f32⟩
  | 111 => ⟨S8x15x1x64, .f32⟩
  | 112 => ⟨S8x15x1x64, .f32⟩
  | 113 => ⟨S8x15x1x64, .f32⟩
  | 114 => ⟨S8x15x1x64, .f32⟩
  | 115 => ⟨S8x15x1x64, .f32⟩
  | 116 => ⟨S8x15x1x64, .f32⟩
  | 117 => ⟨S8x15x1x64, .f32⟩
  | 118 => ⟨S8x15x1x64, .f32⟩
  | 119 => ⟨S8x15x1x64, .f32⟩
  | 120 => ⟨S8x15x1x64, .f32⟩
  | 121 => ⟨S8x15x1x64, .f32⟩
  | 122 => ⟨S8x15x1x64, .f32⟩
  | 123 => ⟨S8x15x1x64, .f32⟩
  | 124 => ⟨S8x15x1x64, .f32⟩
  | 125 => ⟨S8x15x1x64, .f32⟩
  | 126 => ⟨S8x15x1x64, .f32⟩
  | 127 => ⟨S8x15x1x64, .f32⟩
  | _ => ⟨S16x4096x8x64, .f32⟩

abbrev hbmTy0_1 (i : Nat) : BufTy := match i % 128 with
  | 0 => ⟨S8x15x1x64, .f32⟩
  | 1 => ⟨S8x15x1x64, .f32⟩
  | 2 => ⟨S8x15x1x64, .f32⟩
  | 3 => ⟨S8x15x1x64, .f32⟩
  | 4 => ⟨S8x15x1x64, .f32⟩
  | 5 => ⟨S8x15x1x64, .f32⟩
  | 6 => ⟨S8x15x1x64, .f32⟩
  | 7 => ⟨S8x15x1x64, .f32⟩
  | 8 => ⟨S8x15x1x64, .f32⟩
  | 9 => ⟨S8x15x1x64, .f32⟩
  | 10 => ⟨S8x15x1x64, .f32⟩
  | 11 => ⟨S8x15x1x64, .f32⟩
  | 12 => ⟨S8x15x1x64, .f32⟩
  | 13 => ⟨S8x15x1x64, .f32⟩
  | 14 => ⟨S8x15x1x64, .f32⟩
  | 15 => ⟨S8x15x1x64, .f32⟩
  | 16 => ⟨S8x15x1x64, .f32⟩
  | 17 => ⟨S8x15x1x64, .f32⟩
  | 18 => ⟨S8x15x1x64, .f32⟩
  | 19 => ⟨S8x15x1x64, .f32⟩
  | 20 => ⟨S8x15x1x64, .f32⟩
  | 21 => ⟨S8x15x1x64, .f32⟩
  | 22 => ⟨S8x15x1x64, .f32⟩
  | 23 => ⟨S8x15x1x64, .f32⟩
  | 24 => ⟨S8x15x1x64, .f32⟩
  | 25 => ⟨S8x15x1x64, .f32⟩
  | 26 => ⟨S8x15x1x64, .f32⟩
  | 27 => ⟨S8x15x1x64, .f32⟩
  | 28 => ⟨S8x15x1x64, .f32⟩
  | 29 => ⟨S8x15x16x64, .f32⟩
  | 30 => ⟨S8x15x16x64, .f32⟩
  | 31 => ⟨S8x15x16x64, .f32⟩
  | 32 => ⟨S8x15x16x64, .f32⟩
  | 33 => ⟨S8x15x64x64, .f32⟩
  | 34 => ⟨S_, .f32⟩
  | 35 => ⟨S8x64x64, .f32⟩
  | 36 => ⟨S8x1x64x64, .f32⟩
  | 37 => ⟨S8x64x64, .f32⟩
  | 38 => ⟨S8x1x64x64, .f32⟩
  | 39 => ⟨S8x64x64, .f32⟩
  | 40 => ⟨S8x1x64x64, .f32⟩
  | 41 => ⟨S8x64x64, .f32⟩
  | 42 => ⟨S8x1x64x64, .f32⟩
  | 43 => ⟨S8x64x64, .f32⟩
  | 44 => ⟨S8x1x64x64, .f32⟩
  | 45 => ⟨S8x64x64, .f32⟩
  | 46 => ⟨S8x1x64x64, .f32⟩
  | 47 => ⟨S8x64x64, .f32⟩
  | 48 => ⟨S8x1x64x64, .f32⟩
  | 49 => ⟨S8x64x64, .f32⟩
  | 50 => ⟨S8x1x64x64, .f32⟩
  | 51 => ⟨S8x64x64, .f32⟩
  | 52 => ⟨S8x1x64x64, .f32⟩
  | 53 => ⟨S8x64x64, .f32⟩
  | 54 => ⟨S8x1x64x64, .f32⟩
  | 55 => ⟨S8x64x64, .f32⟩
  | 56 => ⟨S8x1x64x64, .f32⟩
  | 57 => ⟨S8x64x64, .f32⟩
  | 58 => ⟨S8x1x64x64, .f32⟩
  | 59 => ⟨S8x64x64, .f32⟩
  | 60 => ⟨S8x1x64x64, .f32⟩
  | 61 => ⟨S8x64x64, .f32⟩
  | 62 => ⟨S8x1x64x64, .f32⟩
  | 63 => ⟨S8x64x64, .f32⟩
  | 64 => ⟨S8x1x64x64, .f32⟩
  | 65 => ⟨S8x64x64, .f32⟩
  | 66 => ⟨S8x64x1024, .f32⟩
  | 67 => ⟨S8x64x128, .f32⟩
  | 68 => ⟨S8x64x1152, .f32⟩
  | 69 => ⟨S8x1x64x64, .f32⟩
  | 70 => ⟨S8x64x64, .f32⟩
  | 71 => ⟨S8x1x64x64, .f32⟩
  | 72 => ⟨S8x64x64, .f32⟩
  | 73 => ⟨S8x1x64x64, .f32⟩
  | 74 => ⟨S8x64x64, .f32⟩
  | 75 => ⟨S8x1x64x64, .f32⟩
  | 76 => ⟨S8x64x64, .f32⟩
  | 77 => ⟨S8x1x64x64, .f32⟩
  | 78 => ⟨S8x64x64, .f32⟩
  | 79 => ⟨S8x1x64x64, .f32⟩
  | 80 => ⟨S8x64x64, .f32⟩
  | 81 => ⟨S8x1x64x64, .f32⟩
  | 82 => ⟨S8x64x64, .f32⟩
  | 83 => ⟨S8x1x64x64, .f32⟩
  | 84 => ⟨S8x64x64, .f32⟩
  | 85 => ⟨S8x1x64x64, .f32⟩
  | 86 => ⟨S8x64x64, .f32⟩
  | 87 => ⟨S8x1x64x64, .f32⟩
  | 88 => ⟨S8x64x64, .f32⟩
  | 89 => ⟨S8x1x64x64, .f32⟩
  | 90 => ⟨S8x64x64, .f32⟩
  | 91 => ⟨S8x1x64x64, .f32⟩
  | 92 => ⟨S8x64x64, .f32⟩
  | 93 => ⟨S8x1x64x64, .f32⟩
  | 94 => ⟨S8x64x64, .f32⟩
  | 95 => ⟨S8x1x64x64, .f32⟩
  | 96 => ⟨S8x64x64, .f32⟩
  | 97 => ⟨S8x1x64x64, .f32⟩
  | 98 => ⟨S8x64x64, .f32⟩
  | 99 => ⟨S8x64x1024, .f32⟩
  | 100 => ⟨S8x64x128, .f32⟩
  | 101 => ⟨S8x64x1152, .f32⟩
  | 102 => ⟨S8x128x1152, .f32⟩
  | 103 => ⟨S128, .i32⟩
  | 104 => ⟨S_, .i32⟩
  | 105 => ⟨S128, .i32⟩
  | 106 => ⟨S128, .i32⟩
  | 107 => ⟨S1152, .i32⟩
  | 108 => ⟨S_, .i32⟩
  | 109 => ⟨S1152, .i32⟩
  | 110 => ⟨S1152, .i32⟩
  | 111 => ⟨S_, .i32⟩
  | 112 => ⟨S128, .i32⟩
  | 113 => ⟨S128, .i32⟩
  | 114 => ⟨S_, .i32⟩
  | 115 => ⟨S_, .i32⟩
  | 116 => ⟨S_, .i32⟩
  | 117 => ⟨S128, .i32⟩
  | 118 => ⟨S128, .i32⟩
  | 119 => ⟨S_, .i32⟩
  | 120 => ⟨S128, .i32⟩
  | 121 => ⟨S128, .i32⟩
  | 122 => ⟨S1x1152, .i32⟩
  | 123 => ⟨S128x1, .i32⟩
  | 124 => ⟨S128x1152, .i32⟩
  | 125 => ⟨S128x1152, .i32⟩
  | 126 => ⟨S128x1152, .i1⟩
  | 127 => ⟨S1x1152, .i32⟩
  | _ => ⟨S16x4096x8x64, .f32⟩

abbrev hbmTy0_2 (i : Nat) : BufTy := match i % 128 with
  | 0 => ⟨S128x1, .i32⟩
  | 1 => ⟨S_, .i32⟩
  | 2 => ⟨S128x1, .i32⟩
  | 3 => ⟨S128x1, .i32⟩
  | 4 => ⟨S128x1152, .i32⟩
  | 5 => ⟨S128x1152, .i32⟩
  | 6 => ⟨S128x1152, .i1⟩
  | 7 => ⟨S128x1152, .i1⟩
  | 8 => ⟨S1x128x1152, .i1⟩
  | 9 => ⟨S_, .f32⟩
  | 10 => ⟨S_, .f32⟩
  | 11 => ⟨S8x128x1152, .i1⟩
  | 12 => ⟨S8x128x1152, .f32⟩
  | 13 => ⟨S8x128x1152, .f32⟩
  | 14 => ⟨S65536x512, .bf16⟩
  | _ => ⟨S16x4096x8x64, .f32⟩

abbrev hbmTy (i : Nat) : BufTy := match i / 128 with
  | 0 => hbmTy0_0 i
  | 1 => hbmTy0_1 i
  | 2 => hbmTy0_2 i
  | _ => ⟨S16x4096x8x64, .f32⟩

abbrev bufTy : (tb : Table) → Fin (tcTables nBuf tb) → BufTy
  | .hbm, ⟨i, _⟩ => hbmTy i
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S128x512, .bf16⟩
  | .local _ .vmem, ⟨15, _⟩ => ⟨S128x512, .bf16⟩
  | .local _ .vmem, ⟨16, _⟩ => ⟨S128x512, .bf16⟩
  | .local _ .vmem, ⟨17, _⟩ => ⟨S128x512, .bf16⟩
  | .local _ .vmem, ⟨18, _⟩ => ⟨S128x512, .bf16⟩
  | .local _ .vmem, ⟨19, _⟩ => ⟨S128x512, .bf16⟩
  | .local _ .vmem, ⟨20, _⟩ => ⟨S128x512, .bf16⟩
  | .local _ .vmem, ⟨21, _⟩ => ⟨S128x512, .bf16⟩
  | .local _ .vmem, ⟨22, _⟩ => ⟨S128x512, .bf16⟩
  | .local _ .vmem, ⟨23, _⟩ => ⟨S128x512, .bf16⟩
  | .local _ .vmem, ⟨24, _⟩ => ⟨S8x128x1152, .f32⟩
  | .local _ .vmem, ⟨25, _⟩ => ⟨S128x512, .bf16⟩
  | .local _ .vmem, ⟨26, _⟩ => ⟨S128x512, .bf16⟩
  | .local _ .vmem, ⟨27, _⟩ => ⟨S512x640, .bf16⟩
  | .local _ .vmem, ⟨28, _⟩ => ⟨S640x512, .bf16⟩
  | _, _ => ⟨S16x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_cst_3 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_c_4 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_c_5 : Ref sig .tc := ⟨.hbm, 236, rfl⟩
abbrev main_v224 : Ref sig .tc := ⟨.hbm, 237, rfl⟩
abbrev main_v225 : Ref sig .tc := ⟨.hbm, 238, rfl⟩
abbrev main_c_6 : Ref sig .tc := ⟨.hbm, 239, rfl⟩
abbrev main_v226 : Ref sig .tc := ⟨.hbm, 240, rfl⟩
abbrev main_v227 : Ref sig .tc := ⟨.hbm, 241, rfl⟩
abbrev main_c_7 : Ref sig .tc := ⟨.hbm, 242, rfl⟩
abbrev main_c_8 : Ref sig .tc := ⟨.hbm, 243, rfl⟩
abbrev main_call1_v0 : Ref sig .tc := ⟨.hbm, 244, rfl⟩
abbrev main_call1_v1 : Ref sig .tc := ⟨.hbm, 245, rfl⟩
abbrev main_call1_v2 : Ref sig .tc := ⟨.hbm, 246, rfl⟩
abbrev main_call1_v3 : Ref sig .tc := ⟨.hbm, 247, rfl⟩
abbrev main_call1_v4 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_c_9 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_cst_10 : Ref sig .tc := ⟨.hbm, 265, rfl⟩
abbrev main_call2_v0 : Ref sig .tc := ⟨.hbm, 266, rfl⟩
abbrev main_call2_v1 : Ref sig .tc := ⟨.hbm, 267, rfl⟩
abbrev main_call2_v2 : Ref sig .tc := ⟨.hbm, 268, rfl⟩
abbrev main_v243 : Ref sig .tc := ⟨.hbm, 269, rfl⟩
abbrev main_v244 : Ref sig .tc := ⟨.hbm, 270, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![16, 32], ![false, false]⟩

def k0_mult1 (i : grid0.Coords) : BitVec 32 :=
  let c27_i32 : BitVec 32 := 27#32
  let c0_i32 : BitVec 32 := 0#32
  let arg1 : BitVec 32 := BitVec.ofNat 32 (i 1).val
  let c2_i32 : BitVec 32 := 2#32
  let v0 : BitVec 32 := Scalar.subi arg1 c2_i32
  let v1 : BitVec 32 := Scalar.maxsi c0_i32 v0
  let v2 : BitVec 32 := Scalar.minsi c27_i32 v1
  let v82 : BitVec 32 := Scalar.subi v2 arg1
  let c4_i32_40 : BitVec 32 := 4#32
  let v83 : BitVec 32 := Scalar.addi v82 c4_i32_40
  let c128_i32 : BitVec 32 := 128#32
  let v84 : BitVec 32 := Scalar.muli v83 c128_i32
  v84
def k0_off1 (i : grid0.Coords) : Fin 3 → Nat :=
  let c0_46 : Index := 0#32
  let c0_47 : Index := 0#32
  let c27_i32 : BitVec 32 := 27#32
  let c0_i32 : BitVec 32 := 0#32
  let arg1 : BitVec 32 := BitVec.ofNat 32 (i 1).val
  let c2_i32 : BitVec 32 := 2#32
  let v0 : BitVec 32 := Scalar.subi arg1 c2_i32
  let v1 : BitVec 32 := Scalar.maxsi c0_i32 v0
  let v2 : BitVec 32 := Scalar.minsi c27_i32 v1
  let v82 : BitVec 32 := Scalar.subi v2 arg1
  let c4_i32_40 : BitVec 32 := 4#32
  let v83 : BitVec 32 := Scalar.addi v82 c4_i32_40
  let c128_i32 : BitVec 32 := 128#32
  let v84 : BitVec 32 := Scalar.muli v83 c128_i32
  let v85 : BitVec 32 := v84
  let v90 : Index := Scalar.indexCast v85
  ![0, 0, v90.toNat]
def k0_off2 (i : grid0.Coords) : Fin 3 → Nat :=
  let c1 : Index := 1#32
  let c0_53 : Index := 0#32
  let c27_i32 : BitVec 32 := 27#32
  let c0_i32 : BitVec 32 := 0#32
  let arg1 : BitVec 32 := BitVec.ofNat 32 (i 1).val
  let c2_i32 : BitVec 32 := 2#32
  let v0 : BitVec 32 := Scalar.subi arg1 c2_i32
  let v1 : BitVec 32 := Scalar.maxsi c0_i32 v0
  let v2 : BitVec 32 := Scalar.minsi c27_i32 v1
  let v82 : BitVec 32 := Scalar.subi v2 arg1
  let c4_i32_40 : BitVec 32 := 4#32
  let v83 : BitVec 32 := Scalar.addi v82 c4_i32_40
  let c128_i32 : BitVec 32 := 128#32
  let v84 : BitVec 32 := Scalar.muli v83 c128_i32
  let v85 : BitVec 32 := v84
  let v99 : Index := Scalar.indexCast v85
  ![1, 0, v99.toNat]
def k0_off3 (i : grid0.Coords) : Fin 3 → Nat :=
  let c2 : Index := 2#32
  let c0_59 : Index := 0#32
  let c27_i32 : BitVec 32 := 27#32
  let c0_i32 : BitVec 32 := 0#32
  let arg1 : BitVec 32 := BitVec.ofNat 32 (i 1).val
  let c2_i32 : BitVec 32 := 2#32
  let v0 : BitVec 32 := Scalar.subi arg1 c2_i32
  let v1 : BitVec 32 := Scalar.maxsi c0_i32 v0
  let v2 : BitVec 32 := Scalar.minsi c27_i32 v1
  let v82 : BitVec 32 := Scalar.subi v2 arg1
  let c4_i32_40 : BitVec 32 := 4#32
  let v83 : BitVec 32 := Scalar.addi v82 c4_i32_40
  let c128_i32 : BitVec 32 := 128#32
  let v84 : BitVec 32 := Scalar.muli v83 c128_i32
  let v85 : BitVec 32 := v84
  let v108 : Index := Scalar.indexCast v85
  ![2, 0, v108.toNat]
def k0_off4 (i : grid0.Coords) : Fin 3 → Nat :=
  let c3 : Index := 3#32
  let c0_71 : Index := 0#32
  let c27_i32 : BitVec 32 := 27#32
  let c0_i32 : BitVec 32 := 0#32
  let arg1 : BitVec 32 := BitVec.ofNat 32 (i 1).val
  let c2_i32 : BitVec 32 := 2#32
  let v0 : BitVec 32 := Scalar.subi arg1 c2_i32
  let v1 : BitVec 32 := Scalar.maxsi c0_i32 v0
  let v2 : BitVec 32 := Scalar.minsi c27_i32 v1
  let v82 : BitVec 32 := Scalar.subi v2 arg1
  let c4_i32_40 : BitVec 32 := 4#32
  let v83 : BitVec 32 := Scalar.addi v82 c4_i32_40
  let c128_i32 : BitVec 32 := 128#32
  let v84 : BitVec 32 := Scalar.muli v83 c128_i32
  let v85 : BitVec 32 := v84
  let v131 : Index := Scalar.indexCast v85
  ![3, 0, v131.toNat]
def k0_off5 (i : grid0.Coords) : Fin 3 → Nat :=
  let c4 : Index := 4#32
  let c0_86 : Index := 0#32
  let c27_i32 : BitVec 32 := 27#32
  let c0_i32 : BitVec 32 := 0#32
  let arg1 : BitVec 32 := BitVec.ofNat 32 (i 1).val
  let c2_i32 : BitVec 32 := 2#32
  let v0 : BitVec 32 := Scalar.subi arg1 c2_i32
  let v1 : BitVec 32 := Scalar.maxsi c0_i32 v0
  let v2 : BitVec 32 := Scalar.minsi c27_i32 v1
  let v82 : BitVec 32 := Scalar.subi v2 arg1
  let c4_i32_40 : BitVec 32 := 4#32
  let v83 : BitVec 32 := Scalar.addi v82 c4_i32_40
  let c128_i32 : BitVec 32 := 128#32
  let v84 : BitVec 32 := Scalar.muli v83 c128_i32
  let v85 : BitVec 32 := v84
  let v160 : Index := Scalar.indexCast v85
  ![4, 0, v160.toNat]
def k0_off6 (i : grid0.Coords) : Fin 3 → Nat :=
  let c5 : Index := 5#32
  let c0_98 : Index := 0#32
  let c27_i32 : BitVec 32 := 27#32
  let c0_i32 : BitVec 32 := 0#32
  let arg1 : BitVec 32 := BitVec.ofNat 32 (i 1).val
  let c2_i32 : BitVec 32 := 2#32
  let v0 : BitVec 32 := Scalar.subi arg1 c2_i32
  let v1 : BitVec 32 := Scalar.maxsi c0_i32 v0
  let v2 : BitVec 32 := Scalar.minsi c27_i32 v1
  let v82 : BitVec 32 := Scalar.subi v2 arg1
  let c4_i32_40 : BitVec 32 := 4#32
  let v83 : BitVec 32 := Scalar.addi v82 c4_i32_40
  let c128_i32 : BitVec 32 := 128#32
  let v84 : BitVec 32 := Scalar.muli v83 c128_i32
  let v85 : BitVec 32 := v84
  let v183 : Index := Scalar.indexCast v85
  ![5, 0, v183.toNat]
def k0_off7 (i : grid0.Coords) : Fin 3 → Nat :=
  let c6 : Index := 6#32
  let c0_113 : Index := 0#32
  let c27_i32 : BitVec 32 := 27#32
  let c0_i32 : BitVec 32 := 0#32
  let arg1 : BitVec 32 := BitVec.ofNat 32 (i 1).val
  let c2_i32 : BitVec 32 := 2#32
  let v0 : BitVec 32 := Scalar.subi arg1 c2_i32
  let v1 : BitVec 32 := Scalar.maxsi c0_i32 v0
  let v2 : BitVec 32 := Scalar.minsi c27_i32 v1
  let v82 : BitVec 32 := Scalar.subi v2 arg1
  let c4_i32_40 : BitVec 32 := 4#32
  let v83 : BitVec 32 := Scalar.addi v82 c4_i32_40
  let c128_i32 : BitVec 32 := 128#32
  let v84 : BitVec 32 := Scalar.muli v83 c128_i32
  let v85 : BitVec 32 := v84
  let v212 : Index := Scalar.indexCast v85
  ![6, 0, v212.toNat]
def k0_off8 (i : grid0.Coords) : Fin 3 → Nat :=
  let c7 : Index := 7#32
  let c0_125 : Index := 0#32
  let c27_i32 : BitVec 32 := 27#32
  let c0_i32 : BitVec 32 := 0#32
  let arg1 : BitVec 32 := BitVec.ofNat 32 (i 1).val
  let c2_i32 : BitVec 32 := 2#32
  let v0 : BitVec 32 := Scalar.subi arg1 c2_i32
  let v1 : BitVec 32 := Scalar.maxsi c0_i32 v0
  let v2 : BitVec 32 := Scalar.minsi c27_i32 v1
  let v82 : BitVec 32 := Scalar.subi v2 arg1
  let c4_i32_40 : BitVec 32 := 4#32
  let v83 : BitVec 32 := Scalar.addi v82 c4_i32_40
  let c128_i32 : BitVec 32 := 128#32
  let v84 : BitVec 32 := Scalar.muli v83 c128_i32
  let v85 : BitVec 32 := v84
  let v235 : Index := Scalar.indexCast v85
  ![7, 0, v235.toNat]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.subi arg1 c2_i32
  let c0_i32 : BitVec 32 := 0#32
  let c27_i32 : BitVec 32 := 27#32
  let v2 : BitVec 32 := Scalar.maxsi c0_i32 v1
  let v3 : BitVec 32 := Scalar.minsi c27_i32 v2
  let v4 : BitVec 32 := Scalar.addi v0 v3
  let c0_i32_0 : BitVec 32 := 0#32
  let v5 : BitVec 32 := Scalar.addi v4 c0_i32_0
  let c0_i32_1 : BitVec 32 := 0#32
  let c0_i32_2 : BitVec 32 := 0#32
  ![c0_i32_1.toNat, v5.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.subi arg1 c2_i32
  let c0_i32 : BitVec 32 := 0#32
  let c27_i32 : BitVec 32 := 27#32
  let v2 : BitVec 32 := Scalar.maxsi c0_i32 v1
  let v3 : BitVec 32 := Scalar.minsi c27_i32 v2
  let v4 : BitVec 32 := Scalar.addi v0 v3
  let c1_i32 : BitVec 32 := 1#32
  let v5 : BitVec 32 := Scalar.addi v4 c1_i32
  let c0_i32_0 : BitVec 32 := 0#32
  let c0_i32_1 : BitVec 32 := 0#32
  ![c0_i32_0.toNat, v5.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.subi arg1 c2_i32
  let c0_i32 : BitVec 32 := 0#32
  let c27_i32 : BitVec 32 := 27#32
  let v2 : BitVec 32 := Scalar.maxsi c0_i32 v1
  let v3 : BitVec 32 := Scalar.minsi c27_i32 v2
  let v4 : BitVec 32 := Scalar.addi v0 v3
  let c2_i32_0 : BitVec 32 := 2#32
  let v5 : BitVec 32 := Scalar.addi v4 c2_i32_0
  let c0_i32_1 : BitVec 32 := 0#32
  let c0_i32_2 : BitVec 32 := 0#32
  ![c0_i32_1.toNat, v5.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.subi arg1 c2_i32
  let c0_i32 : BitVec 32 := 0#32
  let c27_i32 : BitVec 32 := 27#32
  let v2 : BitVec 32 := Scalar.maxsi c0_i32 v1
  let v3 : BitVec 32 := Scalar.minsi c27_i32 v2
  let v4 : BitVec 32 := Scalar.addi v0 v3
  let c3_i32 : BitVec 32 := 3#32
  let v5 : BitVec 32 := Scalar.addi v4 c3_i32
  let c0_i32_0 : BitVec 32 := 0#32
  let c0_i32_1 : BitVec 32 := 0#32
  ![c0_i32_0.toNat, v5.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.subi arg1 c2_i32
  let c0_i32 : BitVec 32 := 0#32
  let c27_i32 : BitVec 32 := 27#32
  let v2 : BitVec 32 := Scalar.maxsi c0_i32 v1
  let v3 : BitVec 32 := Scalar.minsi c27_i32 v2
  let v4 : BitVec 32 := Scalar.addi v0 v3
  let c4_i32 : BitVec 32 := 4#32
  let v5 : BitVec 32 := Scalar.addi v4 c4_i32
  let c0_i32_0 : BitVec 32 := 0#32
  let c0_i32_1 : BitVec 32 := 0#32
  ![c0_i32_0.toNat, v5.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.subi arg1 c2_i32
  let c0_i32 : BitVec 32 := 0#32
  let c27_i32 : BitVec 32 := 27#32
  let v2 : BitVec 32 := Scalar.maxsi c0_i32 v1
  let v3 : BitVec 32 := Scalar.minsi c27_i32 v2
  let v4 : BitVec 32 := Scalar.addi v0 v3
  let c0_i32_0 : BitVec 32 := 0#32
  let v5 : BitVec 32 := Scalar.addi v4 c0_i32_0
  let c0_i32_1 : BitVec 32 := 0#32
  let c0_i32_2 : BitVec 32 := 0#32
  ![v5.toNat, c0_i32_1.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.subi arg1 c2_i32
  let c0_i32 : BitVec 32 := 0#32
  let c27_i32 : BitVec 32 := 27#32
  let v2 : BitVec 32 := Scalar.maxsi c0_i32 v1
  let v3 : BitVec 32 := Scalar.minsi c27_i32 v2
  let v4 : BitVec 32 := Scalar.addi v0 v3
  let c1_i32 : BitVec 32 := 1#32
  let v5 : BitVec 32 := Scalar.addi v4 c1_i32
  let c0_i32_0 : BitVec 32 := 0#32
  let c0_i32_1 : BitVec 32 := 0#32
  ![v5.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.subi arg1 c2_i32
  let c0_i32 : BitVec 32 := 0#32
  let c27_i32 : BitVec 32 := 27#32
  let v2 : BitVec 32 := Scalar.maxsi c0_i32 v1
  let v3 : BitVec 32 := Scalar.minsi c27_i32 v2
  let v4 : BitVec 32 := Scalar.addi v0 v3
  let c2_i32_0 : BitVec 32 := 2#32
  let v5 : BitVec 32 := Scalar.addi v4 c2_i32_0
  let c0_i32_1 : BitVec 32 := 0#32
  let c0_i32_2 : BitVec 32 := 0#32
  ![v5.toNat, c0_i32_1.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.subi arg1 c2_i32
  let c0_i32 : BitVec 32 := 0#32
  let c27_i32 : BitVec 32 := 27#32
  let v2 : BitVec 32 := Scalar.maxsi c0_i32 v1
  let v3 : BitVec 32 := Scalar.minsi c27_i32 v2
  let v4 : BitVec 32 := Scalar.addi v0 v3
  let c3_i32 : BitVec 32 := 3#32
  let v5 : BitVec 32 := Scalar.addi v4 c3_i32
  let c0_i32_0 : BitVec 32 := 0#32
  let c0_i32_1 : BitVec 32 := 0#32
  ![v5.toNat, c0_i32_0.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.subi arg1 c2_i32
  let c0_i32 : BitVec 32 := 0#32
  let c27_i32 : BitVec 32 := 27#32
  let v2 : BitVec 32 := Scalar.maxsi c0_i32 v1
  let v3 : BitVec 32 := Scalar.minsi c27_i32 v2
  let v4 : BitVec 32 := Scalar.addi v0 v3
  let c4_i32 : BitVec 32 := 4#32
  let v5 : BitVec 32 := Scalar.addi v4 c4_i32
  let c0_i32_0 : BitVec 32 := 0#32
  let c0_i32_1 : BitVec 32 := 0#32
  ![v5.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x128x1152 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x4096x8x64 : Shape := ⟨4, ![16, 4096, 8, 64]⟩
abbrev S8x15x31 : Shape := ⟨3, ![8, 15, 31]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S64x64x1 : Shape := ⟨3, ![64, 64, 1]⟩
abbrev S8x64x64x31 : Shape := ⟨4, ![8, 64, 64, 31]⟩
abbrev S8x64x64x64x64 : Shape := ⟨5, ![8, 64, 64, 64, 64]⟩
abbrev S8x4096x4096 : Shape := ⟨3, ![8, 4096, 4096]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S4096x4096 : Shape := ⟨2, ![4096, 4096]⟩
abbrev S16x8x4096x4096 : Shape := ⟨4, ![16, 8, 4096, 4096]⟩
abbrev S1x8x4096x4096 : Shape := ⟨4, ![1, 8, 4096, 4096]⟩
abbrev S16x8x4096 : Shape := ⟨3, ![16, 8, 4096]⟩
abbrev S16x8x4096x1 : Shape := ⟨4, ![16, 8, 4096, 1]⟩
abbrev S16x8x64x4096 : Shape := ⟨4, ![16, 8, 64, 4096]⟩
abbrev S65536x512 : Shape := ⟨2, ![65536, 512]⟩

abbrev nBuf : Space → Nat
  | .hbm => 144
  | .vmem => 0
  | .smem => 0
  | _ => 0

abbrev hbmTy0_0 (i : Nat) : BufTy := match i % 128 with
  | 0 => ⟨S16x4096x8x64, .f32⟩
  | 1 => ⟨S16x4096x8x64, .f32⟩
  | 2 => ⟨S16x4096x8x64, .f32⟩
  | 3 => ⟨S8x15x31, .f32⟩
  | 4 => ⟨S64, .i32⟩
  | 5 => ⟨S64x1, .i32⟩
  | 6 => ⟨S64, .i32⟩
  | 7 => ⟨S1x64, .i32⟩
  | 8 => ⟨S64, .i32⟩
  | 9 => ⟨S64x1, .i32⟩
  | 10 => ⟨S64, .i32⟩
  | 11 => ⟨S1x64, .i32⟩
  | 12 => ⟨S_, .i32⟩
  | 13 => ⟨S64x1, .i32⟩
  | 14 => ⟨S64x1, .i32⟩
  | 15 => ⟨S_, .i32⟩
  | 16 => ⟨S_, .i32⟩
  | 17 => ⟨S_, .i32⟩
  | 18 => ⟨S64x1, .i32⟩
  | 19 => ⟨S64x1, .i32⟩
  | 20 => ⟨S_, .i32⟩
  | 21 => ⟨S64x1, .i32⟩
  | 22 => ⟨S64x1, .i32⟩
  | 23 => ⟨S_, .i32⟩
  | 24 => ⟨S64x1, .i32⟩
  | 25 => ⟨S64x1, .i32⟩
  | 26 => ⟨S_, .i32⟩
  | 27 => ⟨S_, .i32⟩
  | 28 => ⟨S_, .i32⟩
  | 29 => ⟨S64x1, .i32⟩
  | 30 => ⟨S64x1, .i32⟩
  | 31 => ⟨S_, .i32⟩
  | 32 => ⟨S64x1, .i32⟩
  | 33 => ⟨S64x1, .i32⟩
  | 34 => ⟨S64x64, .i32⟩
  | 35 => ⟨S64x64, .i32⟩
  | 36 => ⟨S64x64, .i1⟩
  | 37 => ⟨S_, .i32⟩
  | 38 => ⟨S64x1, .i32⟩
  | 39 => ⟨S64x1, .i32⟩
  | 40 => ⟨S64x64, .i32⟩
  | 41 => ⟨S64x64, .i32⟩
  | 42 => ⟨S64x64, .i1⟩
  | 43 => ⟨S64x64, .i1⟩
  | 44 => ⟨S64x64, .i32⟩
  | 45 => ⟨S64x64, .i32⟩
  | 46 => ⟨S64x64, .i1⟩
  | 47 => ⟨S_, .i32⟩
  | 48 => ⟨S64x1, .i32⟩
  | 49 => ⟨S64x1, .i32⟩
  | 50 => ⟨S64x64, .i32⟩
  | 51 => ⟨S64x64, .i32⟩
  | 52 => ⟨S64x64, .i1⟩
  | 53 => ⟨S64x64, .i1⟩
  | 54 => ⟨S64x64, .i32⟩
  | 55 => ⟨S64x64, .i32⟩
  | 56 => ⟨S64x64, .i32⟩
  | 57 => ⟨S_, .i32⟩
  | 58 => ⟨S_, .i32⟩
  | 59 => ⟨S_, .i32⟩
  | 60 => ⟨S64x64, .i32⟩
  | 61 => ⟨S64x64, .i32⟩
  | 62 => ⟨S_, .i32⟩
  | 63 => ⟨S64x64, .i32⟩
  | 64 => ⟨S64x64, .i32⟩
  | 65 => ⟨S_, .i32⟩
  | 66 => ⟨S64x64, .i32⟩
  | 67 => ⟨S64x64, .i32⟩
  | 68 => ⟨S_, .i32⟩
  | 69 => ⟨S64x64, .i32⟩
  | 70 => ⟨S64x64, .i32⟩
  | 71 => ⟨S64x64, .i32⟩
  | 72 => ⟨S64x64, .i32⟩
  | 73 => ⟨S64x64, .i32⟩
  | 74 => ⟨S_, .i32⟩
  | 75 => ⟨S_, .i32⟩
  | 76 => ⟨S_, .i32⟩
  | 77 => ⟨S64x64, .i32⟩
  | 78 => ⟨S64x64, .i32⟩
  | 79 => ⟨S_, .i32⟩
  | 80 => ⟨S64x64, .i32⟩
  | 81 => ⟨S64x64, .i32⟩
  | 82 => ⟨S_, .i32⟩
  | 83 => ⟨S64x64, .i32⟩
  | 84 => ⟨S64x64, .i32⟩
  | 85 => ⟨S_, .i32⟩
  | 86 => ⟨S64x64, .i32⟩
  | 87 => ⟨S64x64, .i32⟩
  | 88 => ⟨S_, .i32⟩
  | 89 => ⟨S64x64, .i32⟩
  | 90 => ⟨S64x64, .i1⟩
  | 91 => ⟨S_, .i32⟩
  | 92 => ⟨S64x64, .i32⟩
  | 93 => ⟨S64x64, .i32⟩
  | 94 => ⟨S64x64, .i32⟩
  | 95 => ⟨S64x64x1, .i32⟩
  | 96 => ⟨S8x64x64x31, .f32⟩
  | 97 => ⟨S_, .i32⟩
  | 98 => ⟨S64x64, .i32⟩
  | 99 => ⟨S64x64, .i1⟩
  | 100 => ⟨S_, .i32⟩
  | 101 => ⟨S64x64, .i32⟩
  | 102 => ⟨S64x64, .i32⟩
  | 103 => ⟨S64x64, .i32⟩
  | 104 => ⟨S64x64x1, .i32⟩
  | 105 => ⟨S8x64x64x64x64, .f32⟩
  | 106 => ⟨S8x64x64x64x64, .f32⟩
  | 107 => ⟨S8x4096x4096, .f32⟩
  | 108 => ⟨S64x1x64x1, .i1⟩
  | 109 => ⟨S1x64x1x64, .i1⟩
  | 110 => ⟨S64x64x64x64, .i1⟩
  | 111 => ⟨S64x64x64x64, .i1⟩
  | 112 => ⟨S64x64x64x64, .i1⟩
  | 113 => ⟨S4096x4096, .i1⟩
  | 114 => ⟨S16x8x4096x4096, .f32⟩
  | 115 => ⟨S_, .f32⟩
  | 116 => ⟨S16x8x4096x4096, .f32⟩
  | 117 => ⟨S16x8x4096x4096, .f32⟩
  | 118 => ⟨S1x8x4096x4096, .f32⟩
  | 119 => ⟨S16x8x4096x4096, .f32⟩
  | 120 => ⟨S16x8x4096x4096, .f32⟩
  | 121 => ⟨S_, .f32⟩
  | 122 => ⟨S_, .f32⟩
  | 123 => ⟨S16x8x4096x4096, .i1⟩
  | 124 => ⟨S16x8x4096x4096, .f32⟩
  | 125 => ⟨S16x8x4096x4096, .f32⟩
  | 126 => ⟨S_, .f32⟩
  | 127 => ⟨S16x8x4096, .f32⟩
  | _ => ⟨S16x4096x8x64, .f32⟩

abbrev hbmTy0_1 (i : Nat) : BufTy := match i % 128 with
  | 0 => ⟨S_, .f32⟩
  | 1 => ⟨S16x8x4096, .f32⟩
  | 2 => ⟨S16x8x4096, .f32⟩
  | 3 => ⟨S16x8x4096x1, .f32⟩
  | 4 => ⟨S16x8x4096x4096, .f32⟩
  | 5 => ⟨S16x8x4096x4096, .f32⟩
  | 6 => ⟨S16x8x4096x4096, .f32⟩
  | 7 => ⟨S_, .f32⟩
  | 8 => ⟨S16x8x4096, .f32⟩
  | 9 => ⟨S16x8x4096x1, .f32⟩
  | 10 => ⟨S16x8x4096x4096, .f32⟩
  | 11 => ⟨S16x8x4096x4096, .f32⟩
  | 12 => ⟨S16x8x64x4096, .f32⟩
  | 13 => ⟨S16x4096x8x64, .f32⟩
  | 14 => ⟨S65536x512, .f32⟩
  | 15 => ⟨S65536x512, .bf16⟩
  | _ => ⟨S16x4096x8x64, .f32⟩

abbrev hbmTy (i : Nat) : BufTy := match i / 128 with
  | 0 => hbmTy0_0 i
  | 1 => hbmTy0_1 i
  | _ => ⟨S16x4096x8x64, .f32⟩

abbrev bufTy : (tb : Table) → Fin (tcTables nBuf tb) → BufTy
  | .hbm, ⟨i, _⟩ => hbmTy i
  | _, _ => ⟨S16x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_c_4 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_c_8 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v35 : Ref sig .tc := ⟨.hbm, 64, rfl⟩
abbrev main_c_9 : Ref sig .tc := ⟨.hbm, 65, rfl⟩
abbrev main_v36 : Ref sig .tc := ⟨.hbm, 66, rfl⟩
abbrev main_v37 : Ref sig .tc := ⟨.hbm, 67, rfl⟩
abbrev main_c_10 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_11 : Ref sig .tc := ⟨.hbm, 74, rfl⟩
abbrev main_c_12 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_v43 : Ref sig .tc := ⟨.hbm, 81, rfl⟩
abbrev main_c_13 : Ref sig .tc := ⟨.hbm, 82, rfl⟩
abbrev main_v44 : Ref sig .tc := ⟨.hbm, 83, rfl⟩
abbrev main_v45 : Ref sig .tc := ⟨.hbm, 84, rfl⟩
abbrev main_c_14 : Ref sig .tc := ⟨.hbm, 85, rfl⟩
abbrev main_v46 : Ref sig .tc := ⟨.hbm, 86, rfl⟩
abbrev main_v47 : Ref sig .tc := ⟨.hbm, 87, rfl⟩
abbrev main_c_15 : Ref sig .tc := ⟨.hbm, 88, rfl⟩
abbrev main_v48 : Ref sig .tc := ⟨.hbm, 89, rfl⟩
abbrev main_v49 : Ref sig .tc := ⟨.hbm, 90, rfl⟩
abbrev main_c_16 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_c_17 : Ref sig .tc := ⟨.hbm, 97, rfl⟩
abbrev main_v55 : Ref sig .tc := ⟨.hbm, 98, rfl⟩
abbrev main_v56 : Ref sig .tc := ⟨.hbm, 99, rfl⟩
abbrev main_c_18 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_19 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_v76 : Ref sig .tc := ⟨.hbm, 125, rfl⟩
abbrev main_cst_20 : Ref sig .tc := ⟨.hbm, 126, rfl⟩
abbrev main_v77 : Ref sig .tc := ⟨.hbm, 127, rfl⟩
abbrev main_cst_21 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_22 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩

abbrev nD : Nat := 1
abbrev τ : Topo := Topo.v7x

variable {F : FTy → Type} [FloatOps F]
-- ==== InProj.lean ====
abbrev S16x4096x1024 : Shape := ⟨3, ![16, 4096, 1024]⟩
abbrev S1024 : Shape := ⟨1, ![1024]⟩
abbrev S1x1024x2048 : Shape := ⟨3, ![1, 1024, 2048]⟩
abbrev S512 : Shape := ⟨1, ![512]⟩
abbrev S256 : Shape := ⟨1, ![256]⟩
abbrev S1024x2048 : Shape := ⟨2, ![1024, 2048]⟩
abbrev S1024x512 : Shape := ⟨2, ![1024, 512]⟩
abbrev S1024x256 : Shape := ⟨2, ![1024, 256]⟩
abbrev S65536x1024 : Shape := ⟨2, ![65536, 1024]⟩
abbrev S1x1024 : Shape := ⟨2, ![1, 1024]⟩
abbrev S1x512 : Shape := ⟨2, ![1, 512]⟩
abbrev S512x1024 : Shape := ⟨2, ![512, 1024]⟩
abbrev S1x256 : Shape := ⟨2, ![1, 256]⟩
abbrev S65536x512 : Shape := ⟨2, ![65536, 512]⟩
abbrev S512x65536 : Shape := ⟨2, ![512, 65536]⟩
abbrev S65536x256 : Shape := ⟨2, ![65536, 256]⟩
abbrev S512x512 : Shape := ⟨2, ![512, 512]⟩
abbrev S512x256 : Shape := ⟨2, ![512, 256]⟩
abbrev S512x1 : Shape := ⟨2, ![512, 1]⟩

abbrev nBuf : Space → Nat
  | .hbm => 45
  | .vmem => 27
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024, .f32⟩
  | .hbm, ⟨3, _⟩ => ⟨S1x1024x2048, .f32⟩
  | .hbm, ⟨4, _⟩ => ⟨S512, .f32⟩
  | .hbm, ⟨5, _⟩ => ⟨S512, .f32⟩
  | .hbm, ⟨6, _⟩ => ⟨S256, .f32⟩
  | .hbm, ⟨7, _⟩ => ⟨S256, .f32⟩
  | .hbm, ⟨8, _⟩ => ⟨S1024x2048, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x256, .f32⟩
  | .hbm, ⟨13, _⟩ => ⟨S1024x256, .f32⟩
  | .hbm, ⟨14, _⟩ => ⟨S65536x1024, .f32⟩
  | .hbm, ⟨15, _⟩ => ⟨S1x1024, .f32⟩
  | .hbm, ⟨16, _⟩ => ⟨S1x1024, .f32⟩
  | .hbm, ⟨17, _⟩ => ⟨S1x512, .f32⟩
  | .hbm, ⟨18, _⟩ => ⟨S1024x512, .f32⟩
  | .hbm, ⟨19, _⟩ => ⟨S1024x512, .f32⟩
  | .hbm, ⟨20, _⟩ => ⟨S1024x512, .bf16⟩
  | .hbm, ⟨21, _⟩ => ⟨S1x512, .f32⟩
  | .hbm, ⟨22, _⟩ => ⟨S1024x512, .f32⟩
  | .hbm, ⟨23, _⟩ => ⟨S1024x512, .f32⟩
  | .hbm, ⟨24, _⟩ => ⟨S1024x512, .bf16⟩
  | .hbm, ⟨25, _⟩ => ⟨S512x1024, .f32⟩
  | .hbm, ⟨26, _⟩ => ⟨S512x1024, .bf16⟩
  | .hbm, ⟨27, _⟩ => ⟨S1024x512, .bf16⟩
  | .hbm, ⟨28, _⟩ => ⟨S1024x256, .bf16⟩
  | .hbm, ⟨29, _⟩ => ⟨S1x256, .f32⟩
  | .hbm, ⟨30, _⟩ => ⟨S1024x256, .f32⟩
  | .hbm, ⟨31, _⟩ => ⟨S1024x256, .f32⟩
  | .hbm, ⟨32, _⟩ => ⟨S1024x256, .bf16⟩
  | .hbm, ⟨33, _⟩ => ⟨S1x256, .f32⟩
  | .hbm, ⟨34, _⟩ => ⟨S1024x256, .f32⟩
  | .hbm, ⟨35, _⟩ => ⟨S1024x256, .f32⟩
  | .hbm, ⟨36, _⟩ => ⟨S1024x256, .bf16⟩
  | .hbm, ⟨37, _⟩ => ⟨S65536x1024, .f32⟩
  | .hbm, ⟨38, _⟩ => ⟨S65536x512, .bf16⟩
  | .hbm, ⟨39, _⟩ => ⟨S65536x512, .bf16⟩
  | .hbm, ⟨40, _⟩ => ⟨S512x65536, .bf16⟩
  | .hbm, ⟨41, _⟩ => ⟨S65536x512, .bf16⟩
  | .hbm, ⟨42, _⟩ => ⟨S65536x256, .f32⟩
  | .hbm, ⟨43, _⟩ => ⟨S65536x256, .bf16⟩
  | .hbm, ⟨44, _⟩ => ⟨S65536x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S1024x512, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S512x1024, .f32⟩
  | .local _ .vmem, ⟨12, _⟩ => ⟨S512x1024, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x256, .f32⟩
  | .local _ .vmem, ⟨22, _⟩ => ⟨S512x256, .f32⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29_0 : Ref sig .tc := ⟨.hbm, 37, rfl⟩
abbrev main_v29_1 : Ref sig .tc := ⟨.hbm, 38, rfl⟩
abbrev main_v29_2 : Ref sig .tc := ⟨.hbm, 39, rfl⟩
abbrev main_v29_3 : Ref sig .tc := ⟨.hbm, 40, rfl⟩
abbrev main_v29_4 : Ref sig .tc := ⟨.hbm, 41, rfl⟩
abbrev main_v29_5 : Ref sig .tc := ⟨.hbm, 42, rfl⟩
abbrev main_v29_6 : Ref sig .tc := ⟨.hbm, 43, rfl⟩
abbrev main_v29_7 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InRefIdeal.lean ====
abbrev S16x4096x1024 : Shape := ⟨3, ![16, 4096, 1024]⟩
abbrev S1024 : Shape := ⟨1, ![1024]⟩
abbrev S1x1024x2048 : Shape := ⟨3, ![1, 1024, 2048]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x2048 : Shape := ⟨2, ![1024, 2048]⟩
abbrev S16x4096x2048 : Shape := ⟨3, ![16, 4096, 2048]⟩
abbrev S16x4096x512 : Shape := ⟨3, ![16, 4096, 512]⟩
abbrev S16x4096x256 : Shape := ⟨3, ![16, 4096, 256]⟩
abbrev S65536x512 : Shape := ⟨2, ![65536, 512]⟩
abbrev S65536x256 : Shape := ⟨2, ![65536, 256]⟩
abbrev S65536x1024 : Shape := ⟨2, ![65536, 1024]⟩
abbrev S512 : Shape := ⟨1, ![512]⟩
abbrev S512x65536 : Shape := ⟨2, ![512, 65536]⟩
abbrev S256 : Shape := ⟨1, ![256]⟩

abbrev nBuf : Space → Nat
  | .hbm => 119
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024, .f32⟩
  | .hbm, ⟨3, _⟩ => ⟨S1x1024x2048, .f32⟩
  | .hbm, ⟨4, _⟩ => ⟨S_, .f32⟩
  | .hbm, ⟨5, _⟩ => ⟨S16x4096, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S16x4096x1024, .f32⟩
  | .hbm, ⟨11, _⟩ => ⟨S16x4096x1024, .f32⟩
  | .hbm, ⟨12, _⟩ => ⟨S16x4096x1024, .f32⟩
  | .hbm, ⟨13, _⟩ => ⟨S_, .f32⟩
  | .hbm, ⟨14, _⟩ => ⟨S16x4096, .f32⟩
  | .hbm, ⟨15, _⟩ => ⟨S16x4096x1, .f32⟩
  | .hbm, ⟨16, _⟩ => ⟨S_, .f32⟩
  | .hbm, ⟨17, _⟩ => ⟨S16x4096x1, .f32⟩
  | .hbm, ⟨18, _⟩ => ⟨S16x4096x1, .f32⟩
  | .hbm, ⟨19, _⟩ => ⟨S16x4096x1024, .f32⟩
  | .hbm, ⟨20, _⟩ => ⟨S16x4096x1024, .f32⟩
  | .hbm, ⟨21, _⟩ => ⟨S_, .f32⟩
  | .hbm, ⟨22, _⟩ => ⟨S16x4096x1, .f32⟩
  | .hbm, ⟨23, _⟩ => ⟨S16x4096x1, .f32⟩
  | .hbm, ⟨24, _⟩ => ⟨S16x4096x1, .f32⟩
  | .hbm, ⟨25, _⟩ => ⟨S16x4096x1024, .f32⟩
  | .hbm, ⟨26, _⟩ => ⟨S16x4096x1024, .f32⟩
  | .hbm, ⟨27, _⟩ => ⟨S1x1x1024, .f32⟩
  | .hbm, ⟨28, _⟩ => ⟨S16x4096x1024, .f32⟩
  | .hbm, ⟨29, _⟩ => ⟨S16x4096x1024, .f32⟩
  | .hbm, ⟨30, _⟩ => ⟨S1x1x1024, .f32⟩
  | .hbm, ⟨31, _⟩ => ⟨S16x4096x1024, .f32⟩
  | .hbm, ⟨32, _⟩ => ⟨S16x4096x1024, .f32⟩
  | .hbm, ⟨33, _⟩ => ⟨S1024x2048, .f32⟩
  | .hbm, ⟨34, _⟩ => ⟨S16x4096x2048, .f32⟩
  | .hbm, ⟨35, _⟩ => ⟨S16x4096x512, .f32⟩
  | .hbm, ⟨36, _⟩ => ⟨S16x4096x512, .f32⟩
  | .hbm, ⟨37, _⟩ => ⟨S16x4096x512, .f32⟩
  | .hbm, ⟨38, _⟩ => ⟨S16x4096x256, .f32⟩
  | .hbm, ⟨39, _⟩ => ⟨S16x4096x256, .f32⟩
  | .hbm, ⟨40, _⟩ => ⟨S65536x512, .f32⟩
  | .hbm, ⟨41, _⟩ => ⟨S65536x512, .f32⟩
  | .hbm, ⟨42, _⟩ => ⟨S65536x512, .f32⟩
  | .hbm, ⟨43, _⟩ => ⟨S65536x256, .f32⟩
  | .hbm, ⟨44, _⟩ => ⟨S65536x256, .f32⟩
  | .hbm, ⟨45, _⟩ => ⟨S_, .f32⟩
  | .hbm, ⟨46, _⟩ => ⟨S65536x512, .f32⟩
  | .hbm, ⟨47, _⟩ => ⟨S65536x512, .f32⟩
  | .hbm, ⟨48, _⟩ => ⟨S_, .f32⟩
  | .hbm, ⟨49, _⟩ => ⟨S65536x256, .f32⟩
  | .hbm, ⟨50, _⟩ => ⟨S65536x256, .f32⟩
  | .hbm, ⟨51, _⟩ => ⟨S65536x1024, .f32⟩
  | .hbm, ⟨52, _⟩ => ⟨S512, .i32⟩
  | .hbm, ⟨53, _⟩ => ⟨S_, .i32⟩
  | .hbm, ⟨54, _⟩ => ⟨S512, .i32⟩
  | .hbm, ⟨55, _⟩ => ⟨S512, .i32⟩
  | .hbm, ⟨56, _⟩ => ⟨S_, .i32⟩
  | .hbm, ⟨57, _⟩ => ⟨S512, .i32⟩
  | .hbm, ⟨58, _⟩ => ⟨S512, .i32⟩
  | .hbm, ⟨59, _⟩ => ⟨S_, .i32⟩
  | .hbm, ⟨60, _⟩ => ⟨S512, .i32⟩
  | .hbm, ⟨61, _⟩ => ⟨S512, .i1⟩
  | .hbm, ⟨62, _⟩ => ⟨S_, .f32⟩
  | .hbm, ⟨63, _⟩ => ⟨S_, .f32⟩
  | .hbm, ⟨64, _⟩ => ⟨S65536x512, .i1⟩
  | .hbm, ⟨65, _⟩ => ⟨S65536x512, .f32⟩
  | .hbm, ⟨66, _⟩ => ⟨S65536x512, .f32⟩
  | .hbm, ⟨67, _⟩ => ⟨S65536x512, .bf16⟩
  | .hbm, ⟨68, _⟩ => ⟨S512, .i32⟩
  | .hbm, ⟨69, _⟩ => ⟨S_, .i32⟩
  | .hbm, ⟨70, _⟩ => ⟨S512, .i32⟩
  | .hbm, ⟨71, _⟩ => ⟨S512, .i32⟩
  | .hbm, ⟨72, _⟩ => ⟨S_, .i32⟩
  | .hbm, ⟨73, _⟩ => ⟨S512, .i32⟩
  | .hbm, ⟨74, _⟩ => ⟨S512, .i32⟩
  | .hbm, ⟨75, _⟩ => ⟨S_, .i32⟩
  | .hbm, ⟨76, _⟩ => ⟨S512, .i32⟩
  | .hbm, ⟨77, _⟩ => ⟨S512, .i1⟩
  | .hbm, ⟨78, _⟩ => ⟨S_, .f32⟩
  | .hbm, ⟨79, _⟩ => ⟨S_, .f32⟩
  | .hbm, ⟨80, _⟩ => ⟨S65536x512, .i1⟩
  | .hbm, ⟨81, _⟩ => ⟨S65536x512, .f32⟩
  | .hbm, ⟨82, _⟩ => ⟨S65536x512, .f32⟩
  | .hbm, ⟨83, _⟩ => ⟨S65536x512, .bf16⟩
  | .hbm, ⟨84, _⟩ => ⟨S512x65536, .f32⟩
  | .hbm, ⟨85, _⟩ => ⟨S512x65536, .bf16⟩
  | .hbm, ⟨86, _⟩ => ⟨S65536x512, .bf16⟩
  | .hbm, ⟨87, _⟩ => ⟨S256, .i32⟩
  | .hbm, ⟨88, _⟩ => ⟨S_, .i32⟩
  | .hbm, ⟨89, _⟩ => ⟨S256, .i32⟩
  | .hbm, ⟨90, _⟩ => ⟨S256, .i32⟩
  | .hbm, ⟨91, _⟩ => ⟨S_, .i32⟩
  | .hbm, ⟨92, _⟩ => ⟨S256, .i32⟩
  | .hbm, ⟨93, _⟩ => ⟨S256, .i32⟩
  | .hbm, ⟨94, _⟩ => ⟨S_, .i32⟩
  | .hbm, ⟨95, _⟩ => ⟨S256, .i32⟩
  | .hbm, ⟨96, _⟩ => ⟨S256, .i1⟩
  | .hbm, ⟨97, _⟩ => ⟨S_, .f32⟩
  | .hbm, ⟨98, _⟩ => ⟨S_, .f32⟩
  | .hbm, ⟨99, _⟩ => ⟨S65536x256, .i1⟩
  | .hbm, ⟨100, _⟩ => ⟨S65536x256, .f32⟩
  | .hbm, ⟨101, _⟩ => ⟨S65536x256, .f32⟩
  | .hbm, ⟨102, _⟩ => ⟨S65536x256, .bf16⟩
  | .hbm, ⟨103, _⟩ => ⟨S256, .i32⟩
  | .hbm, ⟨104, _⟩ => ⟨S_, .i32⟩
  | .hbm, ⟨105, _⟩ => ⟨S256, .i32⟩
  | .hbm, ⟨106, _⟩ => ⟨S256, .i32⟩
  | .hbm, ⟨107, _⟩ => ⟨S_, .i32⟩
  | .hbm, ⟨108, _⟩ => ⟨S256, .i32⟩
  | .hbm, ⟨109, _⟩ => ⟨S256, .i32⟩
  | .hbm, ⟨110, _⟩ => ⟨S_, .i32⟩
  | .hbm, ⟨111, _⟩ => ⟨S256, .i32⟩
  | .hbm, ⟨112, _⟩ => ⟨S256, .i1⟩
  | .hbm, ⟨113, _⟩ => ⟨S_, .f32⟩
  | .hbm, ⟨114, _⟩ => ⟨S_, .f32⟩
  | .hbm, ⟨115, _⟩ => ⟨S65536x256, .i1⟩
  | .hbm, ⟨116, _⟩ => ⟨S65536x256, .f32⟩
  | .hbm, ⟨117, _⟩ => ⟨S65536x256, .f32⟩
  | .hbm, ⟨118, _⟩ => ⟨S65536x256, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c : Ref sig .tc := ⟨.hbm, 53, rfl⟩
abbrev main_v42 : Ref sig .tc := ⟨.hbm, 54, rfl⟩
abbrev main_v43 : Ref sig .tc := ⟨.hbm, 55, rfl⟩
abbrev main_c_6 : Ref sig .tc := ⟨.hbm, 56, rfl⟩
abbrev main_v44 : Ref sig .tc := ⟨.hbm, 57, rfl⟩
abbrev main_v45 : Ref sig .tc := ⟨.hbm, 58, rfl⟩
abbrev main_c_7 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_9 : Ref sig .tc := ⟨.hbm, 69, rfl⟩
abbrev main_v51 : Ref sig .tc := ⟨.hbm, 70, rfl⟩
abbrev main_v52 : Ref sig .tc := ⟨.hbm, 71, rfl⟩
abbrev main_c_10 : Ref sig .tc := ⟨.hbm, 72, rfl⟩
abbrev main_v53 : Ref sig .tc := ⟨.hbm, 73, rfl⟩
abbrev main_v54 : Ref sig .tc := ⟨.hbm, 74, rfl⟩
abbrev main_c_11 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_cst_16 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_v73 : Ref sig .tc := ⟨.hbm, 106, rfl⟩
abbrev main_c_18 : Ref sig .tc := ⟨.hbm, 107, rfl⟩
abbrev main_v74 : Ref sig .tc := ⟨.hbm, 108, rfl⟩
abbrev main_v75 : Ref sig .tc := ⟨.hbm, 109, rfl⟩
abbrev main_c_19 : Ref sig .tc := ⟨.hbm, 110, rfl⟩
abbrev main_v76 : Ref sig .tc := ⟨.hbm, 111, rfl⟩
abbrev main_v77 : Ref sig .tc := ⟨.hbm, 112, rfl⟩
abbrev main_cst_20 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_v78 : Ref sig .tc := ⟨.hbm, 117, rfl⟩
abbrev main_v79 : Ref sig .tc := ⟨.hbm, 118, rfl⟩

abbrev nD : Nat := 1
abbrev τ : Topo := Topo.v7x

variable {F : FTy → Type} [FloatOps F]
-- ==== OutProj.lean ====
abbrev S16x4096x1024 : Shape := ⟨3, ![16, 4096, 1024]⟩
abbrev S16x4096x512 : Shape := ⟨3, ![16, 4096, 512]⟩
abbrev S16x4096x256 : Shape := ⟨3, ![16, 4096, 256]⟩
abbrev S1x1024x1024 : Shape := ⟨3, ![1, 1024, 1024]⟩
abbrev S1x1024 : Shape := ⟨2, ![1, 1024]⟩
abbrev S1024x1024 : Shape := ⟨2, ![1024, 1024]⟩
abbrev S65536x1024 : Shape := ⟨2, ![65536, 1024]⟩
abbrev S65536x512 : Shape := ⟨2, ![65536, 512]⟩
abbrev S65536x256 : Shape := ⟨2, ![65536, 256]⟩
abbrev S512x1024 : Shape := ⟨2, ![512, 1024]⟩
abbrev S256x1024 : Shape := ⟨2, ![256, 1024]⟩
abbrev S1024 : Shape := ⟨1, ![1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 24
  | .vmem => 15
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x256, .f32⟩
  | .hbm, ⟨3, _⟩ => ⟨S16x4096x256, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S1024x1024, .bf16⟩
  | .hbm, ⟨9, _⟩ => ⟨S65536x1024, .f32⟩
  | .hbm, ⟨10, _⟩ => ⟨S65536x512, .f32⟩
  | .hbm, ⟨11, _⟩ => ⟨S65536x512, .bf16⟩
  | .hbm, ⟨12, _⟩ => ⟨S65536x256, .f32⟩
  | .hbm, ⟨13, _⟩ => ⟨S65536x256, .bf16⟩
  | .hbm, ⟨14, _⟩ => ⟨S65536x256, .f32⟩
  | .hbm, ⟨15, _⟩ => ⟨S65536x256, .bf16⟩
  | .hbm, ⟨16, _⟩ => ⟨S512x1024, .bf16⟩
  | .hbm, ⟨17, _⟩ => ⟨S256x1024, .bf16⟩
  | .hbm, ⟨18, _⟩ => ⟨S256x1024, .bf16⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1024, .bf16⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutRefIdeal.lean ====
abbrev S16x4096x1024 : Shape := ⟨3, ![16, 4096, 1024]⟩
abbrev S16x4096x512 : Shape := ⟨3, ![16, 4096, 512]⟩
abbrev S16x4096x256 : Shape := ⟨3, ![16, 4096, 256]⟩
abbrev S1x1024x1024 : Shape := ⟨3, ![1, 1024, 1024]⟩
abbrev S1x1024 : Shape := ⟨2, ![1, 1024]⟩
abbrev S_ : Shape := ⟨0, ![]⟩
abbrev S1024x1024 : Shape := ⟨2, ![1024, 1024]⟩
abbrev S1024 : Shape := ⟨1, ![1024]⟩
abbrev S16x4096 : Shape := ⟨2, ![16, 4096]⟩
abbrev S16x4096x1 : Shape := ⟨3, ![16, 4096, 1]⟩
abbrev S1x1x1024 : Shape := ⟨3, ![1, 1, 1024]⟩
abbrev S65536x1024 : Shape := ⟨2, ![65536, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x256, .f32⟩
  | .hbm, ⟨3, _⟩ => ⟨S16x4096x256, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S16x4096x1024, .f32⟩
  | .hbm, ⟨8, _⟩ => ⟨S_, .f32⟩
  | .hbm, ⟨9, _⟩ => ⟨S16x4096x1024, .f32⟩
  | .hbm, ⟨10, _⟩ => ⟨S16x4096x1024, .f32⟩
  | .hbm, ⟨11, _⟩ => ⟨S1024x1024, .f32⟩
  | .hbm, ⟨12, _⟩ => ⟨S16x4096x1024, .f32⟩
  | .hbm, ⟨13, _⟩ => ⟨S16x4096x1024, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S16x4096, .f32⟩
  | .hbm, ⟨18, _⟩ => ⟨S16x4096x1, .f32⟩
  | .hbm, ⟨19, _⟩ => ⟨S_, .f32⟩
  | .hbm, ⟨20, _⟩ => ⟨S16x4096x1, .f32⟩
  | .hbm, ⟨21, _⟩ => ⟨S16x4096x1, .f32⟩
  | .hbm, ⟨22, _⟩ => ⟨S16x4096x1024, .f32⟩
  | .hbm, ⟨23, _⟩ => ⟨S16x4096x1024, .f32⟩
  | .hbm, ⟨24, _⟩ => ⟨S16x4096x1024, .f32⟩
  | .hbm, ⟨25, _⟩ => ⟨S_, .f32⟩
  | .hbm, ⟨26, _⟩ => ⟨S16x4096, .f32⟩
  | .hbm, ⟨27, _⟩ => ⟨S16x4096x1, .f32⟩
  | .hbm, ⟨28, _⟩ => ⟨S_, .f32⟩
  | .hbm, ⟨29, _⟩ => ⟨S16x4096x1, .f32⟩
  | .hbm, ⟨30, _⟩ => ⟨S16x4096x1, .f32⟩
  | .hbm, ⟨31, _⟩ => ⟨S16x4096x1024, .f32⟩
  | .hbm, ⟨32, _⟩ => ⟨S16x4096x1024, .f32⟩
  | .hbm, ⟨33, _⟩ => ⟨S_, .f32⟩
  | .hbm, ⟨34, _⟩ => ⟨S16x4096x1, .f32⟩
  | .hbm, ⟨35, _⟩ => ⟨S16x4096x1, .f32⟩
  | .hbm, ⟨36, _⟩ => ⟨S16x4096x1, .f32⟩
  | .hbm, ⟨37, _⟩ => ⟨S16x4096x1024, .f32⟩
  | .hbm, ⟨38, _⟩ => ⟨S16x4096x1024, .f32⟩
  | .hbm, ⟨39, _⟩ => ⟨S1x1x1024, .f32⟩
  | .hbm, ⟨40, _⟩ => ⟨S16x4096x1024, .f32⟩
  | .hbm, ⟨41, _⟩ => ⟨S16x4096x1024, .f32⟩
  | .hbm, ⟨42, _⟩ => ⟨S1x1x1024, .f32⟩
  | .hbm, ⟨43, _⟩ => ⟨S16x4096x1024, .f32⟩
  | .hbm, ⟨44, _⟩ => ⟨S16x4096x1024, .f32⟩
  | .hbm, ⟨45, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Route.lean ====
abbrev S16x4096x1024 : Shape := ⟨3, ![16, 4096, 1024]⟩
abbrev S1x1024x1024 : Shape := ⟨3, ![1, 1024, 1024]⟩
abbrev S1x2x128x64 : Shape := ⟨4, ![1, 2, 128, 64]⟩
abbrev S65536x1024 : Shape := ⟨2, ![65536, 1024]⟩
abbrev S1024x1024 : Shape := ⟨2, ![1024, 1024]⟩
abbrev S2x128x64 : Shape := ⟨3, ![2, 128, 64]⟩
abbrev S8x128x65536 : Shape := ⟨3, ![8, 128, 65536]⟩
abbrev S256x1024 : Shape := ⟨2, ![256, 1024]⟩
abbrev S8x128x256 : Shape := ⟨3, ![8, 128, 256]⟩
abbrev S16x128x256 : Shape := ⟨3, ![16, 128, 256]⟩
abbrev S2x16x8x256 : Shape := ⟨4, ![2, 16, 8, 256]⟩
abbrev S1024x256 : Shape := ⟨2, ![1024, 256]⟩
abbrev S1x128x64 : Shape := ⟨3, ![1, 128, 64]⟩
abbrev S128x64 : Shape := ⟨2, ![128, 64]⟩
abbrev S64x256 : Shape := ⟨2, ![64, 256]⟩
abbrev S128x256 : Shape := ⟨2, ![128, 256]⟩
abbrev S1x128x256 : Shape := ⟨3, ![1, 128, 256]⟩
abbrev S256 : Shape := ⟨1, ![256]⟩
abbrev S1x256 : Shape := ⟨2, ![1, 256]⟩
abbrev S1x1x1x256 : Shape := ⟨4, ![1, 1, 1, 256]⟩
abbrev S1x1x8x256 : Shape := ⟨4, ![1, 1, 8, 256]⟩
abbrev S8x256 : Shape := ⟨2, ![8, 256]⟩

abbrev nBuf : Space → Nat
  | .hbm => 13
  | .vmem => 14
  | .smem => 0
  | _ => 0

abbrev bufTy : (tb : Table) → Fin (tcTables nBuf tb) → BufTy
  | .hbm, ⟨0, _⟩ => ⟨S16x4096x1024, .f32⟩
  | .hbm, ⟨1, _⟩ => ⟨S1x1024x1024, .f32⟩
  | .hbm, ⟨2, _⟩ => ⟨S1x2x128x64, .f32⟩
  | .hbm, ⟨3, _⟩ => ⟨S65536x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S2x128x64, .f32⟩
  | .hbm, ⟨8, _⟩ => ⟨S2x128x64, .bf16⟩
  | .hbm, ⟨9, _⟩ => ⟨S8x128x65536, .f32⟩
  | .hbm, ⟨10, _⟩ => ⟨S8x128x65536, .f32⟩
  | .hbm, ⟨11, _⟩ => ⟨S8x128x65536, .f32⟩
  | .hbm, ⟨12, _⟩ => ⟨S8x128x65536, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S2x128x64, .bf16⟩
  | .local _ .vmem, ⟨4, _⟩ => ⟨S8x128x256, .f32⟩
  | .local _ .vmem, ⟨5, _⟩ => ⟨S8x128x256, .f32⟩
  | .local _ .vmem, ⟨6, _⟩ => ⟨S8x128x256, .f32⟩
  | .local _ .vmem, ⟨7, _⟩ => ⟨S8x128x256, .f32⟩
  | .local _ .vmem, ⟨8, _⟩ => ⟨S8x128x256, .f32⟩
  | .local _ .vmem, ⟨9, _⟩ => ⟨S8x128x256, .f32⟩
  | .local _ .vmem, ⟨10, _⟩ => ⟨S8x128x256, .f32⟩
  | .local _ .vmem, ⟨11, _⟩ => ⟨S8x128x256, .f32⟩
  | .local _ .vmem, ⟨12, _⟩ => ⟨S16x128x256, .f32⟩
  | .local _ .vmem, ⟨13, _⟩ => ⟨S2x16x8x256, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RouteRefIdeal.lean ====
abbrev S16x4096x1024 : Shape := ⟨3, ![16, 4096, 1024]⟩
abbrev S1x1024x1024 : Shape := ⟨3, ![1, 1024, 1024]⟩
abbrev S1x2x128x64 : Shape := ⟨4, ![1, 2, 128, 64]⟩
abbrev S1024x1024 : Shape := ⟨2, ![1024, 1024]⟩
abbrev S16x4096x8x2x64 : Shape := ⟨5, ![16, 4096, 8, 2, 64]⟩
abbrev S2x128x64 : Shape := ⟨3, ![2, 128, 64]⟩
abbrev S2x128x16x4096x8 : Shape := ⟨5, ![2, 128, 16, 4096, 8]⟩
abbrev S16x4096x8x2x128 : Shape := ⟨5, ![16, 4096, 8, 2, 128]⟩
abbrev S16x4096x8x1x128 : Shape := ⟨5, ![16, 4096, 8, 1, 128]⟩
abbrev S16x4096x8x128 : Shape := ⟨4, ![16, 4096, 8, 128]⟩
abbrev S_ : Shape := ⟨0, ![]⟩
abbrev S16x4096x8 : Shape := ⟨3, ![16, 4096, 8]⟩
abbrev S16x4096x8x1 : Shape := ⟨4, ![16, 4096, 8, 1]⟩
abbrev S65536x8x128 : Shape := ⟨3, ![65536, 8, 128]⟩
abbrev S8x128x65536 : Shape := ⟨3, ![8, 128, 65536]⟩

abbrev nBuf : Space → Nat
  | .hbm => 21
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1x1024x1024, .f32⟩
  | .hbm, ⟨2, _⟩ => ⟨S1x2x128x64, .f32⟩
  | .hbm, ⟨3, _⟩ => ⟨S1024x1024, .f32⟩
  | .hbm, ⟨4, _⟩ => ⟨S16x4096x1024, .f32⟩
  | .hbm, ⟨5, _⟩ => ⟨S16x4096x8x2x64, .f32⟩
  | .hbm, ⟨6, _⟩ => ⟨S2x128x64, .f32⟩
  | .hbm, ⟨7, _⟩ => ⟨S2x128x16x4096x8, .f32⟩
  | .hbm, ⟨8, _⟩ => ⟨S16x4096x8x2x128, .f32⟩
  | .hbm, ⟨9, _⟩ => ⟨S16x4096x8x1x128, .f32⟩
  | .hbm, ⟨10, _⟩ => ⟨S16x4096x8x128, .f32⟩
  | .hbm, ⟨11, _⟩ => ⟨S_, .f32⟩
  | .hbm, ⟨12, _⟩ => ⟨S16x4096x8, .f32⟩
  | .hbm, ⟨13, _⟩ => ⟨S16x4096x8x1, .f32⟩
  | .hbm, ⟨14, _⟩ => ⟨S16x4096x8x128, .f32⟩
  | .hbm, ⟨15, _⟩ => ⟨S16x4096x8x128, .f32⟩
  | .hbm, ⟨16, _⟩ => ⟨S16x4096x8x128, .f32⟩
  | .hbm, ⟨17, _⟩ => ⟨S65536x8x128, .f32⟩
  | .hbm, ⟨18, _⟩ => ⟨S8x128x65536, .f32⟩
  | .hbm, ⟨19, _⟩ => ⟨S65536x8x128, .f32⟩
  | .hbm, ⟨20, _⟩ => ⟨S8x128x65536, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== MemKv.lean ====
abbrev S16x256x1024 : Shape := ⟨3, ![16, 256, 1024]⟩
abbrev S1x1024x512 : Shape := ⟨3, ![1, 1024, 512]⟩
abbrev S1024x512 : Shape := ⟨2, ![1024, 512]⟩
abbrev S1024x256 : Shape := ⟨2, ![1024, 256]⟩
abbrev S256x1024 : Shape := ⟨2, ![256, 1024]⟩
abbrev S16x256x256 : Shape := ⟨3, ![16, 256, 256]⟩
abbrev S1x256x1024 : Shape := ⟨3, ![1, 256, 1024]⟩
abbrev S1x256x256 : Shape := ⟨3, ![1, 256, 256]⟩
abbrev S256x256 : Shape := ⟨2, ![256, 256]⟩

abbrev nBuf : Space → Nat
  | .hbm => 10
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S1x1024x512, .f32⟩
  | .hbm, ⟨2, _⟩ => ⟨S1024x512, .f32⟩
  | .hbm, ⟨3, _⟩ => ⟨S1024x256, .f32⟩
  | .hbm, ⟨4, _⟩ => ⟨S256x1024, .f32⟩
  | .hbm, ⟨5, _⟩ => ⟨S256x1024, .bf16⟩
  | .hbm, ⟨6, _⟩ => ⟨S1024x256, .f32⟩
  | .hbm, ⟨7, _⟩ => ⟨S1024x256, .bf16⟩
  | .hbm, ⟨8, _⟩ => ⟨S16x256x256, .bf16⟩
  | .hbm, ⟨9, _⟩ => ⟨S16x256x256, .bf16⟩
  | .local _ .vmem, ⟨0, _⟩ => ⟨S1x256x1024, .f32⟩
  | .local _ .vmem, ⟨1, _⟩ => ⟨S1x256x1024, .f32⟩
  | .local _ .vmem, ⟨2, _⟩ => ⟨S256x1024, .bf16⟩
  | .local _ .vmem, ⟨3, _⟩ => ⟨S1024x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemKvRefIdeal.lean ====
abbrev S16x256x1024 : Shape := ⟨3, ![16, 256, 1024]⟩
abbrev S1x1024x512 : Shape := ⟨3, ![1, 1024, 512]⟩
abbrev S1024x512 : Shape := ⟨2, ![1024, 512]⟩
abbrev S16x256x512 : Shape := ⟨3, ![16, 256, 512]⟩
abbrev S16x256x2x4x64 : Shape := ⟨5, ![16, 256, 2, 4, 64]⟩
abbrev S16x256x1x4x64 : Shape := ⟨5, ![16, 256, 1, 4, 64]⟩
abbrev S16x256x4x64 : Shape := ⟨4, ![16, 256, 4, 64]⟩
abbrev S16x256x256 : Shape := ⟨3, ![16, 256, 256]⟩

abbrev nBuf : Space → Nat
  | .hbm => 14
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1024x512, .f32⟩
  | .hbm, ⟨2, _⟩ => ⟨S1024x512, .f32⟩
  | .hbm, ⟨3, _⟩ => ⟨S16x256x512, .f32⟩
  | .hbm, ⟨4, _⟩ => ⟨S16x256x2x4x64, .f32⟩
  | .hbm, ⟨5, _⟩ => ⟨S16x256x1x4x64, .f32⟩
  | .hbm, ⟨6, _⟩ => ⟨S16x256x4x64, .f32⟩
  | .hbm, ⟨7, _⟩ => ⟨S16x256x256, .f32⟩
  | .hbm, ⟨8, _⟩ => ⟨S16x256x1x4x64, .f32⟩
  | .hbm, ⟨9, _⟩ => ⟨S16x256x4x64, .f32⟩
  | .hbm, ⟨10, _⟩ => ⟨S16x256x256, .f32⟩
  | .hbm, ⟨11, _⟩ => ⟨S16x256x256, .f32⟩
  | .hbm, ⟨12, _⟩ => ⟨S16x256x256, .bf16⟩
  | .hbm, ⟨13, _⟩ => ⟨S16x256x256, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== MemAttn.lean ====
abbrev S16x4096x4x64 : Shape := ⟨4, ![16, 4096, 4, 64]⟩
abbrev S16x256x4x64 : Shape := ⟨4, ![16, 256, 4, 64]⟩
abbrev S256 : Shape := ⟨1, ![256]⟩
abbrev S65536x256 : Shape := ⟨2, ![65536, 256]⟩
abbrev S1x256 : Shape := ⟨2, ![1, 256]⟩
abbrev S_ : Shape := ⟨0, ![]⟩
abbrev S16x256x256 : Shape := ⟨3, ![16, 256, 256]⟩
abbrev S512x256 : Shape := ⟨2, ![512, 256]⟩
abbrev S1x256x256 : Shape := ⟨3, ![1, 256, 256]⟩
abbrev S1x1 : Shape := ⟨2, ![1, 1]⟩
abbrev S512x128 : Shape := ⟨2, ![512, 128]⟩
abbrev S1x128x256 : Shape := ⟨3, ![1, 128, 256]⟩
abbrev S128x256 : Shape := ⟨2, ![128, 256]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩

abbrev nBuf : Space → Nat
  | .hbm => 26
  | .vmem => 10
  | .smem => 0
  | _ => 0

abbrev bufTy : (tb : Table) → Fin (tcTables nBuf tb) → BufTy
  | .hbm, ⟨0, _⟩ => ⟨S16x4096x4x64, .f32⟩
  | .hbm, ⟨1, _⟩ => ⟨S16x256x4x64, .f32⟩
  | .hbm, ⟨2, _⟩ => ⟨S16x256x4x64, .f32⟩
  | .hbm, ⟨3, _⟩ => ⟨S256, .f32⟩
  | .hbm, ⟨4, _⟩ => ⟨S256, .f32⟩
  | .hbm, ⟨5, _⟩ => ⟨S65536x256, .f32⟩
  | .hbm, ⟨6, _⟩ => ⟨S1x256, .f32⟩
  | .hbm, ⟨7, _⟩ => ⟨S65536x256, .f32⟩
  | .hbm, ⟨8, _⟩ => ⟨S65536x256, .f32⟩
  | .hbm, ⟨9, _⟩ => ⟨S_, .f32⟩
  | .hbm, ⟨10, _⟩ => ⟨S65536x256, .f32⟩
  | .hbm, ⟨11, _⟩ => ⟨S65536x256, .f32⟩
  | .hbm, ⟨12, _⟩ => ⟨S65536x256, .bf16⟩
  | .hbm, ⟨13, _⟩ => ⟨S1x256, .f32⟩
  | .hbm, ⟨14, _⟩ => ⟨S65536x256, .f32⟩
  | .hbm, ⟨15, _⟩ => ⟨S65536x256, .f32⟩
  | .hbm, ⟨16, _⟩ => ⟨S_, .f32⟩
  | .hbm, ⟨17, _⟩ => ⟨S65536x256, .f32⟩
  | .hbm, ⟨18, _⟩ => ⟨S65536x256, .f32⟩
  | .hbm, ⟨19, _⟩ => ⟨S65536x256, .bf16⟩
  | .hbm, ⟨20, _⟩ => ⟨S16x256x256, .f32⟩
  | .hbm, ⟨21, _⟩ => ⟨S16x256x256, .f32⟩
  | .hbm, ⟨22, _⟩ => ⟨S16x256x256, .bf16⟩
  | .hbm, ⟨23, _⟩ => ⟨S16x256x256, .f32⟩
  | .hbm, ⟨24, _⟩ => ⟨S16x256x256, .bf16⟩
  | .hbm, ⟨25, _⟩ => ⟨S65536x256, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S512x256, .bf16⟩
  | .local _ .vmem, ⟨9, _⟩ => ⟨S512x256, .bf16⟩
  | _, _ => ⟨S16x4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemAttnRefIdeal.lean ====
abbrev S16x4096x4x64 : Shape := ⟨4, ![16, 4096, 4, 64]⟩
abbrev S16x256x4x64 : Shape := ⟨4, ![16, 256, 4, 64]⟩
abbrev S16x4x4096x256 : Shape := ⟨4, ![16, 4, 4096, 256]⟩
abbrev S_ : Shape := ⟨0, ![]⟩
abbrev S16x4x4096 : Shape := ⟨3, ![16, 4, 4096]⟩
abbrev S16x4x4096x1 : Shape := ⟨4, ![16, 4, 4096, 1]⟩
abbrev S16x4x64x4096 : Shape := ⟨4, ![16, 4, 64, 4096]⟩
abbrev S65536x256 : Shape := ⟨2, ![65536, 256]⟩

abbrev nBuf : Space → Nat
  | .hbm => 25
  | .vmem => 0
  | .smem => 0
  | _ => 0

abbrev bufTy : (tb : Table) → Fin (tcTables nBuf tb) → BufTy
  | .hbm, ⟨0, _⟩ => ⟨S16x4096x4x64, .f32⟩
  | .hbm, ⟨1, _⟩ => ⟨S16x256x4x64, .f32⟩
  | .hbm, ⟨2, _⟩ => ⟨S16x256x4x64, .f32⟩
  | .hbm, ⟨3, _⟩ => ⟨S16x4x4096x256, .f32⟩
  | .hbm, ⟨4, _⟩ => ⟨S_, .f32⟩
  | .hbm, ⟨5, _⟩ => ⟨S16x4x4096x256, .f32⟩
  | .hbm, ⟨6, _⟩ => ⟨S16x4x4096x256, .f32⟩
  | .hbm, ⟨7, _⟩ => ⟨S_, .f32⟩
  | .hbm, ⟨8, _⟩ => ⟨S16x4x4096, .f32⟩
  | .hbm, ⟨9, _⟩ => ⟨S_, .f32⟩
  | .hbm, ⟨10, _⟩ => ⟨S16x4x4096, .f32⟩
  | .hbm, ⟨11, _⟩ => ⟨S16x4x4096, .f32⟩
  | .hbm, ⟨12, _⟩ => ⟨S16x4x4096x1, .f32⟩
  | .hbm, ⟨13, _⟩ => ⟨S16x4x4096x256, .f32⟩
  | .hbm, ⟨14, _⟩ => ⟨S16x4x4096x256, .f32⟩
  | .hbm, ⟨15, _⟩ => ⟨S16x4x4096x256, .f32⟩
  | .hbm, ⟨16, _⟩ => ⟨S_, .f32⟩
  | .hbm, ⟨17, _⟩ => ⟨S16x4x4096, .f32⟩
  | .hbm, ⟨18, _⟩ => ⟨S16x4x4096x1, .f32⟩
  | .hbm, ⟨19, _⟩ => ⟨S16x4x4096x256, .f32⟩
  | .hbm, ⟨20, _⟩ => ⟨S16x4x4096x256, .f32⟩
  | .hbm, ⟨21, _⟩ => ⟨S16x4x64x4096, .f32⟩
  | .hbm, ⟨22, _⟩ => ⟨S16x4096x4x64, .f32⟩
  | .hbm, ⟨23, _⟩ => ⟨S65536x256, .f32⟩
  | .hbm, ⟨24, _⟩ => ⟨S65536x256, .bf16⟩
  | _, _ => ⟨S16x4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Inputs.lean ====
module
public import proofs.«01_k».proof.Proof.Gen.KernelIdeal.Value
public import Idealize.ShloMosaic.Lib.StableHlo.RunRead
public import Idealize.ShloMosaic.Lib.Pointwise
public import Idealize.ShloMosaic.Lib.IdealHost
/-! The arrays that the host prepares from the queries, the keys and the values, read at an element. -/
@[expose] public section
set_option maxRecDepth 16384
noncomputable section
namespace Attn
open Cert.KernelIdeal Cert.KernelIdeal.Gen Idealize.ShloMosaic Idealize.ShloMosaic.TcCoe Idealize.SL.Sem
  Idealize.ShloMosaic.StableHlo
variable (m : (l : Loc nD τ sig) → Buf (Elt Ideal) l) (c : Dev nD)

abbrev qArg : FVec Ideal S16x4096x8x64 .f32 := m ((c : Thread nD τ).loc main_arg0)
abbrev kArg : FVec Ideal S16x4096x8x64 .f32 := m ((c : Thread nD τ).loc main_arg1)
abbrev vArg : FVec Ideal S16x4096x8x64 .f32 := m ((c : Thread nD τ).loc main_arg2)

theorem vF_at (n : Fin 65536) (col : Fin 512) :
    (V m c main_v17 : FVec Ideal S65536x512 .bf16) (ix2 n col) =
      vArg m c (ix4 (⟨n.val / 4096, by omega⟩ : Fin 16) (⟨n.val % 4096, by omega⟩ : Fin 4096)
        (⟨col.val / 64, by omega⟩ : Fin 8) (⟨col.val % 64, by omega⟩ : Fin 64)) := by
  unfold V; unfold_abbrev_sides; after_reads_simp
  pointwise

theorem kT_at (n : Fin 65536) (col : Fin 512) :
    (V m c main_v15 : FVec Ideal S512x65536 .bf16) (ix2 col n) =
      kArg m c (ix4 (⟨n.val / 4096, by omega⟩ : Fin 16) (⟨n.val % 4096, by omega⟩ : Fin 4096)
        (⟨col.val / 64, by omega⟩ : Fin 8) (⟨col.val % 64, by omega⟩ : Fin 64)) := by
  unfold V; unfold_abbrev_sides; after_reads_simp
  pointwise

theorem lit_lo : ∀ col : Fin 512, lit0 (S512.rowMajor (ix1 col)) = if col.val / 64 % 2 = 0 then 0x3F800000#32 else 0x00000000#32 := by
  decide +kernel

/-- The queries of the even heads, scaled; zero at the odd heads. -/
theorem qLo_at (n : Fin 65536) (col : Fin 512) :
    (V m c main_v6 : FVec Ideal S65536x512 .bf16) (ix2 n col) =
      qArg m c (ix4 (⟨n.val / 4096, by omega⟩ : Fin 16) (⟨n.val % 4096, by omega⟩ : Fin 4096)
        (⟨col.val / 64, by omega⟩ : Fin 8) (⟨col.val % 64, by omega⟩ : Fin 64)) *
        (if col.val / 64 % 2 = 0 then 1 else 0) * Ideal.ofBits .f32 0x3E000000#32 := by
  unfold V; unfold_abbrev_sides; after_reads_simp
  pointwise
  rw [lit_lo]
  by_cases h : col.val / 64 % 2 = 0
  · rw [if_pos h, if_pos h, Ideal.ofBits_one_f32]; rfl
  · rw [if_neg h, if_neg h, Ideal.ofBits_zero_f32]; rfl

theorem lit_hi : ∀ col : Fin 512, lit1 (S512.rowMajor (ix1 col)) = if col.val / 64 % 2 = 0 then 0x00000000#32 else 0x3F800000#32 := by
  decide +kernel

/-- The queries of the odd heads, scaled; zero at the even heads. -/
theorem qHi_at (n : Fin 65536) (col : Fin 512) :
    (V m c main_v12 : FVec Ideal S65536x512 .bf16) (ix2 n col) =
      qArg m c (ix4 (⟨n.val / 4096, by omega⟩ : Fin 16) (⟨n.val % 4096, by omega⟩ : Fin 4096)
        (⟨col.val / 64, by omega⟩ : Fin 8) (⟨col.val % 64, by omega⟩ : Fin 64)) *
        (if col.val / 64 % 2 = 1 then 1 else 0) * Ideal.ofBits .f32 0x3E000000#32 := by
  unfold V; unfold_abbrev_sides; after_reads_simp
  pointwise
  rw [lit_hi]
  by_cases h : col.val / 64 % 2 = 0
  · rw [if_pos h, if_neg (by omega), Ideal.ofBits_zero_f32]; rfl
  · rw [if_neg h, if_pos (by omega), Ideal.ofBits_one_f32]; rfl

end Attn
-- ==== Proof.Table.lean ====
module

public import proofs.«01_k».proof.Proof.Gen.KernelIdeal.Value
public import Idealize.ShloMosaic.Lib.Pipeline.ValueKit
public import Idealize.ShloMosaic.Lib.Pointwise
public import Idealize.ShloMosaic.Lib.StableHlo.RunRead

/-! The bias table that the host lays out for the kernel, step one: the relative offsets along a row of the grid.
    Of `main_v151 = table` the entry (h, r, a, k) is the bias of head h at row offset r between a query in column a and a
    key in column k, `rpb[h, r, k − a + 15]`, wherever that offset exists. -/

@[expose] public section

set_option maxRecDepth 16384

noncomputable section

namespace Attn

open Cert.KernelIdeal Cert.KernelIdeal.Gen Idealize.ShloMosaic Idealize.ShloMosaic.TcCoe Idealize.SL.Sem Idealize.ShloMosaic.StableHlo

variable (m : (l : Loc nD τ sig) → Buf (Elt Ideal) l) (c : Dev nD)

/-- The argument: the bias per head, row offset and column offset. -/
def rpb : FVec Ideal S8x15x31 .f32 := m ((c : Thread nD τ).loc main_arg3)

/-- The biases laid out per query column and key column. -/
def table : FVec Ideal S8x15x64x64 .f32 := V m c main_v151

/-- The padded bias rows, read inside the padding. -/
theorem pad_at (x : FVec Ideal S8x15x31 .f32) (z : FVec Ideal S_ .f32) (h : Fin 8) (r : Fin 15) (j : Fin 127) (k : Fin 31)
    (hj : j.val = k.val + 48) :
    pad S8x15x127 ![0, 0, 48] ![0, 0, 48] ![0, 0, 0] x z pads_S8x15x31_S8x15x127_000_000_48480 h_S_ (ix3 h r j) = x (ix3 h r k) := by
  obtain ⟨j, hjl⟩ := j
  simp only at hj
  subst hj
  pointwise
  rw [dif_pos (by omega)]
  rfl

/-- Sixteen rows laid one after another along the third axis: row a is piece a. -/
theorem rows16 {p0 p1 p2 p3 p4 p5 p6 p7 p8 p9 p10 p11 p12 p13 p14 p15 : FVec Ideal S8x15x1x64 .f32} {h : Fin 8} {r : Fin 15} {a : Fin 16} {k : Fin 64} {X : Ideal .f32}
    (h0 : a.val = 0 → p0 (ix4 h r (0 : Fin 1) k) = X)
    (h1 : a.val = 1 → p1 (ix4 h r (0 : Fin 1) k) = X)
    (h2 : a.val = 2 → p2 (ix4 h r (0 : Fin 1) k) = X)
    (h3 : a.val = 3 → p3 (ix4 h r (0 : Fin 1) k) = X)
    (h4 : a.val = 4 → p4 (ix4 h r (0 : Fin 1) k) = X)
    (h5 : a.val = 5 → p5 (ix4 h r (0 : Fin 1) k) = X)
    (h6 : a.val = 6 → p6 (ix4 h r (0 : Fin 1) k) = X)
    (h7 : a.val = 7 → p7 (ix4 h r (0 : Fin 1) k) = X)
    (h8 : a.val = 8 → p8 (ix4 h r (0 : Fin 1) k) = X)
    (h9 : a.val = 9 → p9 (ix4 h r (0 : Fin 1) k) = X)
    (h10 : a.val = 10 → p10 (ix4 h r (0 : Fin 1) k) = X)
    (h11 : a.val = 11 → p11 (ix4 h r (0 : Fin 1) k) = X)
    (h12 : a.val = 12 → p12 (ix4 h r (0 : Fin 1) k) = X)
    (h13 : a.val = 13 → p13 (ix4 h r (0 : Fin 1) k) = X)
    (h14 : a.val = 14 → p14 (ix4 h r (0 : Fin 1) k) = X)
    (h15 : a.val = 15 → p15 (ix4 h r (0 : Fin 1) k) = X) (hc) :
    concatenate S8x15x16x64 2 [⟨S8x15x1x64, p0⟩, ⟨S8x15x1x64, p1⟩, ⟨S8x15x1x64, p2⟩, ⟨S8x15x1x64, p3⟩, ⟨S8x15x1x64, p4⟩, ⟨S8x15x1x64, p5⟩, ⟨S8x15x1x64, p6⟩, ⟨S8x15x1x64, p7⟩, ⟨S8x15x1x64, p8⟩, ⟨S8x15x1x64, p9⟩, ⟨S8x15x1x64, p10⟩, ⟨S8x15x1x64, p11⟩, ⟨S8x15x1x64, p12⟩, ⟨S8x15x1x64, p13⟩, ⟨S8x15x1x64, p14⟩, ⟨S8x15x1x64, p15⟩] hc (ix4 h r a k) = X := by
  have e : concatenate S8x15x16x64 2 (List.ofFn fun n : Fin 16 => (⟨S8x15x1x64, ![p0, p1, p2, p3, p4, p5, p6, p7, p8, p9, p10, p11, p12, p13, p14, p15] n⟩ : (s : Shape) × (s.Idx → Ideal .f32))) hc
      (ix4 h r a k) = ![p0, p1, p2, p3, p4, p5, p6, p7, p8, p9, p10, p11, p12, p13, p14, p15] a (ix4 h r (0 : Fin 1) k) := by
    refine concatenate_ofFn_unit_apply (t := S8x15x16x64) (s₁ := S8x15x1x64) 2 _ hc rfl rfl _ a rfl _ ?_
    intro b hb
    fin_cases b <;> first | rfl | exact absurd rfl hb
  refine Eq.trans e ?_
  fin_cases a
  · exact h0 rfl
  · exact h1 rfl
  · exact h2 rfl
  · exact h3 rfl
  · exact h4 rfl
  · exact h5 rfl
  · exact h6 rfl
  · exact h7 rfl
  · exact h8 rfl
  · exact h9 rfl
  · exact h10 rfl
  · exact h11 rfl
  · exact h12 rfl
  · exact h13 rfl
  · exact h14 rfl
  · exact h15 rfl

theorem rows_0 (h : Fin 8) (r : Fin 15) (a : Fin 16) (k : Fin 64) (h1 : a.val ≤ k.val + 15) (h2 : k.val < a.val + 16) :
    (V m c main_v147 : FVec Ideal S8x15x16x64 .f32) (ix4 h r a k) = rpb m c (ix3 h r ⟨k.val + 15 - a.val, by omega⟩) := by
  unfold V
  unfold_abbrev_sides
  after_reads_simp
  refine rows16 ?_ ?_ ?_ ?_ ?_ ?_ ?_ ?_ ?_ ?_ ?_ ?_ ?_ ?_ ?_ ?_ _
  all_goals
    intro ha
    refine (congrFun (unary_result _ _ _ _ _ _) _).trans ?_
    after_reads_simp
    pointwise
    exact pad_at (rpb m c) _ h r _ _ (by simp only; omega)

theorem rows_1 (h : Fin 8) (r : Fin 15) (a : Fin 16) (k : Fin 64) (h1 : (16 + a.val) ≤ k.val + 15) (h2 : k.val < (16 + a.val) + 16) :
    (V m c main_v148 : FVec Ideal S8x15x16x64 .f32) (ix4 h r a k) = rpb m c (ix3 h r ⟨k.val + 15 - (16 + a.val), by omega⟩) := by
  unfold V
  unfold_abbrev_sides
  after_reads_simp
  refine rows16 ?_ ?_ ?_ ?_ ?_ ?_ ?_ ?_ ?_ ?_ ?_ ?_ ?_ ?_ ?_ ?_ _
  all_goals
    intro ha
    refine (congrFun (unary_result _ _ _ _ _ _) _).trans ?_
    after_reads_simp
    pointwise
    exact pad_at (rpb m c) _ h r _ _ (by simp only; omega)

theorem rows_2 (h : Fin 8) (r : Fin 15) (a : Fin 16) (k : Fin 64) (h1 : (32 + a.val) ≤ k.val + 15) (h2 : k.val < (32 + a.val) + 16) :
    (V m c main_v149 : FVec Ideal S8x15x16x64 .f32) (ix4 h r a k) = rpb m c (ix3 h r ⟨k.val + 15 - (32 + a.val), by omega⟩) := by
  unfold V
  unfold_abbrev_sides
  after_reads_simp
  refine rows16 ?_ ?_ ?_ ?_ ?_ ?_ ?_ ?_ ?_ ?_ ?_ ?_ ?_ ?_ ?_ ?_ _
  all_goals
    intro ha
    refine (congrFun (unary_result _ _ _ _ _ _) _).trans ?_
    after_reads_simp
    pointwise
    exact pad_at (rpb m c) _ h r _ _ (by simp only; omega)

theorem rows_3 (h : Fin 8) (r : Fin 15) (a : Fin 16) (k : Fin 64) (h1 : (48 + a.val) ≤ k.val + 15) (h2 : k.val < (48 + a.val) + 16) :
    (V m c main_v150 : FVec Ideal S8x15x16x64 .f32) (ix4 h r a k) = rpb m c (ix3 h r ⟨k.val + 15 - (48 + a.val), by omega⟩) := by
  unfold V
  unfold_abbrev_sides
  after_reads_simp
  refine rows16 ?_ ?_ ?_ ?_ ?_ ?_ ?_ ?_ ?_ ?_ ?_ ?_ ?_ ?_ ?_ ?_ _
  all_goals
    intro ha
    refine (congrFun (unary_result _ _ _ _ _ _) _).trans ?_
    after_reads_simp
    pointwise
    exact pad_at (rpb m c) _ h r _ _ (by simp only; omega)

theorem join4 {p0 p1 p2 p3 q0 q1 q2 q3 : FVec Ideal S8x15x16x64 .f32} (e0 : p0 = q0) (e1 : p1 = q1) (e2 : p2 = q2) (e3 : p3 = q3) (hp hq) :
    concatenate S8x15x64x64 2 [⟨S8x15x16x64, p0⟩, ⟨S8x15x16x64, p1⟩, ⟨S8x15x16x64, p2⟩, ⟨S8x15x16x64, p3⟩] hp
      = concatenate S8x15x64x64 2 [⟨S8x15x16x64, q0⟩, ⟨S8x15x16x64, q1⟩, ⟨S8x15x16x64, q2⟩, ⟨S8x15x16x64, q3⟩] hq := by
  subst e0 e1 e2 e3; rfl

theorem table_eq : table m c = concatenate S8x15x64x64 2 [⟨S8x15x16x64, (V m c main_v147 : FVec Ideal S8x15x16x64 .f32)⟩,
    ⟨S8x15x16x64, (V m c main_v148 : FVec Ideal S8x15x16x64 .f32)⟩, ⟨S8x15x16x64, (V m c main_v149 : FVec Ideal S8x15x16x64 .f32)⟩,
    ⟨S8x15x16x64, (V m c main_v150 : FVec Ideal S8x15x16x64 .f32)⟩] concatenates_S8x15x16x64_S8x15x16x64_S8x15x16x64_S8x15x16x64_S8x15x64x64_d2 := by
  unfold table V
  unfold_abbrev_sides
  after_reads_simp
  refine join4 ?_ ?_ ?_ ?_ _ _ <;> (simp only [readUpto, readAfter]; rfl)

/-- The table's entry for a query in column a and a key in column k, fewer than sixteen columns apart. -/
theorem table_at (h : Fin 8) (r : Fin 15) (a k : Fin 64) (h1 : a.val ≤ k.val + 15) (h2 : k.val < a.val + 16) :
    table m c (ix4 h r a k) = rpb m c (ix3 h r ⟨k.val + 15 - a.val, by omega⟩) := by
  rw [table_eq]
  generalize e0 : (V m c main_v147 : FVec Ideal S8x15x16x64 .f32) = T0
  generalize e1 : (V m c main_v148 : FVec Ideal S8x15x16x64 .f32) = T1
  generalize e2 : (V m c main_v149 : FVec Ideal S8x15x16x64 .f32) = T2
  generalize e3 : (V m c main_v150 : FVec Ideal S8x15x16x64 .f32) = T3
  pointwise
  split
  · subst e0
    exact (rows_0 m c h r _ k h1 h2).trans rfl
  split
  · subst e1
    refine (rows_1 m c h r _ k ?_ ?_).trans (congrArg (fun x => rpb m c (ix3 h r x)) (Fin.ext ?_)) <;> simp only <;> omega
  split
  · subst e2
    refine (rows_2 m c h r _ k ?_ ?_).trans (congrArg (fun x => rpb m c (ix3 h r x)) (Fin.ext ?_)) <;> simp only <;> omega
  · subst e3
    refine (rows_3 m c h r _ k ?_ ?_).trans (congrArg (fun x => rpb m c (ix3 h r x)) (Fin.ext ?_)) <;> simp only <;> omega

end Attn
-- ==== Proof.Bias.lean ====
module

public import proofs.«01_k».proof.Proof.Table

/-! The bias table that the host lays out for the kernel, step two: `main_v243` holds, for each of the two rows of queries
    and each of eighteen rows of keys around them, the table's row at their row offset; and −∞ where the key's column is not
    among the query's sixteen. -/

@[expose] public section

set_option maxRecDepth 16384

noncomputable section

namespace Attn

open Cert.KernelIdeal Cert.KernelIdeal.Gen Idealize.ShloMosaic Idealize.ShloMosaic.TcCoe Idealize.SL.Sem Idealize.ShloMosaic.StableHlo

variable (m : (l : Loc nD τ sig) → Buf (Elt Ideal) l) (c : Dev nD)

/-- One row offset of the table, as a block of query column by key column. -/
def slot (r : Nat) (T : FVec Ideal S8x15x64x64 .f32) (hs : S8x15x64x64.Slices ![0, r, 0, 0] S8x1x64x64) : FVec Ideal S8x64x64 .f32 :=
  shapeCast S8x64x64 (extractStridedSlice S8x1x64x64 ![0, r, 0, 0] T hs) shapeCasts_S8x1x64x64_S8x64x64

theorem slot_at (r : Fin 15) (T : FVec Ideal S8x15x64x64 .f32) (hs) (h : Fin 8) (a k : Fin 64) :
    slot r.val T hs (ix3 h a k) = T (ix4 h r a k) := by
  pointwise [slot]

/-- Sixteen blocks side by side: column 64 s + k is column k of block s. -/
theorem blocks16 {p0 p1 p2 p3 p4 p5 p6 p7 p8 p9 p10 p11 p12 p13 p14 p15 : FVec Ideal S8x64x64 .f32} {h : Fin 8} {a : Fin 64} {j : Fin 1024} {s : Fin 16} {k : Fin 64} {X : Ideal .f32}
    (hj : j.val = 64 * s.val + k.val)
    (h0 : s.val = 0 → p0 (ix3 h a k) = X)
    (h1 : s.val = 1 → p1 (ix3 h a k) = X)
    (h2 : s.val = 2 → p2 (ix3 h a k) = X)
    (h3 : s.val = 3 → p3 (ix3 h a k) = X)
    (h4 : s.val = 4 → p4 (ix3 h a k) = X)
    (h5 : s.val = 5 → p5 (ix3 h a k) = X)
    (h6 : s.val = 6 → p6 (ix3 h a k) = X)
    (h7 : s.val = 7 → p7 (ix3 h a k) = X)
    (h8 : s.val = 8 → p8 (ix3 h a k) = X)
    (h9 : s.val = 9 → p9 (ix3 h a k) = X)
    (h10 : s.val = 10 → p10 (ix3 h a k) = X)
    (h11 : s.val = 11 → p11 (ix3 h a k) = X)
    (h12 : s.val = 12 → p12 (ix3 h a k) = X)
    (h13 : s.val = 13 → p13 (ix3 h a k) = X)
    (h14 : s.val = 14 → p14 (ix3 h a k) = X)
    (h15 : s.val = 15 → p15 (ix3 h a k) = X) (hc) :
    concatenate S8x64x1024 2 [⟨S8x64x64, p0⟩, ⟨S8x64x64, p1⟩, ⟨S8x64x64, p2⟩, ⟨S8x64x64, p3⟩, ⟨S8x64x64, p4⟩, ⟨S8x64x64, p5⟩, ⟨S8x64x64, p6⟩, ⟨S8x64x64, p7⟩, ⟨S8x64x64, p8⟩, ⟨S8x64x64, p9⟩, ⟨S8x64x64, p10⟩, ⟨S8x64x64, p11⟩, ⟨S8x64x64, p12⟩, ⟨S8x64x64, p13⟩, ⟨S8x64x64, p14⟩, ⟨S8x64x64, p15⟩] hc (ix3 h a j) = X := by
  have e : concatenate S8x64x1024 2 (List.ofFn fun n : Fin 16 => (⟨S8x64x64, ![p0, p1, p2, p3, p4, p5, p6, p7, p8, p9, p10, p11, p12, p13, p14, p15] n⟩ : (s : Shape) × (s.Idx → Ideal .f32))) hc
      (ix3 h a j) = ![p0, p1, p2, p3, p4, p5, p6, p7, p8, p9, p10, p11, p12, p13, p14, p15] s (ix3 h a k) := by
    refine concatenate_ofFn_apply (t := S8x64x1024) (s₁ := S8x64x64) 2 _ hc rfl 64 rfl _ s ?_ _ ?_ ?_
    · show j.val / 64 = s.val
      omega
    · show k.val = j.val % 64
      omega
    intro b hb
    fin_cases b <;> first | rfl | exact absurd rfl hb
  refine Eq.trans e ?_
  fin_cases s
  · exact h0 rfl
  · exact h1 rfl
  · exact h2 rfl
  · exact h3 rfl
  · exact h4 rfl
  · exact h5 rfl
  · exact h6 rfl
  · exact h7 rfl
  · exact h8 rfl
  · exact h9 rfl
  · exact h10 rfl
  · exact h11 rfl
  · exact h12 rfl
  · exact h13 rfl
  · exact h14 rfl
  · exact h15 rfl

theorem half_0 (h : Fin 8) (a k : Fin 64) (s : Fin 16) (j : Fin 1024) (hj : j.val = 64 * s.val + k.val) (r : Fin 15) (hr : r.val + 1 = s.val) :
    (V m c main_v183 : FVec Ideal S8x64x1024 .f32) (ix3 h a j) = table m c (ix4 h r a k) := by
  obtain ⟨r, hrl⟩ := r
  unfold V
  unfold_abbrev_sides
  after_reads_simp
  refine blocks16 hj ?_ ?_ ?_ ?_ ?_ ?_ ?_ ?_ ?_ ?_ ?_ ?_ ?_ ?_ ?_ ?_ _
  · intro hs; simp only at hr; omega
  · intro hs
    obtain rfl : r = 0 := by simp only at hr; omega
    refine (congrFun (g := slot 0 (table m c) slices_S8x15x64x64_S8x1x64x64_0_0_0_0) ?_ _).trans (slot_at ⟨0, hrl⟩ _ _ h a k)
    refine Eq.trans (reshape_result _ _ _ _ _ _ _) ?_
    unfold slot table V
    unfold_abbrev_sides
    after_reads_simp
    rfl
  · intro hs
    obtain rfl : r = 1 := by simp only at hr; omega
    refine (congrFun (g := slot 1 (table m c) slices_S8x15x64x64_S8x1x64x64_0_1_0_0) ?_ _).trans (slot_at ⟨1, hrl⟩ _ _ h a k)
    refine Eq.trans (reshape_result _ _ _ _ _ _ _) ?_
    unfold slot table V
    unfold_abbrev_sides
    after_reads_simp
    rfl
  · intro hs
    obtain rfl : r = 2 := by simp only at hr; omega
    refine (congrFun (g := slot 2 (table m c) slices_S8x15x64x64_S8x1x64x64_0_2_0_0) ?_ _).trans (slot_at ⟨2, hrl⟩ _ _ h a k)
    refine Eq.trans (reshape_result _ _ _ _ _ _ _) ?_
    unfold slot table V
    unfold_abbrev_sides
    after_reads_simp
    rfl
  · intro hs
    obtain rfl : r = 3 := by simp only at hr; omega
    refine (congrFun (g := slot 3 (table m c) slices_S8x15x64x64_S8x1x64x64_0_3_0_0) ?_ _).trans (slot_at ⟨3, hrl⟩ _ _ h a k)
    refine Eq.trans (reshape_result _ _ _ _ _ _ _) ?_
    unfold slot table V
    unfold_abbrev_sides
    after_reads_simp
    rfl
  · intro hs
    obtain rfl : r = 4 := by simp only at hr; omega
    refine (congrFun (g := slot 4 (table m c) slices_S8x15x64x64_S8x1x64x64_0_4_0_0) ?_ _).trans (slot_at ⟨4, hrl⟩ _ _ h a k)
    refine Eq.trans (reshape_result _ _ _ _ _ _ _) ?_
    unfold slot table V
    unfold_abbrev_sides
    after_reads_simp
    rfl
  · intro hs
    obtain rfl : r = 5 := by simp only at hr; omega
    refine (congrFun (g := slot 5 (table m c) slices_S8x15x64x64_S8x1x64x64_0_5_0_0) ?_ _).trans (slot_at ⟨5, hrl⟩ _ _ h a k)
    refine Eq.trans (reshape_result _ _ _ _ _ _ _) ?_
    unfold slot table V
    unfold_abbrev_sides
    after_reads_simp
    rfl
  · intro hs
    obtain rfl : r = 6 := by simp only at hr; omega
    refine (congrFun (g := slot 6 (table m c) slices_S8x15x64x64_S8x1x64x64_0_6_0_0) ?_ _).trans (slot_at ⟨6, hrl⟩ _ _ h a k)
    refine Eq.trans (reshape_result _ _ _ _ _ _ _) ?_
    unfold slot table V
    unfold_abbrev_sides
    after_reads_simp
    rfl
  · intro hs
    obtain rfl : r = 7 := by simp only at hr; omega
    refine (congrFun (g := slot 7 (table m c) slices_S8x15x64x64_S8x1x64x64_0_7_0_0) ?_ _).trans (slot_at ⟨7, hrl⟩ _ _ h a k)
    refine Eq.trans (reshape_result _ _ _ _ _ _ _) ?_
    unfold slot table V
    unfold_abbrev_sides
    after_reads_simp
    rfl
  · intro hs
    obtain rfl : r = 8 := by simp only at hr; omega
    refine (congrFun (g := slot 8 (table m c) slices_S8x15x64x64_S8x1x64x64_0_8_0_0) ?_ _).trans (slot_at ⟨8, hrl⟩ _ _ h a k)
    refine Eq.trans (reshape_result _ _ _ _ _ _ _) ?_
    unfold slot table V
    unfold_abbrev_sides
    after_reads_simp
    rfl
  · intro hs
    obtain rfl : r = 9 := by simp only at hr; omega
    refine (congrFun (g := slot 9 (table m c) slices_S8x15x64x64_S8x1x64x64_0_9_0_0) ?_ _).trans (slot_at ⟨9, hrl⟩ _ _ h a k)
    refine Eq.trans (reshape_result _ _ _ _ _ _ _) ?_
    unfold slot table V
    unfold_abbrev_sides
    after_reads_simp
    rfl
  · intro hs
    obtain rfl : r = 10 := by simp only at hr; omega
    refine (congrFun (g := slot 10 (table m c) slices_S8x15x64x64_S8x1x64x64_0_10_0_0) ?_ _).trans (slot_at ⟨10, hrl⟩ _ _ h a k)
    refine Eq.trans (reshape_result _ _ _ _ _ _ _) ?_
    unfold slot table V
    unfold_abbrev_sides
    after_reads_simp
    rfl
  · intro hs
    obtain rfl : r = 11 := by simp only at hr; omega
    refine (congrFun (g := slot 11 (table m c) slices_S8x15x64x64_S8x1x64x64_0_11_0_0) ?_ _).trans (slot_at ⟨11, hrl⟩ _ _ h a k)
    refine Eq.trans (reshape_result _ _ _ _ _ _ _) ?_
    unfold slot table V
    unfold_abbrev_sides
    after_reads_simp
    rfl
  · intro hs
    obtain rfl : r = 12 := by simp only at hr; omega
    refine (congrFun (g := slot 12 (table m c) slices_S8x15x64x64_S8x1x64x64_0_12_0_0) ?_ _).trans (slot_at ⟨12, hrl⟩ _ _ h a k)
    refine Eq.trans (reshape_result _ _ _ _ _ _ _) ?_
    unfold slot table V
    unfold_abbrev_sides
    after_reads_simp
    rfl
  · intro hs
    obtain rfl : r = 13 := by simp only at hr; omega
    refine (congrFun (g := slot 13 (table m c) slices_S8x15x64x64_S8x1x64x64_0_13_0_0) ?_ _).trans (slot_at ⟨13, hrl⟩ _ _ h a k)
    refine Eq.trans (reshape_result _ _ _ _ _ _ _) ?_
    unfold slot table V
    unfold_abbrev_sides
    after_reads_simp
    rfl
  · intro hs
    obtain rfl : r = 14 := by simp only at hr; omega
    refine (congrFun (g := slot 14 (table m c) slices_S8x15x64x64_S8x1x64x64_0_14_0_0) ?_ _).trans (slot_at ⟨14, hrl⟩ _ _ h a k)
    refine Eq.trans (reshape_result _ _ _ _ _ _ _) ?_
    unfold slot table V
    unfold_abbrev_sides
    after_reads_simp
    rfl

theorem half_1 (h : Fin 8) (a k : Fin 64) (s : Fin 16) (j : Fin 1024) (hj : j.val = 64 * s.val + k.val) (r : Fin 15) (hr : r.val + 2 = s.val) :
    (V m c main_v216 : FVec Ideal S8x64x1024 .f32) (ix3 h a j) = table m c (ix4 h r a k) := by
  obtain ⟨r, hrl⟩ := r
  unfold V
  unfold_abbrev_sides
  after_reads_simp
  refine blocks16 hj ?_ ?_ ?_ ?_ ?_ ?_ ?_ ?_ ?_ ?_ ?_ ?_ ?_ ?_ ?_ ?_ _
  · intro hs; simp only at hr; omega
  · intro hs; simp only at hr; omega
  · intro hs
    obtain rfl : r = 0 := by simp only at hr; omega
    refine (congrFun (g := slot 0 (table m c) slices_S8x15x64x64_S8x1x64x64_0_0_0_0) ?_ _).trans (slot_at ⟨0, hrl⟩ _ _ h a k)
    refine Eq.trans (reshape_result _ _ _ _ _ _ _) ?_
    unfold slot table V
    unfold_abbrev_sides
    after_reads_simp
    rfl
  · intro hs
    obtain rfl : r = 1 := by simp only at hr; omega
    refine (congrFun (g := slot 1 (table m c) slices_S8x15x64x64_S8x1x64x64_0_1_0_0) ?_ _).trans (slot_at ⟨1, hrl⟩ _ _ h a k)
    refine Eq.trans (reshape_result _ _ _ _ _ _ _) ?_
    unfold slot table V
    unfold_abbrev_sides
    after_reads_simp
    rfl
  · intro hs
    obtain rfl : r = 2 := by simp only at hr; omega
    refine (congrFun (g := slot 2 (table m c) slices_S8x15x64x64_S8x1x64x64_0_2_0_0) ?_ _).trans (slot_at ⟨2, hrl⟩ _ _ h a k)
    refine Eq.trans (reshape_result _ _ _ _ _ _ _) ?_
    unfold slot table V
    unfold_abbrev_sides
    after_reads_simp
    rfl
  · intro hs
    obtain rfl : r = 3 := by simp only at hr; omega
    refine (congrFun (g := slot 3 (table m c) slices_S8x15x64x64_S8x1x64x64_0_3_0_0) ?_ _).trans (slot_at ⟨3, hrl⟩ _ _ h a k)
    refine Eq.trans (reshape_result _ _ _ _ _ _ _) ?_
    unfold slot table V
    unfold_abbrev_sides
    after_reads_simp
    rfl
  · intro hs
    obtain rfl : r = 4 := by simp only at hr; omega
    refine (congrFun (g := slot 4 (table m c) slices_S8x15x64x64_S8x1x64x64_0_4_0_0) ?_ _).trans (slot_at ⟨4, hrl⟩ _ _ h a k)
    refine Eq.trans (reshape_result _ _ _ _ _ _ _) ?_
    unfold slot table V
    unfold_abbrev_sides
    after_reads_simp
    rfl
  · intro hs
    obtain rfl : r = 5 := by simp only at hr; omega
    refine (congrFun (g := slot 5 (table m c) slices_S8x15x64x64_S8x1x64x64_0_5_0_0) ?_ _).trans (slot_at ⟨5, hrl⟩ _ _ h a k)
    refine Eq.trans (reshape_result _ _ _ _ _ _ _) ?_
    unfold slot table V
    unfold_abbrev_sides
    after_reads_simp
    rfl
  · intro hs
    obtain rfl : r = 6 := by simp only at hr; omega
    refine (congrFun (g := slot 6 (table m c) slices_S8x15x64x64_S8x1x64x64_0_6_0_0) ?_ _).trans (slot_at ⟨6, hrl⟩ _ _ h a k)
    refine Eq.trans (reshape_result _ _ _ _ _ _ _) ?_
    unfold slot table V
    unfold_abbrev_sides
    after_reads_simp
    rfl
  · intro hs
    obtain rfl : r = 7 := by simp only at hr; omega
    refine (congrFun (g := slot 7 (table m c) slices_S8x15x64x64_S8x1x64x64_0_7_0_0) ?_ _).trans (slot_at ⟨7, hrl⟩ _ _ h a k)
    refine Eq.trans (reshape_result _ _ _ _ _ _ _) ?_
    unfold slot table V
    unfold_abbrev_sides
    after_reads_simp
    rfl
  · intro hs
    obtain rfl : r = 8 := by simp only at hr; omega
    refine (congrFun (g := slot 8 (table m c) slices_S8x15x64x64_S8x1x64x64_0_8_0_0) ?_ _).trans (slot_at ⟨8, hrl⟩ _ _ h a k)
    refine Eq.trans (reshape_result _ _ _ _ _ _ _) ?_
    unfold slot table V
    unfold_abbrev_sides
    after_reads_simp
    rfl
  · intro hs
    obtain rfl : r = 9 := by simp only at hr; omega
    refine (congrFun (g := slot 9 (table m c) slices_S8x15x64x64_S8x1x64x64_0_9_0_0) ?_ _).trans (slot_at ⟨9, hrl⟩ _ _ h a k)
    refine Eq.trans (reshape_result _ _ _ _ _ _ _) ?_
    unfold slot table V
    unfold_abbrev_sides
    after_reads_simp
    rfl
  · intro hs
    obtain rfl : r = 10 := by simp only at hr; omega
    refine (congrFun (g := slot 10 (table m c) slices_S8x15x64x64_S8x1x64x64_0_10_0_0) ?_ _).trans (slot_at ⟨10, hrl⟩ _ _ h a k)
    refine Eq.trans (reshape_result _ _ _ _ _ _ _) ?_
    unfold slot table V
    unfold_abbrev_sides
    after_reads_simp
    rfl
  · intro hs
    obtain rfl : r = 11 := by simp only at hr; omega
    refine (congrFun (g := slot 11 (table m c) slices_S8x15x64x64_S8x1x64x64_0_11_0_0) ?_ _).trans (slot_at ⟨11, hrl⟩ _ _ h a k)
    refine Eq.trans (reshape_result _ _ _ _ _ _ _) ?_
    unfold slot table V
    unfold_abbrev_sides
    after_reads_simp
    rfl
  · intro hs
    obtain rfl : r = 12 := by simp only at hr; omega
    refine (congrFun (g := slot 12 (table m c) slices_S8x15x64x64_S8x1x64x64_0_12_0_0) ?_ _).trans (slot_at ⟨12, hrl⟩ _ _ h a k)
    refine Eq.trans (reshape_result _ _ _ _ _ _ _) ?_
    unfold slot table V
    unfold_abbrev_sides
    after_reads_simp
    rfl
  · intro hs
    obtain rfl : r = 13 := by simp only at hr; omega
    refine (congrFun (g := slot 13 (table m c) slices_S8x15x64x64_S8x1x64x64_0_13_0_0) ?_ _).trans (slot_at ⟨13, hrl⟩ _ _ h a k)
    refine Eq.trans (reshape_result _ _ _ _ _ _ _) ?_
    unfold slot table V
    unfold_abbrev_sides
    after_reads_simp
    rfl

/-- The bit of whether a query of column a may see a key of column j. -/
def okBit (a : Fin 128) (j : Fin 1152) : BitVec 1 :=
  let lo := IntOp.minsi 48#32 (IntOp.maxsi 0#32 (IntOp.subi (IntOp.remsi ArithUnit.host (BitVec.ofNat 32 a.val) 64#32) 8#32))
  let k := IntOp.remsi ArithUnit.host (BitVec.ofNat 32 j.val) 64#32
  IntOp.andi (IntOp.cmpi .sge k lo) (IntOp.cmpi .slt k (IntOp.addi lo 16#32))
theorem ok_eq (a : Fin 128) (j : Fin 1152) : (V m c main_v242 : IVec S1x128x1152 1) (ix3 (0 : Fin 1) a j) = okBit a j := by
  unfold V
  unfold_abbrev_sides
  after_reads_simp
  pointwise
  rfl
/-- The first key column that a query of column a sees. -/
def firstCol (a : Nat) : Nat := min 48 (a % 64 - 8)

theorem lo_eq : ∀ a : Fin 128, IntOp.minsi 48#32 (IntOp.maxsi 0#32 (IntOp.subi (IntOp.remsi ArithUnit.host (BitVec.ofNat 32 a.val) 64#32) 8#32))
  = BitVec.ofNat 32 (firstCol a.val) := by decide +kernel
theorem k_eq : ∀ a : Fin 1152, IntOp.remsi ArithUnit.host (BitVec.ofNat 32 a.val) 64#32
  = BitVec.ofNat 32 (a.val % 64) := by decide +kernel
theorem within_eq : ∀ (k : Fin 64) (l : Fin 49), IntOp.andi (IntOp.cmpi .sge (BitVec.ofNat 32 k.val) (BitVec.ofNat 32 l.val)) (IntOp.cmpi .slt (BitVec.ofNat 32 k.val) (IntOp.addi (BitVec.ofNat 32 l.val) 16#32))
  = if l.val ≤ k.val ∧ k.val < l.val + 16 then 1#1 else 0#1 := by decide +kernel

theorem okBit_eq (a : Fin 128) (j : Fin 1152) : okBit a j = if firstCol a.val ≤ j.val % 64 ∧ j.val % 64 < firstCol a.val + 16 then 1#1 else 0#1 := by
  unfold okBit
  rw [lo_eq, k_eq]
  exact within_eq ⟨j.val % 64, by omega⟩ ⟨firstCol a.val, by unfold firstCol; omega⟩

theorem join2 {t s₁ s₂ : Shape} {a : Fin t.rank} {p q : s₁.Idx → Ideal .f32} {p' q' : s₂.Idx → Ideal .f32} (e : p = q) (e' : p' = q') (hp hq) :
    concatenate t a [⟨s₁, p⟩, ⟨s₂, p'⟩] hp = concatenate t a [⟨s₁, q⟩, ⟨s₂, q'⟩] hq := by
  subst e e'; rfl

theorem masked_eq : (V m c main_v243 : FVec Ideal S8x128x1152 .f32)
    = select (broadcastInDim S8x128x1152 ![0, 1, 2] bcast_S1x128x1152_S8x128x1152_0_1_2 (V m c main_v242 : IVec S1x128x1152 1))
      (V m c main_v219 : FVec Ideal S8x128x1152 .f32)
      (broadcastInDim S8x128x1152 ![] bcast_S_S8x128x1152 (constant (F := Ideal) S_ .f32 0xFF800000#32)) := by
  unfold V
  unfold_abbrev_sides
  after_reads_simp
  rfl

theorem parities_eq : (V m c main_v219 : FVec Ideal S8x128x1152 .f32)
    = concatenate S8x128x1152 1 [⟨S8x64x1152, (V m c main_v185 : FVec Ideal S8x64x1152 .f32)⟩, ⟨S8x64x1152, (V m c main_v218 : FVec Ideal S8x64x1152 .f32)⟩]
      concatenates_S8x64x1152_S8x64x1152_S8x128x1152_d1 := by
  unfold V
  unfold_abbrev_sides
  after_reads_simp
  refine join2 ?_ ?_ _ _ <;> simp only [readUpto, readAfter]

theorem even_eq : (V m c main_v185 : FVec Ideal S8x64x1152 .f32)
    = concatenate S8x64x1152 2 [⟨S8x64x1024, (V m c main_v183 : FVec Ideal S8x64x1024 .f32)⟩, ⟨S8x64x128, (V m c main_v184 : FVec Ideal S8x64x128 .f32)⟩]
      concatenates_S8x64x1024_S8x64x128_S8x64x1152_d2 := by
  unfold V
  unfold_abbrev_sides
  after_reads_simp
  refine join2 ?_ ?_ _ _ <;> simp only [readUpto, readAfter]

theorem odd_eq : (V m c main_v218 : FVec Ideal S8x64x1152 .f32)
    = concatenate S8x64x1152 2 [⟨S8x64x1024, (V m c main_v216 : FVec Ideal S8x64x1024 .f32)⟩, ⟨S8x64x128, (V m c main_v217 : FVec Ideal S8x64x128 .f32)⟩]
      concatenates_S8x64x1024_S8x64x128_S8x64x1152_d2 := by
  unfold V
  unfold_abbrev_sides
  after_reads_simp
  refine join2 ?_ ?_ _ _ <;> simp only [readUpto, readAfter]

theorem last_eq : (V m c main_v217 : FVec Ideal S8x64x128 .f32)
    = concatenate S8x64x128 2 [⟨S8x64x64, slot 14 (table m c) slices_S8x15x64x64_S8x1x64x64_0_14_0_0⟩, ⟨S8x64x64, (V m c main_v152 : FVec Ideal S8x64x64 .f32)⟩]
      concatenates_S8x64x64_S8x64x64_S8x64x128_d2 := by
  unfold slot table V
  unfold_abbrev_sides
  after_reads_simp
  refine join2 ?_ ?_ _ _
  · after_reads_simp
    rfl
  · simp only [readUpto, readAfter]

/-- The bias of query row and column a, key row and column j, where the key's column is one of the query's. -/
theorem bias_at (h : Fin 8) (a : Fin 128) (j : Fin 1152) (r : Fin 15) (qc kc : Fin 64) (hq : qc.val = a.val % 64) (hk : kc.val = j.val % 64)
    (hr : r.val + 1 + a.val / 64 = j.val / 64) (hok : firstCol a.val ≤ j.val % 64 ∧ j.val % 64 < firstCol a.val + 16) :
    (V m c main_v243 : FVec Ideal S8x128x1152 .f32) (ix3 h a j) = table m c (ix4 h r qc kc) := by
  rw [masked_eq]
  generalize e1 : (V m c main_v242 : IVec S1x128x1152 1) = K
  generalize e2 : (V m c main_v219 : FVec Ideal S8x128x1152 .f32) = T
  pointwise
  subst e1
  rw [ok_eq, okBit_eq, if_pos hok]
  subst e2
  refine Eq.trans (b := (V m c main_v219 : FVec Ideal S8x128x1152 .f32) (ix3 h a j)) rfl ?_
  rw [parities_eq]
  generalize e1 : (V m c main_v185 : FVec Ideal S8x64x1152 .f32) = T0
  generalize e2 : (V m c main_v218 : FVec Ideal S8x64x1152 .f32) = T1
  pointwise
  split
  · subst e1
    rw [even_eq]
    generalize e3 : (V m c main_v183 : FVec Ideal S8x64x1024 .f32) = T3
    generalize e4 : (V m c main_v184 : FVec Ideal S8x64x128 .f32) = T4
    pointwise
    rw [dif_pos (by omega)]
    subst e3
    refine (half_0 m c h _ kc ⟨j.val / 64, by omega⟩ _ (by simp only; omega) r (by simp only; omega)).trans ?_
    exact congrArg (fun x => table m c (ix4 h r x kc)) (Fin.ext (by simp only; omega))
  · subst e2
    rw [odd_eq]
    generalize e3 : (V m c main_v216 : FVec Ideal S8x64x1024 .f32) = T3
    rw [last_eq]
    generalize e4 : (V m c main_v152 : FVec Ideal S8x64x64 .f32) = T4
    pointwise
    split
    · subst e3
      refine (half_1 m c h _ kc ⟨j.val / 64, by omega⟩ _ (by simp only; omega) r (by simp only; omega)).trans ?_
      exact congrArg (fun x => table m c (ix4 h r x kc)) (Fin.ext (by simp only; omega))
    · rw [dif_pos (by omega)]
      obtain rfl : r = 14 := Fin.ext (by show r.val = 14; omega)
      refine (slot_at 14 _ _ h _ _).trans ?_
      exact congrArg₂ (fun x y => table m c (ix4 h 14 x y)) (Fin.ext (by simp only; omega)) (Fin.ext (by simp only; omega))

/-- −∞ where the key's column is not one of the query's. -/
theorem bias_off (h : Fin 8) (a : Fin 128) (j : Fin 1152) (hok : ¬ (firstCol a.val ≤ j.val % 64 ∧ j.val % 64 < firstCol a.val + 16)) :
    (V m c main_v243 : FVec Ideal S8x128x1152 .f32) (ix3 h a j) = (⊥ : EReal) := by
  rw [masked_eq]
  generalize e1 : (V m c main_v242 : IVec S1x128x1152 1) = K
  generalize e2 : (V m c main_v219 : FVec Ideal S8x128x1152 .f32) = T
  pointwise
  subst e1
  rw [ok_eq, okBit_eq, if_neg hok]
  show Ideal.ofBits .f32 0xFF800000#32 = ⊥
  rfl

end Attn
-- ==== Proof.Block.lean ====
module
public import proofs.«01_k».proof.Proof.Gen.KernelIdeal.Value
public import Idealize.ShloMosaic.Lib.Pipeline.ValueKit
public import Idealize.ShloMosaic.Lib.Pointwise
/-! What one invocation of the kernel computes, read at an element.

A block of 128 queries (two rows of the grid of tokens) meets a window of 640 keys (ten rows). Each
128-column piece of the result holds two heads: the left half is the attention of one head, the right
half that of the other, and all four pieces are the same function of their scores. -/
@[expose] public section
set_option maxRecDepth 16384
noncomputable section
namespace Attn
open Cert.KernelIdeal Cert.KernelIdeal.Gen Idealize.ShloMosaic Idealize.ShloMosaic.TcCoe Idealize.SL.Sem

/-- The weighted mean of the values `v` with the weights `exp (s - max s)`. -/
def mean (s v : Fin 640 → EReal) : EReal :=
  (∑ j, Ideal.exp (s j - Finset.univ.sup s) * v j) *
    Ideal.div 1 (∑ j, Ideal.exp (s j - Finset.univ.sup s))

/-- The first row of keys is twice this number, for the `r`-th pair of rows of queries. -/
def firstPair (r : Nat) : Nat := min 27 (r - 2)

/-- Whether the key in slot `j` of the window lies in the rows that query `a` of the block sees. -/
def rowOk (r a j : Nat) : Prop :=
  min 56 (2 * r + a / 64 - 4) ≤ 2 * firstPair r + j / 64 ∧
    2 * firstPair r + j / 64 < min 56 (2 * r + a / 64 - 4) + 8

instance (r a j : Nat) : Decidable (rowOk r a j) := by unfold rowOk; infer_instance

/-- The two halves of a piece: left of column 64 one head, right of it the other. -/
theorem pair_at (lo hi : FVec Ideal S128x640 .f32) (v : FVec Ideal S640x128 .bf16)
    (a : Fin 128) (d : Fin 128) :
    (k0_pay35 (F := Ideal) lo hi v v : FVec Ideal S128x128 .bf16) (ix2 a d) =
      if d.val < 64 then mean (fun j => lo (ix2 a j)) (fun j => v (ix2 j d))
      else mean (fun j => hi (ix2 a j)) (fun j => v (ix2 j d)) := by
  have hw : ∀ d : Fin 128, IntOp.cmpi .slt (BitVec.ofNat 32 d.val) 64#32 = if d.val < 64 then 1#1 else 0#1 := by
    decide +kernel
  pointwise [k0_pay35]
  rw [hw]
  by_cases hd : d.val < 64
  · rw [if_pos hd, if_pos hd]; rfl
  · rw [if_neg hd, if_neg hd]; rfl

/-- A score: a query's product with a key, plus the bias and the row mask. -/
theorem score_at (rm : FVec Ideal S128x640 .f32) (q : FVec Ideal S128x128 .bf16)
    (kt : FVec Ideal S128x640 .bf16) (b : FVec Ideal S1x128x640 .f32) (a : Fin 128) (j : Fin 640) :
    (k0_pay16 (F := Ideal) rm q kt b : FVec Ideal S128x640 .f32) (ix2 a j) =
      ∑ l : Fin 128, q (ix2 a l) * kt (ix2 l j) + (b (ix3 0 a j) + rm (ix2 a j)) := by
  pointwise [k0_pay16]

/-- The first pair of rows of keys, as the kernel counts it. -/
def pairWord (r : Nat) : BitVec 32 :=
  Scalar.minsi 27#32 (Scalar.maxsi 0#32 (Scalar.subi (BitVec.ofNat 32 r) 2#32))

/-- The row mask of the `r`-th pair of rows of queries. -/
def rowMask (r : Nat) : FVec Ideal S128x640 .f32 :=
  k0_pay12 (F := Ideal) (pairWord r) (iota .tc S128x640 32 [1] iota_S128x640_d1_w32)
    (Scalar.muli 2#32 (BitVec.ofNat 32 r)) k0_pay11

theorem pairWord_eq : ∀ r : Fin 32, pairWord r.val = BitVec.ofNat 32 (firstPair r.val) := by
  decide +kernel

/-- The second row of the block begins at query 64. -/
theorem second_row : ∀ a : Fin 128,
    Scalar.select (IntOp.cmpi .sge (BitVec.ofNat 32 a.val) 64#32) 1#32 0#32 = BitVec.ofNat 32 (a.val / 64) := by
  decide +kernel

theorem key_row : ∀ j : Fin 640,
    IntOp.shrui ArithUnit.vector (BitVec.ofNat 32 j.val) 6#32 = BitVec.ofNat 32 (j.val / 64) := by
  decide +kernel

/-- The kernel's comparison of rows, over the 32 pairs of rows, 2 rows of queries and 10 rows of keys. -/
theorem rows_word : ∀ (r : Fin 32) (x : Fin 2) (w : Fin 10),
    IntOp.andi
      (IntOp.cmpi .sge
        (IntOp.addi (Scalar.muli 2#32 (BitVec.ofNat 32 (firstPair r.val))) (BitVec.ofNat 32 w.val))
        (IntOp.minsi 56#32 (IntOp.maxsi 0#32 (IntOp.subi
          (IntOp.addi (Scalar.muli 2#32 (BitVec.ofNat 32 r.val)) (BitVec.ofNat 32 x.val)) 4#32))))
      (IntOp.cmpi .slt
        (IntOp.addi (Scalar.muli 2#32 (BitVec.ofNat 32 (firstPair r.val))) (BitVec.ofNat 32 w.val))
        (IntOp.addi (IntOp.minsi 56#32 (IntOp.maxsi 0#32 (IntOp.subi
          (IntOp.addi (Scalar.muli 2#32 (BitVec.ofNat 32 r.val)) (BitVec.ofNat 32 x.val)) 4#32))) 8#32)) =
      if min 56 (2 * r.val + x.val - 4) ≤ 2 * firstPair r.val + w.val ∧
          2 * firstPair r.val + w.val < min 56 (2 * r.val + x.val - 4) + 8 then 1#1 else 0#1 := by
  decide +kernel

theorem rowMask_at (r : Fin 32) (a : Fin 128) (j : Fin 640) :
    rowMask r.val (ix2 a j) = if rowOk r.val a.val j.val then 0 else ⊥ := by
  have hx : a.val / 64 < 2 := by omega
  have hw : j.val / 64 < 10 := by omega
  have e := rows_word r ⟨a.val / 64, hx⟩ ⟨j.val / 64, hw⟩
  dsimp only at e
  unfold rowMask
  pointwise [k0_pay12, k0_pay11]
  rw [second_row, key_row, pairWord_eq, e]
  by_cases h : rowOk r.val a.val j.val
  · rw [if_pos h]; unfold rowOk at h; rw [if_pos h]; rfl
  · rw [if_neg h]; unfold rowOk at h; rw [if_neg h]; rfl
end Attn
-- ==== Proof.Windows.lean ====
module
public import proofs.«01_k».proof.Proof.Block
/-! The result array of the kernel, at each of its elements, in terms of the arrays that the host
prepares for it: the two masked copies of the queries, the transposed keys, the values, the bias. -/
@[expose] public section
set_option maxRecDepth 16384
noncomputable section
namespace Attn
open Cert.KernelIdeal Cert.KernelIdeal.Gen Idealize.ShloMosaic Idealize.ShloMosaic.TcCoe Idealize.SL.Sem
variable (m : (l : Loc nD τ sig) → Buf (Elt Ideal) l) (c : Dev nD)

/-- The batch and the pair of rows that a grid point treats. -/
abbrev bat (t : Fin cfg0.N) : Nat := (grid0.coords t 0).val
abbrev pr (t : Fin cfg0.N) : Nat := (grid0.coords t 1).val

theorem bat_lt : ∀ t : Fin cfg0.N, bat t < 16 := (by decide +kernel : ∀ t : Fin grid0.N, (grid0.coords t 0).val < 16)
theorem pr_lt : ∀ t : Fin cfg0.N, pr t < 32 := (by decide +kernel : ∀ t : Fin grid0.N, (grid0.coords t 1).val < 32)

theorem firstPair_le (r : Nat) : firstPair r ≤ 27 := by unfold firstPair; omega
theorem firstPair_off (r : Nat) (h : r < 32) : firstPair r + 4 - r ≤ 4 := by unfold firstPair; omega

/-- The arrays the host hands to the kernel. -/
abbrev qLo : FVec Ideal S65536x512 .bf16 := V m c main_v6
abbrev qHi : FVec Ideal S65536x512 .bf16 := V m c main_v12
abbrev kT : FVec Ideal S512x65536 .bf16 := V m c main_v15
abbrev vF : FVec Ideal S65536x512 .bf16 := V m c main_v17
abbrev bias : FVec Ideal S8x128x1152 .f32 := V m c main_v243

/-- The copy of the queries that holds head `h`. -/
def qOf (h : Nat) : FVec Ideal S65536x512 .bf16 := if h % 2 = 0 then qLo m c else qHi m c

/-- The score of query `a` of the block against the key in slot `j` of its window, for head `h`. -/
def scoreOf (b r : Nat) (hb : b < 16) (hr : r < 32) (h : Fin 8) (a : Fin 128) (j : Fin 640) : EReal :=
  ∑ l : Fin 128,
    qOf m c h.val (ix2 (⟨(b * 32 + r) * 128 + a.val, by omega⟩ : Fin 65536) (⟨h.val / 2 * 128 + l.val, by omega⟩ : Fin 512)) *
      kT m c (ix2 (⟨h.val / 2 * 128 + l.val, by omega⟩ : Fin 512)
        (⟨(b * 32 + firstPair r) * 128 + j.val, by have := firstPair_le r; omega⟩ : Fin 65536)) +
    (bias m c (ix3 h a (⟨(firstPair r + 4 - r) * 128 + j.val, by have := firstPair_off r hr; omega⟩ : Fin 1152)) +
      if rowOk r a.val j.val then 0 else ⊥)

/-- The value in slot `j` of the window. -/
def valueOf (b r : Nat) (hb : b < 16) (col : Fin 512) (j : Fin 640) : EReal :=
  vF m c (ix2 (⟨(b * 32 + firstPair r) * 128 + j.val, by have := firstPair_le r; omega⟩ : Fin 65536) col)

/-- The kernel's result for query `n` and column `col`. -/
def outOf (n : Fin 65536) (col : Fin 512) : EReal :=
  mean (scoreOf m c (n.val / 4096) (n.val % 4096 / 128) (by omega) (by omega)
      (⟨col.val / 64, by omega⟩ : Fin 8) (⟨n.val % 128, by omega⟩ : Fin 128))
    (valueOf m c (n.val / 4096) (n.val % 4096 / 128) (by omega) col)

theorem idx0 : ∀ t : Fin cfg0.N, win0_0.index t = ![bat t * 32 + pr t, 0] :=
  (by decide +kernel : ∀ t : Fin grid0.N, _)
theorem blk0 (t : Fin cfg0.N) (x : S128x512.Idx) (i : S65536x512.Idx)
    (h0 : (i 0).val = (bat t * 32 + pr t) * 128 + (x 0).val) (h1 : (i 1).val = (x 1).val) :
    iblk m c 0 t x = (V m c main_v6 : FVec Ideal S65536x512 .bf16) i := by
  blk_ext [iblk, idx0 t]
theorem idx1 : ∀ t : Fin cfg0.N, win0_1.index t = ![bat t * 32 + pr t, 0] :=
  (by decide +kernel : ∀ t : Fin grid0.N, _)
theorem blk1 (t : Fin cfg0.N) (x : S128x512.Idx) (i : S65536x512.Idx)
    (h0 : (i 0).val = (bat t * 32 + pr t) * 128 + (x 0).val) (h1 : (i 1).val = (x 1).val) :
    iblk m c 1 t x = (V m c main_v12 : FVec Ideal S65536x512 .bf16) i := by
  blk_ext [iblk, idx1 t]
theorem idx2 : ∀ t : Fin cfg0.N, win0_2.index t = ![0, bat t * 32 + firstPair (pr t) + 0] :=
  (by decide +kernel : ∀ t : Fin grid0.N, _)
theorem blk2 (t : Fin cfg0.N) (x : S512x128.Idx) (i : S512x65536.Idx)
    (h0 : (i 0).val = (x 0).val) (h1 : (i 1).val = (bat t * 32 + firstPair (pr t)) * 128 + (0 + (x 1).val)) :
    iblk m c 2 t x = (V m c main_v15 : FVec Ideal S512x65536 .bf16) i := by
  blk_ext [iblk, idx2 t]
theorem idx3 : ∀ t : Fin cfg0.N, win0_3.index t = ![0, bat t * 32 + firstPair (pr t) + 1] :=
  (by decide +kernel : ∀ t : Fin grid0.N, _)
theorem blk3 (t : Fin cfg0.N) (x : S512x128.Idx) (i : S512x65536.Idx)
    (h0 : (i 0).val = (x 0).val) (h1 : (i 1).val = (bat t * 32 + firstPair (pr t)) * 128 + (128 + (x 1).val)) :
    iblk m c 3 t x = (V m c main_v15 : FVec Ideal S512x65536 .bf16) i := by
  blk_ext [iblk, idx3 t]
theorem idx4 : ∀ t : Fin cfg0.N, win0_4.index t = ![0, bat t * 32 + firstPair (pr t) + 2] :=
  (by decide +kernel : ∀ t : Fin grid0.N, _)
theorem blk4 (t : Fin cfg0.N) (x : S512x128.Idx) (i : S512x65536.Idx)
    (h0 : (i 0).val = (x 0).val) (h1 : (i 1).val = (bat t * 32 + firstPair (pr t)) * 128 + (256 + (x 1).val)) :
    iblk m c 4 t x = (V m c main_v15 : FVec Ideal S512x65536 .bf16) i := by
  blk_ext [iblk, idx4 t]
theorem idx5 : ∀ t : Fin cfg0.N, win0_5.index t = ![0, bat t * 32 + firstPair (pr t) + 3] :=
  (by decide +kernel : ∀ t : Fin grid0.N, _)
theorem blk5 (t : Fin cfg0.N) (x : S512x128.Idx) (i : S512x65536.Idx)
    (h0 : (i 0).val = (x 0).val) (h1 : (i 1).val = (bat t * 32 + firstPair (pr t)) * 128 + (384 + (x 1).val)) :
    iblk m c 5 t x = (V m c main_v15 : FVec Ideal S512x65536 .bf16) i := by
  blk_ext [iblk, idx5 t]
theorem idx6 : ∀ t : Fin cfg0.N, win0_6.index t = ![0, bat t * 32 + firstPair (pr t) + 4] :=
  (by decide +kernel : ∀ t : Fin grid0.N, _)
theorem blk6 (t : Fin cfg0.N) (x : S512x128.Idx) (i : S512x65536.Idx)
    (h0 : (i 0).val = (x 0).val) (h1 : (i 1).val = (bat t * 32 + firstPair (pr t)) * 128 + (512 + (x 1).val)) :
    iblk m c 6 t x = (V m c main_v15 : FVec Ideal S512x65536 .bf16) i := by
  blk_ext [iblk, idx6 t]
theorem idx7 : ∀ t : Fin cfg0.N, win0_7.index t = ![bat t * 32 + firstPair (pr t) + 0, 0] :=
  (by decide +kernel : ∀ t : Fin grid0.N, _)
theorem blk7 (t : Fin cfg0.N) (x : S128x512.Idx) (i : S65536x512.Idx)
    (h0 : (i 0).val = (bat t * 32 + firstPair (pr t)) * 128 + (0 + (x 0).val)) (h1 : (i 1).val = (x 1).val) :
    iblk m c 7 t x = (V m c main_v17 : FVec Ideal S65536x512 .bf16) i := by
  blk_ext [iblk, idx7 t]
theorem idx8 : ∀ t : Fin cfg0.N, win0_8.index t = ![bat t * 32 + firstPair (pr t) + 1, 0] :=
  (by decide +kernel : ∀ t : Fin grid0.N, _)
theorem blk8 (t : Fin cfg0.N) (x : S128x512.Idx) (i : S65536x512.Idx)
    (h0 : (i 0).val = (bat t * 32 + firstPair (pr t)) * 128 + (128 + (x 0).val)) (h1 : (i 1).val = (x 1).val) :
    iblk m c 8 t x = (V m c main_v17 : FVec Ideal S65536x512 .bf16) i := by
  blk_ext [iblk, idx8 t]
theorem idx9 : ∀ t : Fin cfg0.N, win0_9.index t = ![bat t * 32 + firstPair (pr t) + 2, 0] :=
  (by decide +kernel : ∀ t : Fin grid0.N, _)
theorem blk9 (t : Fin cfg0.N) (x : S128x512.Idx) (i : S65536x512.Idx)
    (h0 : (i 0).val = (bat t * 32 + firstPair (pr t)) * 128 + (256 + (x 0).val)) (h1 : (i 1).val = (x 1).val) :
    iblk m c 9 t x = (V m c main_v17 : FVec Ideal S65536x512 .bf16) i := by
  blk_ext [iblk, idx9 t]
theorem idx10 : ∀ t : Fin cfg0.N, win0_10.index t = ![bat t * 32 + firstPair (pr t) + 3, 0] :=
  (by decide +kernel : ∀ t : Fin grid0.N, _)
theorem blk10 (t : Fin cfg0.N) (x : S128x512.Idx) (i : S65536x512.Idx)
    (h0 : (i 0).val = (bat t * 32 + firstPair (pr t)) * 128 + (384 + (x 0).val)) (h1 : (i 1).val = (x 1).val) :
    iblk m c 10 t x = (V m c main_v17 : FVec Ideal S65536x512 .bf16) i := by
  blk_ext [iblk, idx10 t]
theorem idx11 : ∀ t : Fin cfg0.N, win0_11.index t = ![bat t * 32 + firstPair (pr t) + 4, 0] :=
  (by decide +kernel : ∀ t : Fin grid0.N, _)
theorem blk11 (t : Fin cfg0.N) (x : S128x512.Idx) (i : S65536x512.Idx)
    (h0 : (i 0).val = (bat t * 32 + firstPair (pr t)) * 128 + (512 + (x 0).val)) (h1 : (i 1).val = (x 1).val) :
    iblk m c 11 t x = (V m c main_v17 : FVec Ideal S65536x512 .bf16) i := by
  blk_ext [iblk, idx11 t]
theorem idx12 : ∀ t : Fin cfg0.N, win0_12.index t = ![0, 0, 0] :=
  (by decide +kernel : ∀ t : Fin grid0.N, _)
theorem blk12 (t : Fin cfg0.N) (x : S8x128x1152.Idx) : iblk m c 12 t x = bias m c x := by
  blk_ext [iblk, idx12 t]
theorem idx13 : ∀ t : Fin cfg0.N, win0_13.index t = ![bat t * 32 + pr t, 0] :=
  (by decide +kernel : ∀ t : Fin grid0.N, _)
theorem off1 : ∀ t : Fin cfg0.N, k0_off1 (grid0.coords t) = ![0, 0, (firstPair (pr t) + 4 - pr t) * 128] :=
  (by decide +kernel : ∀ t : Fin grid0.N, _)
theorem off2 : ∀ t : Fin cfg0.N, k0_off2 (grid0.coords t) = ![1, 0, (firstPair (pr t) + 4 - pr t) * 128] :=
  (by decide +kernel : ∀ t : Fin grid0.N, _)
theorem off3 : ∀ t : Fin cfg0.N, k0_off3 (grid0.coords t) = ![2, 0, (firstPair (pr t) + 4 - pr t) * 128] :=
  (by decide +kernel : ∀ t : Fin grid0.N, _)
theorem off4 : ∀ t : Fin cfg0.N, k0_off4 (grid0.coords t) = ![3, 0, (firstPair (pr t) + 4 - pr t) * 128] :=
  (by decide +kernel : ∀ t : Fin grid0.N, _)
theorem off5 : ∀ t : Fin cfg0.N, k0_off5 (grid0.coords t) = ![4, 0, (firstPair (pr t) + 4 - pr t) * 128] :=
  (by decide +kernel : ∀ t : Fin grid0.N, _)
theorem off6 : ∀ t : Fin cfg0.N, k0_off6 (grid0.coords t) = ![5, 0, (firstPair (pr t) + 4 - pr t) * 128] :=
  (by decide +kernel : ∀ t : Fin grid0.N, _)
theorem off7 : ∀ t : Fin cfg0.N, k0_off7 (grid0.coords t) = ![6, 0, (firstPair (pr t) + 4 - pr t) * 128] :=
  (by decide +kernel : ∀ t : Fin grid0.N, _)
theorem off8 : ∀ t : Fin cfg0.N, k0_off8 (grid0.coords t) = ![7, 0, (firstPair (pr t) + 4 - pr t) * 128] :=
  (by decide +kernel : ∀ t : Fin grid0.N, _)
end Attn
-- ==== Proof.Reference.lean ====
module
public import proofs.«01_k».proof.Proof.Gen.ReferenceIdeal.Read
public import Idealize.ShloMosaic.Lib.Pointwise
/-! The reference's result, read at an element: the softmax-weighted mean of all 4096 values of a batch,
where a key outside the query's window has the score `⊥`. -/
@[expose] public section
set_option maxRecDepth 16384
noncomputable section
namespace Attn.Ref
open Cert.ReferenceIdeal Cert.ReferenceIdeal.Gen Cert.ReferenceIdeal.Read Idealize.ShloMosaic
  Idealize.ShloMosaic.TcCoe Idealize.SL.Sem Idealize.ShloMosaic.StableHlo

/-- Rows: whether key row `i` lies in the clamped window of eight rows of query row `r`. -/
def rowIn (r i : Nat) : Prop := min 56 (r - 4) ≤ i ∧ i < min 56 (r - 4) + 8
/-- Columns: whether key column `j` lies in the clamped window of sixteen columns of query column `c`. -/
def colIn (c j : Nat) : Prop := min 48 (c - 8) ≤ j ∧ j < min 48 (c - 8) + 16
instance (r i : Nat) : Decidable (rowIn r i) := by unfold rowIn; infer_instance
instance (r i : Nat) : Decidable (colIn r i) := by unfold colIn; infer_instance

/-- The row half of the reference's mask. -/
theorem rowBit (r i : Fin 64) :
    (val_main_v22 (F := Ideal) : IVec S64x64 1) (ix2 r i) = if rowIn r.val i.val then 1#1 else 0#1 := by
  pointwise [val_main_v0, val_main_v1, val_main_v2, val_main_v3, val_main_v4, val_main_v5, val_main_v6, val_main_v7, val_main_c, val_main_v8, val_main_v9, val_main_c_0, val_main_c_1, val_main_call0_v0, val_main_call0_v1, val_main_call0_v2, val_main_call0_v3, val_main_call0_v4, val_main_v10, val_main_c_2, val_main_v11, val_main_v12, val_main_c_3, val_main_c_4, val_main_call1_v0, val_main_call1_v1, val_main_call1_v2, val_main_call1_v3, val_main_call1_v4, val_main_v13, val_main_v14, val_main_v15, val_main_v16, val_main_c_5, val_main_v17, val_main_v18, val_main_v19, val_main_v20, val_main_v21, val_main_v22]
  revert r i
  decide +kernel

/-- The column half of the reference's mask. -/
theorem colBit (r i : Fin 64) :
    (val_main_v31 (F := Ideal) : IVec S64x64 1) (ix2 r i) = if colIn r.val i.val then 1#1 else 0#1 := by
  pointwise [val_main_v0, val_main_v1, val_main_v2, val_main_v3, val_main_v4, val_main_v5, val_main_v6, val_main_v7, val_main_c, val_main_v8, val_main_v9, val_main_c_0, val_main_c_1, val_main_call0_v0, val_main_call0_v1, val_main_call0_v2, val_main_call0_v3, val_main_call0_v4, val_main_v10, val_main_c_2, val_main_v11, val_main_v12, val_main_c_3, val_main_c_4, val_main_call1_v0, val_main_call1_v1, val_main_call1_v2, val_main_call1_v3, val_main_call1_v4, val_main_v13, val_main_v14, val_main_v15, val_main_v16, val_main_c_5, val_main_v17, val_main_v18, val_main_v19, val_main_v20, val_main_v21, val_main_v22, val_main_v23, val_main_v24, val_main_v25, val_main_c_6, val_main_v26, val_main_v27, val_main_v28, val_main_v29, val_main_v30, val_main_v31]
  revert r i
  decide +kernel

/-- The first look-up's index: the clipped difference of the rows. -/
theorem rowOff (r i : Fin 64) :
    ((val_main_v53 (F := Ideal) : IVec S64x64x1 32) (ix3 r i 0)).toInt.toNat = min 14 (i.val + 7 - r.val) := by
  pointwise [val_main_v0, val_main_v1, val_main_v2, val_main_v3, val_main_v4, val_main_v5, val_main_v6, val_main_v7, val_main_c, val_main_v8, val_main_v9, val_main_c_0, val_main_c_1, val_main_call0_v0, val_main_call0_v1, val_main_call0_v2, val_main_call0_v3, val_main_call0_v4, val_main_v10, val_main_c_2, val_main_v11, val_main_v12, val_main_c_3, val_main_c_4, val_main_call1_v0, val_main_call1_v1, val_main_call1_v2, val_main_call1_v3, val_main_call1_v4, val_main_v13, val_main_v14, val_main_v15, val_main_v16, val_main_c_5, val_main_v17, val_main_v18, val_main_v19, val_main_v20, val_main_v21, val_main_v22, val_main_v23, val_main_v24, val_main_v25, val_main_c_6, val_main_v26, val_main_v27, val_main_v28, val_main_v29, val_main_v30, val_main_v31, val_main_v32, val_main_v33, val_main_v34, val_main_c_7, val_main_c_8, val_main_call2_v0, val_main_call2_v1, val_main_call2_v2, val_main_call2_v3, val_main_call2_v4, val_main_v35, val_main_c_9, val_main_v36, val_main_v37, val_main_c_10, val_main_v38, val_main_v39, val_main_v40, val_main_v41, val_main_v42, val_main_c_11, val_main_c_12, val_main_call3_v0, val_main_call3_v1, val_main_call3_v2, val_main_call3_v3, val_main_call3_v4, val_main_v43, val_main_c_13, val_main_v44, val_main_v45, val_main_c_14, val_main_v46, val_main_v47, val_main_c_15, val_main_v48, val_main_v49, val_main_c_16, val_main_v50, val_main_v51, val_main_v52, val_main_v53]
  revert r i
  decide +kernel

/-- The second look-up's index: the clipped difference of the columns. -/
theorem colOff (r i : Fin 64) :
    ((val_main_v60 (F := Ideal) : IVec S64x64x1 32) (ix3 r i 0)).toInt.toNat = min 30 (i.val + 15 - r.val) := by
  pointwise [val_main_v0, val_main_v1, val_main_v2, val_main_v3, val_main_v4, val_main_v5, val_main_v6, val_main_v7, val_main_c, val_main_v8, val_main_v9, val_main_c_0, val_main_c_1, val_main_call0_v0, val_main_call0_v1, val_main_call0_v2, val_main_call0_v3, val_main_call0_v4, val_main_v10, val_main_c_2, val_main_v11, val_main_v12, val_main_c_3, val_main_c_4, val_main_call1_v0, val_main_call1_v1, val_main_call1_v2, val_main_call1_v3, val_main_call1_v4, val_main_v13, val_main_v14, val_main_v15, val_main_v16, val_main_c_5, val_main_v17, val_main_v18, val_main_v19, val_main_v20, val_main_v21, val_main_v22, val_main_v23, val_main_v24, val_main_v25, val_main_c_6, val_main_v26, val_main_v27, val_main_v28, val_main_v29, val_main_v30, val_main_v31, val_main_v32, val_main_v33, val_main_v34, val_main_c_7, val_main_c_8, val_main_call2_v0, val_main_call2_v1, val_main_call2_v2, val_main_call2_v3, val_main_call2_v4, val_main_v35, val_main_c_9, val_main_v36, val_main_v37, val_main_c_10, val_main_v38, val_main_v39, val_main_v40, val_main_v41, val_main_v42, val_main_c_11, val_main_c_12, val_main_call3_v0, val_main_call3_v1, val_main_call3_v2, val_main_call3_v3, val_main_call3_v4, val_main_v43, val_main_c_13, val_main_v44, val_main_v45, val_main_c_14, val_main_v46, val_main_v47, val_main_c_15, val_main_v48, val_main_v49, val_main_c_16, val_main_v50, val_main_v51, val_main_v52, val_main_v53, val_main_c_17, val_main_v55, val_main_v56, val_main_c_18, val_main_v57, val_main_v58, val_main_v59, val_main_v60]
  revert r i
  decide +kernel

/-- The first look-up, by the difference of the rows. -/
theorem gather_rows (x : FVec Ideal S8x15x31 .f32) (w : IVec S64x64x1 32) (h : Fin 8) (r i : Fin 64) (e : Fin 31) :
    Host.gather gather_S8x15x31_S64x64x1_S8x64x64x31_03_1_n_n_1_2_8131 x w (ix4 h r i e) =
      x (ix3 h (⟨min (w (ix3 r i 0)).toInt.toNat 14, by omega⟩ : Fin 15) e) := by
  let d := gather_S8x15x31_S64x64x1_S8x64x64x31_03_1_n_n_1_2_8131
  let j : S8x64x64x31.Idx := ix4 h r i e
  have hs : d.siIdx j ⟨List.idxOf (1 : Fin 3) d.startIndexMap, List.idxOf_lt_length_iff.2 (by decide)⟩ = ix3 r i 0 := by
    funext b
    refine Fin.ext ?_
    match b with
    | ⟨0, _⟩ => rfl
    | ⟨1, _⟩ => rfl
    | ⟨2, _⟩ => rfl
  have h0 : d.start j w 0 + d.batchCoord j 0 + d.offCoord j 0 = h.val := by
    rw [GatherDims.start, dif_neg (by decide), GatherDims.batchCoord_eq_zero _ _ _ (by decide), GatherDims.offCoord,
      dif_pos (by decide), Nat.zero_add]
    rfl
  have h1 : d.start j w 1 + d.batchCoord j 1 + d.offCoord j 1 = min (w (ix3 r i 0)).toInt.toNat 14 := by
    rw [GatherDims.start, dif_pos (by decide), GatherDims.batchCoord_eq_zero _ _ _ (by decide), GatherDims.offCoord,
      dif_neg (by decide), hs]
    rfl
  have h2 : d.start j w 2 + d.batchCoord j 2 + d.offCoord j 2 = e.val := by
    rw [GatherDims.start, dif_neg (by decide), GatherDims.batchCoord_eq_zero _ _ _ (by decide), GatherDims.offCoord,
      dif_pos (by decide), Nat.zero_add]
    rfl
  unfold Host.gather
  congr 1
  funext a
  refine Fin.ext ?_
  match a with
  | ⟨0, _⟩ => exact h0
  | ⟨1, _⟩ => exact h1
  | ⟨2, _⟩ => exact h2

/-- The second look-up, by the difference of the columns. -/
theorem gather_cols (x : FVec Ideal S8x64x64x31 .f32) (w : IVec S64x64x1 32) (h : Fin 8) (r i c k : Fin 64) :
    Host.gather gather_S8x64x64x31_S64x64x1_S8x64x64x64x64_012_3_n_n_3_2_864641 x w (ix5 h r i c k) =
      x (ix4 h r i (⟨min (w (ix3 c k 0)).toInt.toNat 30, by omega⟩ : Fin 31)) := by
  let d := gather_S8x64x64x31_S64x64x1_S8x64x64x64x64_012_3_n_n_3_2_864641
  let j : S8x64x64x64x64.Idx := ix5 h r i c k
  have hs : d.siIdx j ⟨List.idxOf (3 : Fin 4) d.startIndexMap, List.idxOf_lt_length_iff.2 (by decide)⟩ = ix3 c k 0 := by
    funext b
    refine Fin.ext ?_
    match b with
    | ⟨0, _⟩ => rfl
    | ⟨1, _⟩ => rfl
    | ⟨2, _⟩ => rfl
  have h0 : d.start j w 0 + d.batchCoord j 0 + d.offCoord j 0 = h.val := by
    rw [GatherDims.start, dif_neg (by decide), GatherDims.batchCoord_eq_zero _ _ _ (by decide), GatherDims.offCoord,
      dif_pos (by decide), Nat.zero_add]
    rfl
  have h1 : d.start j w 1 + d.batchCoord j 1 + d.offCoord j 1 = r.val := by
    rw [GatherDims.start, dif_neg (by decide), GatherDims.batchCoord_eq_zero _ _ _ (by decide), GatherDims.offCoord,
      dif_pos (by decide), Nat.zero_add]
    rfl
  have h2 : d.start j w 2 + d.batchCoord j 2 + d.offCoord j 2 = i.val := by
    rw [GatherDims.start, dif_neg (by decide), GatherDims.batchCoord_eq_zero _ _ _ (by decide), GatherDims.offCoord,
      dif_pos (by decide), Nat.zero_add]
    rfl
  have h3 : d.start j w 3 + d.batchCoord j 3 + d.offCoord j 3 = min (w (ix3 c k 0)).toInt.toNat 30 := by
    rw [GatherDims.start, dif_pos (by decide), GatherDims.batchCoord_eq_zero _ _ _ (by decide), GatherDims.offCoord,
      dif_neg (by decide), hs]
    rfl
  unfold Host.gather
  congr 1
  funext a
  refine Fin.ext ?_
  match a with
  | ⟨0, _⟩ => exact h0
  | ⟨1, _⟩ => exact h1
  | ⟨2, _⟩ => exact h2
  | ⟨3, _⟩ => exact h3

theorem ix3_congr {n0 n1 n2 : Nat} {a a' : Fin n0} {b b' : Fin n1} {d d' : Fin n2} (ha : a.val = a'.val)
    (hb : b.val = b'.val) (hd : d.val = d'.val) : ix3 a b d = ix3 a' b' d' := by
  rw [Fin.ext ha, Fin.ext hb, Fin.ext hd]

/-- The bias of query `q` towards key `k`, by the clipped differences of their rows and columns. -/
theorem bias_at (x : FVec Ideal S8x15x31 .f32) (h : Fin 8) (q k : Fin 4096) :
    (val_main_v63 (F := Ideal) x : FVec Ideal S8x4096x4096 .f32) (ix3 h q k) =
      x (ix3 h (⟨min 14 (k.val / 64 + 7 - q.val / 64), by omega⟩ : Fin 15)
        (⟨min 30 (k.val % 64 + 15 - q.val % 64), by omega⟩ : Fin 31)) := by
  pointwise [val_main_v63, val_main_v62]
  unfold val_main_v61
  rw [gather_cols]
  unfold val_main_v54
  rw [gather_rows]
  refine congrArg x (ix3_congr rfl ?_ ?_)
  · show min (BitVec.toInt _).toNat 14 = _
    rw [rowOff]; dsimp only; omega
  · show min (BitVec.toInt _).toNat 30 = _
    rw [colOff]; dsimp only; omega

/-- Whether key `k` lies in the window of query `q`. -/
theorem mask_at (q k : Fin 4096) :
    (val_main_v69 (F := Ideal) : IVec S4096x4096 1) (ix2 q k) =
      if rowIn (q.val / 64) (k.val / 64) ∧ colIn (q.val % 64) (k.val % 64) then 1#1 else 0#1 := by
  pointwise [val_main_v69, val_main_v68, val_main_v67, val_main_v66, val_main_v65, val_main_v64]
  rw [rowBit, colBit]
  by_cases h1 : rowIn (q.val / 64) (k.val / 64) <;> by_cases h2 : colIn (q.val % 64) (k.val % 64) <;>
    simp only [h1, h2, if_true, if_false, and_true, and_false] <;> rfl

end Attn.Ref
-- ==== Proof.Softmax.lean ====
module

public import Idealize.ShloMosaic.PureOps.Ideal
public import Mathlib.Data.EReal.Operations
public import Mathlib.Data.EReal.Inv
public import Mathlib.Algebra.BigOperators.Fin

@[expose] public section

/-! # A softmax over a window and the softmax over everything with the rest at −∞

A query's weights over the keys of its window, normalised at the end by one multiplication with the reciprocal of
their sum, give the same weighted mean as a softmax over all keys in which every key outside the window has score −∞.
The scores are real numbers or −∞ and at least one is real; the values are arbitrary extended reals. -/

namespace Attn

open Idealize.ShloMosaic

/-- A finite nonnegative factor moves into a sum of extended reals. -/
theorem sum_mul_const {ι : Type*} (u : Finset ι) (f : ι → EReal) (c : EReal) (h0 : 0 ≤ c) (ht : c ≠ ⊤) :
    (∑ i ∈ u, f i) * c = ∑ i ∈ u, f i * c := by
  classical
  induction u using Finset.induction_on with
  | empty => simp
  | insert a u ha ih =>
    rw [Finset.sum_insert ha, Finset.sum_insert ha, EReal.right_distrib_of_nonneg_of_ne_top h0 ht, ih]

/-- A sum of real numbers, read as extended reals, is the extended real of the sum. -/
theorem coe_sum {ι : Type*} (u : Finset ι) (f : ι → ℝ) : ((∑ i ∈ u, f i : ℝ) : EReal) = ∑ i ∈ u, (f i : EReal) := by
  classical
  induction u using Finset.induction_on with
  | empty => simp
  | insert a u ha ih => rw [Finset.sum_insert ha, Finset.sum_insert ha, EReal.coe_add, ih]

/-- A running maximum from −∞ is the supremum. -/
theorem fold_max_eq_sup {ι : Type*} [Fintype ι] (f : ι → EReal) :
    Finset.univ.fold max ⊥ f = Finset.univ.sup f := rfl

section

variable {ι κ : Type*} [Fintype ι] [Fintype κ]

/-- The exponential weights of scores that are real or −∞ are nonnegative real numbers, and at the largest score the
weight is one, so that their sum is a positive real number. -/
theorem weights (S : κ → EReal) (htop : ∀ k, S k ≠ ⊤) (hex : ∃ k, S k ≠ ⊥) :
    ∃ P : κ → ℝ, (∀ k, Ideal.exp (S k - Finset.univ.sup S) = (P k : EReal)) ∧ (∀ k, S k = ⊥ → P k = 0) ∧ 0 < ∑ k, P k := by
  obtain ⟨k₀, hk₀⟩ := hex
  obtain ⟨k₁, -, hk₁⟩ := Finset.exists_mem_eq_sup Finset.univ ⟨k₀, Finset.mem_univ _⟩ S
  have hle : S k₀ ≤ Finset.univ.sup S := Finset.le_sup (Finset.mem_univ _)
  have hb : Finset.univ.sup S ≠ ⊥ := fun h => hk₀ (le_bot_iff.mp (h ▸ hle))
  have ht : Finset.univ.sup S ≠ ⊤ := hk₁ ▸ htop k₁
  obtain ⟨M, hM⟩ : ∃ M : ℝ, Finset.univ.sup S = (M : EReal) := ⟨_, (EReal.coe_toReal ht hb).symm⟩
  rw [hM] at hk₁ ⊢
  refine ⟨fun k => if S k = ⊥ then 0 else Real.exp ((S k).toReal - M), fun k => ?_, fun k hk => if_pos hk, ?_⟩
  · by_cases hk : S k = ⊥
    · simp [hk, EReal.bot_sub]
    · obtain ⟨r, hr⟩ : ∃ r : ℝ, S k = (r : EReal) := ⟨_, (EReal.coe_toReal (htop k) hk).symm⟩
      simp only [hr, EReal.coe_ne_bot, if_false, EReal.toReal_coe, ← EReal.coe_sub]
      rfl
  · refine Finset.sum_pos' (fun k _ => ?_) ⟨k₁, Finset.mem_univ _, ?_⟩
    · split_ifs
      · exact le_rfl
      · exact (Real.exp_pos _).le
    · rw [← hk₁]; simp [Real.exp_pos]

/-- The window's weighted mean is the weighted mean over all keys, the keys outside the window having score −∞. -/
theorem window_eq_all (e : ι → κ) (he : Function.Injective e) (s v : ι → EReal) (S w : κ → EReal)
    (hs : ∀ i, s i = S (e i)) (hv : ∀ i, v i = w (e i)) (hoff : ∀ k, (∀ i, e i ≠ k) → S k = ⊥)
    (htop : ∀ k, S k ≠ ⊤) (hex : ∃ k, S k ≠ ⊥) :
    (∑ i, Ideal.exp (s i - Finset.univ.sup s) * v i) * Ideal.div 1 (∑ i, Ideal.exp (s i - Finset.univ.sup s))
      = ∑ k, w k * Ideal.div (Ideal.exp (S k - Finset.univ.sup S)) (∑ k, Ideal.exp (S k - Finset.univ.sup S)) := by
  classical
  obtain ⟨P, hP, hP0, hL⟩ := weights S htop hex
  have hsup : Finset.univ.sup s = Finset.univ.sup S := by
    refine le_antisymm (Finset.sup_le fun i _ => hs i ▸ Finset.le_sup (Finset.mem_univ _)) (Finset.sup_le fun k _ => ?_)
    by_cases hk : ∃ i, e i = k
    · obtain ⟨i, rfl⟩ := hk; rw [← hs i]; exact Finset.le_sup (Finset.mem_univ _)
    · rw [hoff k fun i hi => hk ⟨i, hi⟩]; exact bot_le
  have hp : ∀ i, Ideal.exp (s i - Finset.univ.sup s) = (P (e i) : EReal) := fun i => by rw [hsup, hs i, hP]
  have hall : ∀ f : κ → EReal, (∀ k, (∀ i, e i ≠ k) → f k = 0) → ∑ i, f (e i) = ∑ k, f k := fun f hf =>
    Finset.sum_of_injOn e he.injOn (fun _ _ => Finset.mem_univ _)
      (fun k _ hk => hf k fun i hi => hk ⟨i, Finset.mem_coe.mpr (Finset.mem_univ _), hi⟩) fun _ _ => rfl
  have hsum : ∑ i, (P (e i) : EReal) = ((∑ k, P k : ℝ) : EReal) := by
    rw [coe_sum]
    exact hall (fun k => (P k : EReal)) fun k hk => by rw [hP0 k (hoff k hk)]; rfl
  simp only [hp, hP, hsum, ← coe_sum, Ideal.div_coe hL.ne', one_mul]
  rw [sum_mul_const _ _ _ (EReal.coe_nonneg.mpr (one_div_pos.mpr hL).le) (EReal.coe_ne_top _)]
  simp only [hv]
  rw [hall (fun k => (P k : EReal) * w k * ((1 / ∑ k, P k : ℝ) : EReal)) fun k hk => by rw [hP0 k (hoff k hk)]; simp]
  exact Finset.sum_congr rfl fun k _ => by rw [mul_comm ((P k : EReal)) (w k), mul_assoc]

end

end Attn
-- ==== Proof.RefOut.lean ====
module
public import proofs.«01_k».proof.Proof.Reference
public import proofs.«01_k».proof.Proof.Softmax
public import Idealize.ShloMosaic.Lib.Pointwise
/-! The reference's result, read at an element: the softmax-weighted mean of all 4096 values of a batch,
where a key outside the query's window has the score `⊥`. -/
@[expose] public section
set_option maxRecDepth 16384
noncomputable section
namespace Attn.Ref
open Cert.ReferenceIdeal Cert.ReferenceIdeal.Gen Cert.ReferenceIdeal.Read Idealize.ShloMosaic
  Idealize.ShloMosaic.TcCoe Idealize.SL.Sem Idealize.ShloMosaic.StableHlo

/-- The score of query `q` against key `k`. -/
def score (x0 x1 : FVec Ideal S16x4096x8x64 .f32) (x3 : FVec Ideal S8x15x31 .f32) (b : Fin 16) (h : Fin 8) (q k : Fin 4096) : EReal :=
  if rowIn (q.val / 64) (k.val / 64) ∧ colIn (q.val % 64) (k.val % 64) then
    (∑ d : Fin 64, x0 (ix4 b q h d) * x1 (ix4 b k h d)) * Ideal.ofBits .f32 0x3E000000#32 +
      x3 (ix3 h (⟨min 14 (k.val / 64 + 7 - q.val / 64), by omega⟩ : Fin 15)
        (⟨min 30 (k.val % 64 + 15 - q.val % 64), by omega⟩ : Fin 31))
  else ⊥

theorem score_at (x0 x1 : FVec Ideal S16x4096x8x64 .f32) (x3 : FVec Ideal S8x15x31 .f32) (b : Fin 16) (h : Fin 8) (q k : Fin 4096) :
    (val_main_v76 (F := Ideal) x0 x1 x3 : FVec Ideal S16x8x4096x4096 .f32) (ix4 b h q k) = score x0 x1 x3 b h q k := by
  pointwise [val_main_v76, val_main_call4_v1, val_main_call4_v2, val_main_call4_v0, val_main_v75, val_main_v74, val_main_v73, val_main_v72, val_main_v71, val_main_v70, val_main_cst, val_main_cst_19]
  rw [mask_at, bias_at]
  unfold score
  by_cases hm : rowIn (q.val / 64) (k.val / 64) ∧ colIn (q.val % 64) (k.val % 64)
  · rw [if_pos hm, if_pos hm]; rfl
  · rw [if_neg hm, if_neg hm]; rfl

theorem max_at (x0 x1 : FVec Ideal S16x4096x8x64 .f32) (x3 : FVec Ideal S8x15x31 .f32) (b : Fin 16) (h : Fin 8) (q : Fin 4096) :
    (val_main_v77 (F := Ideal) x0 x1 x3 : FVec Ideal S16x8x4096 .f32) (ix3 b h q) = Finset.univ.sup fun k => score x0 x1 x3 b h q k := by
  have e : (fun k => score x0 x1 x3 b h q k) = fun k => (val_main_v76 (F := Ideal) x0 x1 x3 : FVec Ideal S16x8x4096x4096 .f32) (ix4 b h q k) :=
    funext fun k => (score_at x0 x1 x3 b h q k).symm
  rw [e]
  unfold val_main_v77 val_main_cst_20
  generalize (val_main_v76 (F := Ideal) x0 x1 x3 : FVec Ideal S16x8x4096x4096 .f32) = X
  pointwise
  have eb : Ideal.ofBits .f32 4286578688#32 = (⊥ : EReal) := rfl
  rw [eb]
  exact fold_max_eq_sup _

theorem exp_of {x y x' y' : EReal} (hy : y = y') (hx : x = x') :
    FloatOps.hostUnary (F := Ideal) (φ := .f32) .exp (FloatOps.subf (F := Ideal) (φ := .f32) x
      (FloatOps.maximumf (F := Ideal) (φ := .f32) (FloatOps.ofBits (F := Ideal) .f32 0xFF800000#32) y)) = Ideal.exp (x' - y') := by
  subst hy hx
  have eb : FloatOps.ofBits (F := Ideal) .f32 0xFF800000#32 = (⊥ : EReal) := rfl
  rw [eb]
  have em : FloatOps.maximumf (F := Ideal) (φ := .f32) (⊥ : EReal) y = y := max_eq_right bot_le
  rw [em]
  rfl

theorem exp_at (x0 x1 : FVec Ideal S16x4096x8x64 .f32) (x3 : FVec Ideal S8x15x31 .f32) (b : Fin 16) (h : Fin 8) (q k : Fin 4096) :
    (val_main_v83 (F := Ideal) x0 x1 x3 : FVec Ideal S16x8x4096x4096 .f32) (ix4 b h q k) =
      Ideal.exp (score x0 x1 x3 b h q k - Finset.univ.sup fun k => score x0 x1 x3 b h q k) := by
  have e1 := max_at x0 x1 x3 b h q
  have e2 := score_at x0 x1 x3 b h q k
  rw [val_main_v83_apply, val_main_v82_apply, val_main_v81_apply, val_main_v80_apply, val_main_v79_apply,
    val_main_v78_apply, val_main_cst_21_apply]
  have i1 : idx_main_v80 (idx_main_v81 (ix4 b h q k)) = ix3 b h q := funext fun a => match a with
    | ⟨0, _⟩ => rfl
    | ⟨1, _⟩ => rfl
    | ⟨2, _⟩ => rfl
  rw [i1]
  exact exp_of e1 e2

theorem sum_at (x0 x1 : FVec Ideal S16x4096x8x64 .f32) (x3 : FVec Ideal S8x15x31 .f32) (b : Fin 16) (h : Fin 8) (q : Fin 4096) :
    (val_main_v84 (F := Ideal) x0 x1 x3 : FVec Ideal S16x8x4096 .f32) (ix3 b h q) =
      ∑ k, Ideal.exp (score x0 x1 x3 b h q k - Finset.univ.sup fun k => score x0 x1 x3 b h q k) := by
  have e := fun k => exp_at x0 x1 x3 b h q k
  unfold val_main_v84 val_main_cst_22
  revert e
  generalize (val_main_v83 (F := Ideal) x0 x1 x3 : FVec Ideal S16x8x4096x4096 .f32) = X
  intro e
  pointwise
  exact Finset.sum_congr rfl fun k _ => e k

theorem weight_at (x0 x1 : FVec Ideal S16x4096x8x64 .f32) (x3 : FVec Ideal S8x15x31 .f32) (b : Fin 16) (h : Fin 8) (q k : Fin 4096) :
    (val_main_v87 (F := Ideal) x0 x1 x3 : FVec Ideal S16x8x4096x4096 .f32) (ix4 b h q k) =
      Ideal.div (Ideal.exp (score x0 x1 x3 b h q k - Finset.univ.sup fun k => score x0 x1 x3 b h q k))
        (∑ k, Ideal.exp (score x0 x1 x3 b h q k - Finset.univ.sup fun k => score x0 x1 x3 b h q k)) := by
  have e1 := sum_at x0 x1 x3 b h q
  have e2 := exp_at x0 x1 x3 b h q k
  unfold val_main_v87 val_main_v86 val_main_v85
  revert e1 e2
  generalize (val_main_v84 (F := Ideal) x0 x1 x3 : FVec Ideal S16x8x4096 .f32) = M
  generalize (val_main_v83 (F := Ideal) x0 x1 x3 : FVec Ideal S16x8x4096x4096 .f32) = X
  intro e1 e2
  pointwise
  rw [e1, e2]

theorem ix4_congr {n0 n1 n2 n3 : Nat} {a a' : Fin n0} {b b' : Fin n1} {d d' : Fin n2} {e e' : Fin n3} (ha : a.val = a'.val)
    (hb : b.val = b'.val) (hd : d.val = d'.val) (he : e.val = e'.val) : ix4 a b d e = ix4 a' b' d' e' := by
  rw [Fin.ext ha, Fin.ext hb, Fin.ext hd, Fin.ext he]

/-- The reference's result: for query `n` and column `col`, the weighted mean over all keys of the batch. -/
theorem out_at (x0 x1 x2 : FVec Ideal S16x4096x8x64 .f32) (x3 : FVec Ideal S8x15x31 .f32) (n : Fin 65536) (col : Fin 512)
    (b : Fin 16) (q : Fin 4096) (h : Fin 8) (d : Fin 64) (hb : b.val = n.val / 4096) (hq : q.val = n.val % 4096)
    (hh : h.val = col.val / 64) (hd : d.val = col.val % 64) :
    (val_main_v91 (F := Ideal) x0 x1 x2 x3 : FVec Ideal S65536x512 .bf16) (ix2 n col) =
      ∑ k, x2 (ix4 b k h d) * Ideal.div (Ideal.exp (score x0 x1 x3 b h q k - Finset.univ.sup fun k => score x0 x1 x3 b h q k))
        (∑ k, Ideal.exp (score x0 x1 x3 b h q k - Finset.univ.sup fun k => score x0 x1 x3 b h q k)) := by
  have e := fun k => weight_at x0 x1 x3 b h q k
  unfold val_main_v91 val_main_v90 val_main_v89 val_main_v88
  revert e
  generalize (val_main_v87 (F := Ideal) x0 x1 x3 : FVec Ideal S16x8x4096x4096 .f32) = X
  intro e
  pointwise
  refine Finset.sum_congr rfl fun k _ => ?_
  rw [← e k]
  exact congrArg₂ (· * ·) (congrArg x2 (ix4_congr hb.symm rfl hh.symm hd.symm)) (congrArg X (ix4_congr hb.symm hh.symm hq.symm rfl))
end Attn.Ref
-- ==== Proof.Combine.lean ====
module
public import proofs.«01_k».proof.Proof.Inputs
public import proofs.«01_k».proof.Proof.Table
public import proofs.«01_k».proof.Proof.Bias
public import proofs.«01_k».proof.Proof.Windows
public import proofs.«01_k».proof.Proof.RefOut
/-! The kernel's result is the reference's: the 640 slots of a window are keys of the batch, in the same order; the score of a
slot is the reference's score of its key; and a key without a slot has the score `⊥`. -/
@[expose] public section
set_option maxRecDepth 16384
noncomputable section
namespace Attn
open Cert.KernelIdeal Cert.KernelIdeal.Gen Idealize.ShloMosaic Idealize.ShloMosaic.TcCoe Idealize.SL.Sem
  Idealize.ShloMosaic.StableHlo

/-- The scale of the scores is an eighth. -/
theorem eighth : Ideal.ofBits .f32 0x3E000000#32 = (((1 : ℝ) / 8 : ℝ) : EReal) := by
  simp [Ideal.ofBits, Ideal.ieee, -EReal.coe_mul]; norm_num

/-- A sum over two heads' lanes, of which the lanes of the other head are zero. -/
theorem dot_half (Q K : Fin 64 → EReal) (E : EReal) (h0 : 0 ≤ E) (ht : E ≠ ⊤) (f : Fin 128 → EReal) (p : Nat) (hp : p < 2)
    (hf : ∀ l : Fin 128, f l = Q ⟨l.val % 64, by omega⟩ * (if l.val / 64 = p then 1 else 0) * E * K ⟨l.val % 64, by omega⟩) :
    ∑ l, f l = (∑ d, Q d * K d) * E := by
  have e : ∑ l, f l = ∑ l : Fin (64 + 64), f l := rfl
  rw [e, Fin.sum_univ_add, sum_mul_const _ _ _ h0 ht]
  have on : ∀ (l : Fin 128) (d : Fin 64), l.val % 64 = d.val → l.val / 64 = p → f l = Q d * K d * E := by
    intro l d hd hl
    have : (⟨l.val % 64, by omega⟩ : Fin 64) = d := Fin.ext hd
    rw [hf, this, if_pos hl, mul_one, mul_assoc, mul_comm E, ← mul_assoc]
  have off : ∀ (l : Fin 128), l.val / 64 ≠ p → f l = 0 := by
    intro l hl
    rw [hf, if_neg hl, mul_zero, zero_mul, zero_mul]
  obtain rfl | rfl : p = 0 ∨ p = 1 := by omega
  · have e1 : ∀ d : Fin 64, f (Fin.castAdd 64 d) = Q d * K d * E := fun d => on _ d
      (by show d.val % 64 = d.val; omega) (by show d.val / 64 = 0; omega)
    have e2 : ∀ d : Fin 64, f (Fin.natAdd 64 d) = 0 := fun d => off _ (by show (64 + d.val) / 64 ≠ 0; omega)
    simp only [e1, e2, Finset.sum_const_zero, add_zero]
  · have e1 : ∀ d : Fin 64, f (Fin.natAdd 64 d) = Q d * K d * E := fun d => on _ d
      (by show (64 + d.val) % 64 = d.val; omega) (by show (64 + d.val) / 64 = 1; omega)
    have e2 : ∀ d : Fin 64, f (Fin.castAdd 64 d) = 0 := fun d => off _ (by show d.val / 64 ≠ 1; omega)
    simp only [e1, e2, Finset.sum_const_zero, zero_add]

variable (m : (l : Loc nD τ sig) → Buf (Elt Ideal) l) (c : Dev nD)

/-- The copy of the queries that holds head `h`: the other heads' columns are zero. -/
theorem qOf_at (h : Nat) (n : Fin 65536) (col : Fin 512) :
    qOf m c h (ix2 n col) =
      qArg m c (ix4 (⟨n.val / 4096, by omega⟩ : Fin 16) (⟨n.val % 4096, by omega⟩ : Fin 4096)
        (⟨col.val / 64, by omega⟩ : Fin 8) (⟨col.val % 64, by omega⟩ : Fin 64)) *
        (if col.val / 64 % 2 = h % 2 then 1 else 0) * Ideal.ofBits .f32 0x3E000000#32 := by
  unfold qOf
  by_cases hh : h % 2 = 0
  · rw [if_pos hh, hh]; exact qLo_at m c n col
  · have h1 : h % 2 = 1 := by omega
    rw [if_neg hh, h1]; exact qHi_at m c n col

/-- The score of a slot is the reference's score of the slot's key. -/
theorem score_eq (b r : Nat) (hb : b < 16) (hr : r < 32) (h : Fin 8) (a : Fin 128) (j : Fin 640)
    (b' : Fin 16) (q k : Fin 4096) (eb : b'.val = b) (eq : q.val = r * 128 + a.val) (ek : k.val = firstPair r * 128 + j.val) :
    scoreOf m c b r hb hr h a j = Ref.score (qArg m c) (kArg m c) (rpb m c) b' h q k := by
  have hf := firstPair_le r
  have hf4 := firstPair_off r hr
  have hfr : r ≤ firstPair r + 4 := by unfold firstPair; omega
  unfold scoreOf
  have hdot : ∑ l : Fin 128,
      qOf m c h.val (ix2 (⟨(b * 32 + r) * 128 + a.val, by omega⟩ : Fin 65536) (⟨h.val / 2 * 128 + l.val, by omega⟩ : Fin 512)) *
        kT m c (ix2 (⟨h.val / 2 * 128 + l.val, by omega⟩ : Fin 512)
          (⟨(b * 32 + firstPair r) * 128 + j.val, by omega⟩ : Fin 65536)) =
      (∑ d : Fin 64, qArg m c (ix4 b' q h d) * kArg m c (ix4 b' k h d)) * Ideal.ofBits .f32 0x3E000000#32 := by
    refine dot_half (fun d => qArg m c (ix4 b' q h d)) (fun d => kArg m c (ix4 b' k h d)) _ ?_ ?_ _ (h.val % 2) (by omega) ?_
    · rw [eighth]; exact EReal.coe_nonneg.mpr (by norm_num)
    · rw [eighth]; exact EReal.coe_ne_top _
    · intro l
      by_cases hl : l.val / 64 = h.val % 2
      · rw [qOf_at, show kT m c = (V m c main_v15 : FVec Ideal S512x65536 .bf16) from rfl, kT_at,
          if_pos hl, if_pos (by dsimp only; omega)]
        exact congrArg₂ (· * ·) (congrArg (· * 1 * _) (congrArg (qArg m c) (Ref.ix4_congr (by dsimp only; omega) (by dsimp only; omega)
          (by dsimp only; omega) (by dsimp only; omega)))) (congrArg (kArg m c) (Ref.ix4_congr (by dsimp only; omega) (by dsimp only; omega)
          (by dsimp only; omega) (by dsimp only; omega)))
      · rw [qOf_at, if_neg hl, if_neg (by dsimp only; omega)]
        simp only [mul_zero, zero_mul]
  rw [hdot]
  unfold Ref.score
  by_cases hrow : rowOk r a.val j.val
  · have hrow' : Ref.rowIn (q.val / 64) (k.val / 64) := by
      unfold rowOk at hrow; unfold Ref.rowIn
      have e1 : q.val / 64 = 2 * r + a.val / 64 := by omega
      have e2 : k.val / 64 = 2 * firstPair r + j.val / 64 := by omega
      rw [e1, e2]; exact hrow
    rw [if_pos hrow, add_zero]
    by_cases hcol : firstCol a.val ≤ j.val % 64 ∧ j.val % 64 < firstCol a.val + 16
    · have hcol' : Ref.colIn (q.val % 64) (k.val % 64) := by
        unfold firstCol at hcol; unfold Ref.colIn
        have e1 : q.val % 64 = a.val % 64 := by omega
        have e2 : k.val % 64 = j.val % 64 := by omega
        rw [e1, e2]; exact hcol
      rw [if_pos ⟨hrow', hcol'⟩]
      unfold Ref.rowIn at hrow'
      unfold Ref.colIn at hcol'
      have hk7 : k.val / 64 + 7 - q.val / 64 < 15 ∧ q.val / 64 ≤ k.val / 64 + 7 := by omega
      have e := bias_at m c h a (⟨(firstPair r + 4 - r) * 128 + j.val, by omega⟩ : Fin 1152)
        (⟨k.val / 64 + 7 - q.val / 64, hk7.1⟩ : Fin 15) (⟨q.val % 64, by omega⟩ : Fin 64) (⟨k.val % 64, by omega⟩ : Fin 64)
        (by dsimp only; omega) (by dsimp only; omega) (by dsimp only; omega) (by dsimp only; omega)
      rw [table_at m c _ _ _ _ (by dsimp only; omega) (by dsimp only; omega)] at e
      exact congrArg (_ + ·) (e.trans (congrArg (rpb m c) (Ref.ix3_congr rfl (by dsimp only; omega) (by dsimp only; omega))))
    · have hcol' : ¬ Ref.colIn (q.val % 64) (k.val % 64) := by
        unfold firstCol at hcol; unfold Ref.colIn
        have e1 : q.val % 64 = a.val % 64 := by omega
        have e2 : k.val % 64 = j.val % 64 := by omega
        rw [e1, e2]; exact hcol
      rw [if_neg fun h => hcol' h.2, show bias m c = (V m c main_v243 : FVec Ideal S8x128x1152 .f32) from rfl,
        bias_off m c _ _ _ (by dsimp only; omega), EReal.add_bot]
  · have hrow' : ¬ Ref.rowIn (q.val / 64) (k.val / 64) := by
      unfold rowOk at hrow; unfold Ref.rowIn
      have e1 : q.val / 64 = 2 * r + a.val / 64 := by omega
      have e2 : k.val / 64 = 2 * firstPair r + j.val / 64 := by omega
      rw [e1, e2]; exact hrow
    rw [if_neg hrow, if_neg fun h => hrow' h.1, EReal.add_bot, EReal.add_bot]

/-- A finite array: every element is a real number. -/
def AllReal {s : Shape} (x : s.Idx → EReal) : Prop := ∀ i, ∃ t : ℝ, x i = (t : EReal)

theorem score_real (x0 x1 : FVec Ideal S16x4096x8x64 .f32) (x3 : FVec Ideal S8x15x31 .f32) (h0 : AllReal x0) (h1 : AllReal x1) (h3 : AllReal x3)
    (b : Fin 16) (h : Fin 8) (q k : Fin 4096) :
    Ref.score x0 x1 x3 b h q k ≠ ⊤ ∧
      (Ref.rowIn (q.val / 64) (k.val / 64) ∧ Ref.colIn (q.val % 64) (k.val % 64) → Ref.score x0 x1 x3 b h q k ≠ ⊥) := by
  unfold Ref.score
  choose f0 e0 using h0
  choose f1 e1 using h1
  choose f3 e3 using h3
  by_cases hc : Ref.rowIn (q.val / 64) (k.val / 64) ∧ Ref.colIn (q.val % 64) (k.val % 64)
  · rw [if_pos hc, eighth, e3]
    simp only [e0, e1, ← EReal.coe_mul]
    rw [← coe_sum, ← EReal.coe_mul, ← EReal.coe_add]
    exact ⟨EReal.coe_ne_top _, fun _ => EReal.coe_ne_bot _⟩
  · rw [if_neg hc]
    exact ⟨bot_ne_top, fun h => absurd h hc⟩

/-- The slots of the windows of a pair of rows, as keys of the batch. -/
def keyOf (r : Nat) (j : Fin 640) : Fin 4096 := ⟨firstPair r * 128 + j.val, by have := firstPair_le r; omega⟩

/-- The kernel's result is the reference's. -/
theorem out_eq (h0 : AllReal (qArg m c)) (h1 : AllReal (kArg m c)) (h3 : AllReal (rpb m c)) (n : Fin 65536) (col : Fin 512) :
    outOf m c n col =
      (Cert.ReferenceIdeal.Read.val_main_v91 (F := Ideal) (qArg m c) (kArg m c) (vArg m c) (rpb m c) : FVec Ideal S65536x512 .bf16) (ix2 n col) := by
  have hr : n.val % 4096 / 128 < 32 := by omega
  have hb : n.val / 4096 < 16 := by omega
  have hq : n.val % 4096 < 4096 := by omega
  have hh : col.val / 64 < 8 := by omega
  have hd : col.val % 64 < 64 := by omega
  have ha : n.val % 128 < 128 := by omega
  rw [Ref.out_at (qArg m c) (kArg m c) (vArg m c) (rpb m c) n col ⟨_, hb⟩ ⟨_, hq⟩ ⟨_, hh⟩ ⟨_, hd⟩ rfl rfl rfl rfl]
  unfold outOf mean
  refine window_eq_all (keyOf (n.val % 4096 / 128)) ?_ _ _ _ _ ?_ ?_ ?_ ?_ ?_
  · intro j j' e
    have := congrArg Fin.val e
    unfold keyOf at this
    exact Fin.ext (by dsimp only at this; omega)
  · intro j
    exact score_eq m c _ _ _ _ _ _ j _ _ _ rfl (by dsimp only; omega) rfl
  · intro j
    have hf := firstPair_le (n.val % 4096 / 128)
    unfold valueOf
    rw [show vF m c = (V m c main_v17 : FVec Ideal S65536x512 .bf16) from rfl, vF_at]
    exact congrArg (vArg m c) (Ref.ix4_congr (by dsimp only; omega) (by unfold keyOf; dsimp only; omega) rfl rfl)
  · intro k hk
    unfold Ref.score
    rw [if_neg]
    rintro ⟨hrow, -⟩
    unfold Ref.rowIn at hrow
    have hf := firstPair_le (n.val % 4096 / 128)
    have hfd : firstPair (n.val % 4096 / 128) = min 27 (n.val % 4096 / 128 - 2) := rfl
    dsimp only at hrow
    have hlo : firstPair (n.val % 4096 / 128) * 128 ≤ k.val := by omega
    have hhi : k.val - firstPair (n.val % 4096 / 128) * 128 < 640 := by omega
    exact hk ⟨_, hhi⟩ (Fin.ext (by unfold keyOf; dsimp only; omega))
  · intro k
    exact (score_real _ _ _ h0 h1 h3 _ _ _ _).1
  · refine ⟨⟨_, hq⟩, (score_real _ _ _ h0 h1 h3 _ _ _ _).2 ?_⟩
    unfold Ref.rowIn Ref.colIn
    dsimp only
    omega

end Attn
-- ==== Proof.Result.lean ====
module
public import proofs.«01_k».proof.Proof.Windows
/-! The kernel's result array: its windows of keys and values, its blocks, and the whole. -/
@[expose] public section
set_option maxRecDepth 16384
noncomputable section
namespace Attn
open Cert.KernelIdeal Cert.KernelIdeal.Gen Idealize.ShloMosaic Idealize.ShloMosaic.TcCoe Idealize.SL.Sem
variable (m : (l : Loc nD τ sig) → Buf (Elt Ideal) l) (c : Dev nD)

theorem add_same {a b d : Nat} (h : a = b) : d + a = d + b := by rw [h]
theorem add_zero_add {a b d : Nat} (h : a = b) : d + a = d + (0 + b) := by rw [h, Nat.zero_add]

theorem even_lt (p : Fin 4) : 2 * p.val < 8 := by omega
theorem odd_lt (p : Fin 4) : 2 * p.val + 1 < 8 := by omega
theorem col_lt (p : Fin 4) (d : Fin 128) : p.val * 128 + d.val < 512 := by omega

/-- The window of keys, as the kernel assembles it from its five blocks. -/
def keyWin (t : Fin cfg0.N) : FVec Ideal S512x640 .bf16 := fun x =>
  kT m c (ix2 (x 0) (⟨(bat t * 32 + firstPair (pr t)) * 128 + (x 1).val, by
    have := firstPair_le (pr t); have := bat_lt t; have : (x 1).val < 640 := (x 1).isLt; omega⟩ : Fin 65536))
/-- The window of values. -/
def valWin (t : Fin cfg0.N) : FVec Ideal S640x512 .bf16 := fun x =>
  vF m c (ix2 (⟨(bat t * 32 + firstPair (pr t)) * 128 + (x 0).val, by
    have := firstPair_le (pr t); have := bat_lt t; have : (x 0).val < 640 := (x 0).isLt; omega⟩ : Fin 65536) (x 1))

set_option maxHeartbeats 1000000 in
theorem keyWin_eq (t : Fin cfg0.N) (x : S512x640.Idx) :
    View.canon (Val := Elt Ideal) (e := .bf16) [⟨Rect.unit ![0, 512] ![512, 128] inb_S512x640_S512x128_0_512, k0_pay9 (F := Ideal) (iblk m c 6 t)⟩,
      ⟨Rect.unit ![0, 384] ![512, 128] inb_S512x640_S512x128_0_384, k0_pay7 (F := Ideal) (iblk m c 5 t)⟩,
      ⟨Rect.unit ![0, 256] ![512, 128] inb_S512x640_S512x128_0_256, k0_pay5 (F := Ideal) (iblk m c 4 t)⟩,
      ⟨Rect.unit ![0, 128] ![512, 128] inb_S512x640_S512x128_0_128, k0_pay3 (F := Ideal) (iblk m c 3 t)⟩,
      ⟨Rect.unit ![0, 0] ![512, 128] inb_S512x640_S512x128_0_0, k0_pay1 (F := Ideal) (iblk m c 2 t)⟩] x = keyWin m c t x := by
  canon_tiles x h
  · pointwise [k0_pay9]
    exact blk6 m c t _ _ h0 (add_same h1)
  · pointwise [k0_pay7]
    exact blk5 m c t _ _ h0 (add_same h1)
  · pointwise [k0_pay5]
    exact blk4 m c t _ _ h0 (add_same h1)
  · pointwise [k0_pay3]
    exact blk3 m c t _ _ h0 (add_same h1)
  · pointwise [k0_pay1]
    exact blk2 m c t _ _ h0 (add_zero_add h1)

set_option maxHeartbeats 1000000 in
theorem valWin_eq (t : Fin cfg0.N) (x : S640x512.Idx) :
    View.canon (Val := Elt Ideal) (e := .bf16) [⟨Rect.unit ![512, 0] ![128, 512] inb_S640x512_S128x512_512_0, k0_pay10 (F := Ideal) (iblk m c 11 t)⟩,
      ⟨Rect.unit ![384, 0] ![128, 512] inb_S640x512_S128x512_384_0, k0_pay8 (F := Ideal) (iblk m c 10 t)⟩,
      ⟨Rect.unit ![256, 0] ![128, 512] inb_S640x512_S128x512_256_0, k0_pay6 (F := Ideal) (iblk m c 9 t)⟩,
      ⟨Rect.unit ![128, 0] ![128, 512] inb_S640x512_S128x512_128_0, k0_pay4 (F := Ideal) (iblk m c 8 t)⟩,
      ⟨Rect.unit ![0, 0] ![128, 512] inb_S640x512_S128x512_0_0, k0_pay2 (F := Ideal) (iblk m c 7 t)⟩] x = valWin m c t x := by
  canon_tiles x h
  · pointwise [k0_pay10]
    exact blk11 m c t _ _ (add_same h0) h1
  · pointwise [k0_pay8]
    exact blk10 m c t _ _ (add_same h0) h1
  · pointwise [k0_pay6]
    exact blk9 m c t _ _ (add_same h0) h1
  · pointwise [k0_pay4]
    exact blk8 m c t _ _ (add_same h0) h1
  · pointwise [k0_pay2]
    exact blk7 m c t _ _ (add_zero_add h0) h1

/-- The scores of the left head of a piece. -/
theorem scoreOf_lo (t : Fin cfg0.N) (p : Fin 4) (a : Fin 128) (j : Fin 640) (b r : Nat) (hb : b < 16) (hr : r < 32)
    (h : Fin 8) (a' : Fin 128) (eb : b = bat t) (er : r = pr t) (eh : h.val = 2 * p.val) (ea : a'.val = a.val) :
    scoreOf m c b r hb hr h a' j =
      ∑ x : Fin 128, qLo m c (ix2 (⟨(bat t * 32 + pr t) * 128 + a.val, by
        have := bat_lt t; have := pr_lt t; omega⟩ : Fin 65536) (⟨p.val * 128 + x.val, by omega⟩ : Fin 512)) *
        keyWin m c t (ix2 (⟨p.val * 128 + x.val, by omega⟩ : Fin 512) j) +
      (bias m c (ix3 (⟨2 * p.val, by omega⟩ : Fin 8) a (⟨(firstPair (pr t) + 4 - pr t) * 128 + j.val, by
        have := firstPair_off (pr t) (pr_lt t); omega⟩ : Fin 1152)) + rowMask (pr t) (ix2 a j)) := by
  subst eb er
  obtain rfl : h = ⟨2 * p.val, even_lt p⟩ := Fin.ext eh
  obtain rfl : a' = a := Fin.ext ea
  have e0 : 2 * p.val % 2 = 0 := by omega
  have e1 : 2 * p.val / 2 = p.val := by omega
  rw [rowMask_at ⟨pr t, pr_lt t⟩ a' j]
  unfold scoreOf qOf
  simp only [e0, e1, if_true]
  rfl

/-- The scores of the right head of a piece. -/
theorem scoreOf_hi (t : Fin cfg0.N) (p : Fin 4) (a : Fin 128) (j : Fin 640) (b r : Nat) (hb : b < 16) (hr : r < 32)
    (h : Fin 8) (a' : Fin 128) (eb : b = bat t) (er : r = pr t) (eh : h.val = 2 * p.val + 1) (ea : a'.val = a.val) :
    scoreOf m c b r hb hr h a' j =
      ∑ x : Fin 128, qHi m c (ix2 (⟨(bat t * 32 + pr t) * 128 + a.val, by
        have := bat_lt t; have := pr_lt t; omega⟩ : Fin 65536) (⟨p.val * 128 + x.val, by omega⟩ : Fin 512)) *
        keyWin m c t (ix2 (⟨p.val * 128 + x.val, by omega⟩ : Fin 512) j) +
      (bias m c (ix3 (⟨2 * p.val + 1, by omega⟩ : Fin 8) a (⟨(firstPair (pr t) + 4 - pr t) * 128 + j.val, by
        have := firstPair_off (pr t) (pr_lt t); omega⟩ : Fin 1152)) + rowMask (pr t) (ix2 a j)) := by
  subst eb er
  obtain rfl : h = ⟨2 * p.val + 1, odd_lt p⟩ := Fin.ext eh
  obtain rfl : a' = a := Fin.ext ea
  have e0 : ¬ ((2 * p.val + 1) % 2 = 0) := by omega
  have e1 : (2 * p.val + 1) / 2 = p.val := by omega
  rw [rowMask_at ⟨pr t, pr_lt t⟩ a' j]
  unfold scoreOf qOf
  simp only [e0, e1, if_false]
  rfl

theorem valueOf_eq (t : Fin cfg0.N) (col : Fin 512) (j : Fin 640) (b r : Nat) (hb : b < 16)
    (eb : b = bat t) (er : r = pr t) : valueOf m c b r hb col j = valWin m c t (ix2 j col) := by
  subst eb er
  rfl

/-- One 128-column piece of a block of the result: two heads. -/
theorem piece_at (t : Fin cfg0.N) (p : Fin 4) (q0 q1 : FVec Ideal S128x128 .bf16) (kt : FVec Ideal S128x640 .bf16)
    (b0 b1 : FVec Ideal S1x128x640 .f32) (v : FVec Ideal S640x128 .bf16)
    (hq0 : ∀ a l : Fin 128, q0 (ix2 a l) = qLo m c (ix2 (⟨(bat t * 32 + pr t) * 128 + a.val, by
      have := bat_lt t; have := pr_lt t; omega⟩ : Fin 65536) (⟨p.val * 128 + l.val, by omega⟩ : Fin 512)))
    (hq1 : ∀ a l : Fin 128, q1 (ix2 a l) = qHi m c (ix2 (⟨(bat t * 32 + pr t) * 128 + a.val, by
      have := bat_lt t; have := pr_lt t; omega⟩ : Fin 65536) (⟨p.val * 128 + l.val, by omega⟩ : Fin 512)))
    (hk : ∀ (l : Fin 128) (j : Fin 640), kt (ix2 l j) =
      keyWin m c t (ix2 (⟨p.val * 128 + l.val, by omega⟩ : Fin 512) j))
    (hb0 : ∀ (a : Fin 128) (j : Fin 640), b0 (ix3 0 a j) = bias m c (ix3 (⟨2 * p.val, by omega⟩ : Fin 8) a
      (⟨(firstPair (pr t) + 4 - pr t) * 128 + j.val, by
        have := firstPair_off (pr t) (pr_lt t); omega⟩ : Fin 1152)))
    (hb1 : ∀ (a : Fin 128) (j : Fin 640), b1 (ix3 0 a j) = bias m c (ix3 (⟨2 * p.val + 1, by omega⟩ : Fin 8) a
      (⟨(firstPair (pr t) + 4 - pr t) * 128 + j.val, by
        have := firstPair_off (pr t) (pr_lt t); omega⟩ : Fin 1152)))
    (hv : ∀ (j : Fin 640) (d : Fin 128), v (ix2 j d) =
      valWin m c t (ix2 j (⟨p.val * 128 + d.val, by omega⟩ : Fin 512)))
    (a d : Fin 128) (n : Fin 65536) (col : Fin 512) (h0 : n.val = (bat t * 32 + pr t) * 128 + a.val)
    (h1 : col.val = p.val * 128 + d.val) :
    (k0_pay35 (F := Ideal) (k0_pay16 (rowMask (pr t)) q0 kt b0) (k0_pay16 (rowMask (pr t)) q1 kt b1) v v :
      FVec Ideal S128x128 .bf16) (ix2 a d) = outOf m c n col := by
  have hbt := bat_lt t
  have hpr := pr_lt t
  have e1 : n.val / 4096 = bat t := by omega
  have e2 : n.val % 4096 / 128 = pr t := by omega
  rw [pair_at]
  unfold outOf
  simp only [score_at, hq0, hq1, hk, hb0, hb1, hv]
  obtain rfl : col = ⟨p.val * 128 + d.val, col_lt p d⟩ := Fin.ext h1
  by_cases hd : d.val < 64
  · rw [if_pos hd]
    refine congrArg₂ mean (funext fun j => ?_) (funext fun j => ?_)
    · exact (scoreOf_lo m c t p a j _ _ _ _ _ _ e1 e2 (by dsimp only; omega) (by dsimp only; omega)).symm
    · exact (valueOf_eq m c t _ j _ _ _ e1 e2).symm
  · rw [if_neg hd]
    refine congrArg₂ mean (funext fun j => ?_) (funext fun j => ?_)
    · exact (scoreOf_hi m c t p a j _ _ _ _ _ _ e1 e2 (by dsimp only; omega) (by dsimp only; omega)).symm
    · exact (valueOf_eq m c t _ j _ _ _ e1 e2).symm

/-- The result array. -/
def result : FVec Ideal S65536x512 .bf16 := fun i => outOf m c (i 0) (i 1)

set_option maxHeartbeats 2000000 in
theorem result_eq : (dats m 0 c).arrAt 13 cfg0.N = result m c := by
  refine (dats m 0 c).arrAt_eq_of_covers 13 _ (by decide +kernel) fun t _ y => ?_
  blk_simp
  rw [after0_13]
  unfold Gen.outsAt0
  frame_out
  canon_tiles y h
  all_goals
    simp only [View.readCov_eq_canon', keyWin_eq, valWin_eq]
    obtain ⟨a, d, rfl⟩ : ∃ a d : Fin 128, y = ix2 a d := ⟨_, _, eq_ix2 y⟩
  · refine piece_at m c t 3 (View.ld (iblk m c 0 t) (Rect.unit ![0, 384] ![128, 128] inb_S128x512_S128x128_0_384)) _ _
      (View.ld (iblk m c 12 t) (Rect.unit (k0_off7 (grid0.coords t)) ![1, 128, 640] _))
      (View.ld (iblk m c 12 t) (Rect.unit (k0_off8 (grid0.coords t)) ![1, 128, 640] _)) _ ?_ ?_ ?_ ?_ ?_ ?_ a d _ _ ?_ ?_
    · intro a l
      pointwise
      exact blk0 m c t _ _ rfl rfl
    · intro a l
      pointwise
      exact blk1 m c t _ _ rfl rfl
    · intro l j
      pointwise
    · intro a j
      pointwise
      refine (blk12 m c t _).trans ?_
      blk_ext [off7 t]
    · intro a j
      pointwise
      refine (blk12 m c t _).trans ?_
      blk_ext [off8 t]
    · intro j d
      pointwise
    · blk_simp [idx13 t]
      exact add_same h0
    · blk_simp [idx13 t]
      exact h1
  · refine piece_at m c t 2 (View.ld (iblk m c 0 t) (Rect.unit ![0, 256] ![128, 128] inb_S128x512_S128x128_0_256)) _ _
      (View.ld (iblk m c 12 t) (Rect.unit (k0_off5 (grid0.coords t)) ![1, 128, 640] _))
      (View.ld (iblk m c 12 t) (Rect.unit (k0_off6 (grid0.coords t)) ![1, 128, 640] _)) _ ?_ ?_ ?_ ?_ ?_ ?_ a d _ _ ?_ ?_
    · intro a l
      pointwise
      exact blk0 m c t _ _ rfl rfl
    · intro a l
      pointwise
      exact blk1 m c t _ _ rfl rfl
    · intro l j
      pointwise
    · intro a j
      pointwise
      refine (blk12 m c t _).trans ?_
      blk_ext [off5 t]
    · intro a j
      pointwise
      refine (blk12 m c t _).trans ?_
      blk_ext [off6 t]
    · intro j d
      pointwise
    · blk_simp [idx13 t]
      exact add_same h0
    · blk_simp [idx13 t]
      exact h1
  · refine piece_at m c t 1 (View.ld (iblk m c 0 t) (Rect.unit ![0, 128] ![128, 128] inb_S128x512_S128x128_0_128)) _ _
      (View.ld (iblk m c 12 t) (Rect.unit (k0_off3 (grid0.coords t)) ![1, 128, 640] _))
      (View.ld (iblk m c 12 t) (Rect.unit (k0_off4 (grid0.coords t)) ![1, 128, 640] _)) _ ?_ ?_ ?_ ?_ ?_ ?_ a d _ _ ?_ ?_
    · intro a l
      pointwise
      exact blk0 m c t _ _ rfl rfl
    · intro a l
      pointwise
      exact blk1 m c t _ _ rfl rfl
    · intro l j
      pointwise
    · intro a j
      pointwise
      refine (blk12 m c t _).trans ?_
      blk_ext [off3 t]
    · intro a j
      pointwise
      refine (blk12 m c t _).trans ?_
      blk_ext [off4 t]
    · intro j d
      pointwise
    · blk_simp [idx13 t]
      exact add_same h0
    · blk_simp [idx13 t]
      exact h1
  · refine piece_at m c t 0 (View.ld (iblk m c 0 t) (Rect.unit ![0, 0] ![128, 128] inb_S128x512_S128x128_0_0)) _ _
      (View.ld (iblk m c 12 t) (Rect.unit (k0_off1 (grid0.coords t)) ![1, 128, 640] _))
      (View.ld (iblk m c 12 t) (Rect.unit (k0_off2 (grid0.coords t)) ![1, 128, 640] _)) _ ?_ ?_ ?_ ?_ ?_ ?_ a d _ _ ?_ ?_
    · intro a l
      pointwise
      exact blk0 m c t _ _ rfl rfl
    · intro a l
      pointwise
      exact blk1 m c t _ _ rfl rfl
    · intro l j
      pointwise
    · intro a j
      pointwise
      refine (blk12 m c t _).trans ?_
      blk_ext [off1 t]
    · intro a j
      pointwise
      refine (blk12 m c t _).trans ?_
      blk_ext [off2 t]
    · intro j d
      pointwise
    · blk_simp [idx13 t]
      exact add_same h0
    · blk_simp [idx13 t]
      exact h1.trans (Nat.zero_add _).symm
end Attn
-- ==== Proof.AttnClaims.lean ====
module
public import proofs.«01_k».proof.Defs
public import proofs.«01_k».proof.Proof.Combine
public import proofs.«01_k».proof.Proof.Result
public import proofs.«01_k».proof.Proof.Gen.ReferenceIdeal.Run
/-! The claims about the neighbourhood attention: what the precondition says, and that kernel and reference agree. -/
@[expose] public section
set_option maxRecDepth 16384
noncomputable section
namespace Attn
open Idealize.ShloMosaic Idealize.ShloMosaic.TcCoe Idealize.SL.Sem

/-- The shape relations of the precondition. -/
theorem preFacts : Cert.Pre_finite_scores.Facts where
  bcast_S_S16x4096x8x64 := by decide
  bcast_S_S8x15x31 := by decide

/-- A number whose magnitude is below infinity is a real number. -/
theorem real_of_abs_lt {x : EReal} (h : Ideal.cmp .olt (max x (-x)) (Ideal.ofBits .f32 0x7F800000#32) = 1#1) : ∃ t : ℝ, x = (t : EReal) := by
  have ht : Ideal.ofBits .f32 0x7F800000#32 = (⊤ : EReal) := rfl
  rw [ht] at h
  have h' : max x (-x) < ⊤ := by
    by_contra hn
    simp only [Ideal.cmp, hn, decide_false] at h
    exact absurd h (by decide)
  induction x using EReal.rec with
  | bot => simp at h'
  | coe t => exact ⟨t, rfl⟩
  | top => simp at h'

open Cert.KernelIdeal Cert.KernelIdeal.Gen

/-- The precondition says that the queries, the keys and the bias table are real numbers. -/
theorem real_of_pre (m : (l : Loc nD τ sig) → Buf (Elt Ideal) l) (h : Cert.Pre_KernelIdeal_finite_scores (hPre_finite_scores := preFacts) m)
    (c : Dev nD) : AllReal (qArg m c) ∧ AllReal (kArg m c) ∧ AllReal (rpb m c) :=
  ⟨fun i => real_of_abs_lt (congrFun (h c).1 i), fun i => real_of_abs_lt (congrFun (h c).2.1 i),
    fun i => real_of_abs_lt (congrFun (h c).2.2 i)⟩

/-- The kernel's result array, as a whole, is the reference's. -/
theorem result_ref (m : (l : Loc nD τ sig) → Buf (Elt Ideal) l) (h : Cert.Pre_KernelIdeal_finite_scores (hPre_finite_scores := preFacts) m)
    (c : Dev nD) : result m c = Cert.ReferenceIdeal.Read.val_main_v91 (F := Ideal) (qArg m c) (kArg m c) (vArg m c) (rpb m c) := by
  obtain ⟨h0, h1, h3⟩ := real_of_pre m h c
  refine funext fun i => ?_
  rw [eq_ix2 i]
  exact out_eq m c h0 h1 h3 (i 0) (i 1)

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem algebraic : Cert.algebraic_KernelIdeal_ReferenceIdeal_pre_finite_scores (hPre_finite_scores := preFacts) := by
  intro m ρ m' ρ' hpre hag
  refine ⟨fun c => result m c, ?_, ?_⟩
  · exact (θ_run Cert.KernelIdeal.defs _ _).mono (fun _ h c => ⟨(h c).1.trans (result_eq m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v91_eq, (hag c).1, (hag c).2.1, (hag c).2.2.1, (hag c).2.2.2]
    exact (result_ref m hpre c).symm

end Attn
-- ==== Proof.Norm.lean ====
module
public import Idealize.ShloMosaic.Lib.Pointwise
public import Idealize.ShloMosaic.Lib.IdealHost
/-! The layer normalisation of a row of 1024 numbers. -/
@[expose] public section
noncomputable section
namespace Proj
open Idealize.ShloMosaic

/-- The mean of a row. -/
def mean (x : Fin 1024 → EReal) : EReal := Ideal.div (∑ k, x k) (Ideal.ofBits .f32 0x44800000#32)

/-- The row, centred, scaled to unit variance, then scaled by `g` and moved by `b`; at column `c`. -/
def norm (x : Fin 1024 → EReal) (g b : EReal) (c : Fin 1024) : EReal :=
  (x c - mean x) * Ideal.rsqrt (mean (fun k => (x k - mean x) * (x k - mean x)) + Ideal.ofBits .f32 0x3727C5AC#32) * g + b

end Proj
-- ==== Proof.InRef.lean ====
module
public import proofs.«01_k».proof.Proof.Norm
public import proofs.«01_k».proof.Proof.Gen.InRefIdeal.Read
/-! The reference of the input projection, read at an element. -/
@[expose] public section
set_option maxRecDepth 16384
noncomputable section
namespace Proj.InRef
open Cert.InRefIdeal Cert.InRefIdeal.Gen Cert.InRefIdeal.Read Idealize.ShloMosaic
  Idealize.ShloMosaic.TcCoe Idealize.SL.Sem Idealize.ShloMosaic.StableHlo

/-- The normalised input of token `n` at column `c`. -/
def xn (x0 : FVec Ideal S16x4096x1024 .f32) (x1 x2 : FVec Ideal S1024 .f32) (n : Fin 65536) (c : Fin 1024) : EReal :=
  norm (fun k => x0 (ix3 (⟨n.val / 4096, by omega⟩ : Fin 16) (⟨n.val % 4096, by omega⟩ : Fin 4096) k)) (x1 (ix1 c)) (x2 (ix1 c)) c

/-- The projection of token `n` at column `j`. -/
def proj (x0 : FVec Ideal S16x4096x1024 .f32) (x1 x2 : FVec Ideal S1024 .f32) (x3 : FVec Ideal S1x1024x2048 .f32)
    (n : Fin 65536) (j : Fin 2048) : EReal :=
  ∑ k : Fin 1024, xn x0 x1 x2 n k * x3 (ix3 0 k j)

variable (x0 : FVec Ideal S16x4096x1024 .f32) (x1 x2 : FVec Ideal S1024 .f32) (x3 : FVec Ideal S1x1024x2048 .f32)

theorem a_at (b : Fin 16) (t : Fin 4096) (c : Fin 1024) :
    (val_main_v23 (F := Ideal) x0 x1 x2 : FVec Ideal S16x4096x1024 .f32) (ix3 b t c) =
      norm (fun k => x0 (ix3 b t k)) (x1 (ix1 c)) (x2 (ix1 c)) c := by
  unfold val_main_v23 val_main_v22 val_main_v21 val_main_v20 val_main_v19 val_main_v18 val_main_v17 val_main_v16 val_main_v15 val_main_v14
    val_main_v13 val_main_v12 val_main_v11 val_main_v10 val_main_v9 val_main_v8 val_main_v7 val_main_v6 val_main_v5 val_main_v4 val_main_v3
    val_main_v2 val_main_v1 val_main_v0 val_main_cst val_main_cst_0 val_main_cst_1 val_main_cst_2 val_main_cst_3
  pointwise
  rfl

theorem xn_at (n : Fin 65536) (c : Fin 1024) :
    (val_main_v40 (F := Ideal) x0 x1 x2 : FVec Ideal S65536x1024 .f32) (ix2 n c) = xn x0 x1 x2 n c := by
  have e := a_at x0 x1 x2 (⟨n.val / 4096, by omega⟩ : Fin 16) (⟨n.val % 4096, by omega⟩ : Fin 4096) c
  unfold val_main_v40
  revert e
  generalize (val_main_v23 (F := Ideal) x0 x1 x2 : FVec Ideal S16x4096x1024 .f32) = A
  intro e
  pointwise
  exact e

theorem p_at (n : Fin 65536) (j : Fin 2048) :
    (val_main_v25 (F := Ideal) x0 x1 x2 x3 : FVec Ideal S16x4096x2048 .f32)
      (ix3 (⟨n.val / 4096, by omega⟩ : Fin 16) (⟨n.val % 4096, by omega⟩ : Fin 4096) j) = proj x0 x1 x2 x3 n j := by
  have e := a_at x0 x1 x2 (⟨n.val / 4096, by omega⟩ : Fin 16) (⟨n.val % 4096, by omega⟩ : Fin 4096)
  unfold val_main_v25 val_main_v24
  revert e
  generalize (val_main_v23 (F := Ideal) x0 x1 x2 : FVec Ideal S16x4096x1024 .f32) = A
  intro e
  pointwise
  unfold proj xn
  exact Finset.sum_congr rfl fun k _ => by rw [e k]

theorem v_at (n : Fin 65536) (c : Fin 512) :
    (val_main_v61 (F := Ideal) x0 x1 x2 x3 : FVec Ideal S65536x512 .bf16) (ix2 n c) = proj x0 x1 x2 x3 n ⟨1024 + c.val, by omega⟩ := by
  have e := p_at x0 x1 x2 x3 n ⟨1024 + c.val, by omega⟩
  unfold val_main_v61 val_main_v33 val_main_v28
  revert e
  generalize (val_main_v25 (F := Ideal) x0 x1 x2 x3 : FVec Ideal S16x4096x2048 .f32) = A
  intro e
  pointwise
  exact e

theorem k_at (n : Fin 65536) (c : Fin 512) :
    (val_main_v60 (F := Ideal) x0 x1 x2 x3 : FVec Ideal S512x65536 .bf16) (ix2 c n) = proj x0 x1 x2 x3 n ⟨512 + c.val, by omega⟩ := by
  have e := p_at x0 x1 x2 x3 n ⟨512 + c.val, by omega⟩
  unfold val_main_v60 val_main_v59 val_main_v32 val_main_v27
  revert e
  generalize (val_main_v25 (F := Ideal) x0 x1 x2 x3 : FVec Ideal S16x4096x2048 .f32) = A
  intro e
  pointwise
  exact e

theorem pool_at (n : Fin 65536) (c : Fin 256) :
    (val_main_v34 (F := Ideal) x0 x1 x2 x3 : FVec Ideal S65536x256 .f32) (ix2 n c) = proj x0 x1 x2 x3 n ⟨1536 + c.val, by omega⟩ := by
  have e := p_at x0 x1 x2 x3 n ⟨1536 + c.val, by omega⟩
  unfold val_main_v34 val_main_v29
  revert e
  generalize (val_main_v25 (F := Ideal) x0 x1 x2 x3 : FVec Ideal S16x4096x2048 .f32) = A
  intro e
  pointwise
  exact e

/-- The scaled queries of the neighbourhood attention. -/
theorem q_at (n : Fin 65536) (c : Fin 512) :
    (val_main_v37 (F := Ideal) x0 x1 x2 x3 : FVec Ideal S65536x512 .f32) (ix2 n c) =
      proj x0 x1 x2 x3 n ⟨c.val, by omega⟩ * Ideal.ofBits .f32 0x3E000000#32 := by
  have e := p_at x0 x1 x2 x3 n ⟨c.val, by omega⟩
  unfold val_main_v37 val_main_v36 val_main_cst_4 val_main_v31 val_main_v26
  revert e
  generalize (val_main_v25 (F := Ideal) x0 x1 x2 x3 : FVec Ideal S16x4096x2048 .f32) = A
  intro e
  pointwise
  exact congrArg (· * _) e

/-- The scaled queries of the memory attention. -/
theorem qm_at (n : Fin 65536) (c : Fin 256) :
    (val_main_v39 (F := Ideal) x0 x1 x2 x3 : FVec Ideal S65536x256 .f32) (ix2 n c) =
      proj x0 x1 x2 x3 n ⟨1792 + c.val, by omega⟩ * Ideal.ofBits .f32 0x3E000000#32 := by
  have e := p_at x0 x1 x2 x3 n ⟨1792 + c.val, by omega⟩
  unfold val_main_v39 val_main_v38 val_main_cst_5 val_main_v35 val_main_v30
  revert e
  generalize (val_main_v25 (F := Ideal) x0 x1 x2 x3 : FVec Ideal S16x4096x2048 .f32) = A
  intro e
  pointwise
  exact congrArg (· * _) e

/-! Whether a column lies in an even head, as a bit. -/

theorem even47 (c : Fin 512) : (val_main_v47 (F := Ideal) : IVec S512 1) (ix1 c) = if c.val / 64 % 2 = 0 then 1#1 else 0#1 := by
  unfold val_main_v47 val_main_v46 val_main_v45 val_main_v44 val_main_v43 val_main_v42 val_main_v41 val_main_c val_main_c_6 val_main_c_7
  pointwise
  revert c
  decide +kernel

theorem even56 (c : Fin 512) : (val_main_v56 (F := Ideal) : IVec S512 1) (ix1 c) = if c.val / 64 % 2 = 0 then 1#1 else 0#1 := by
  unfold val_main_v56 val_main_v55 val_main_v54 val_main_v53 val_main_v52 val_main_v51 val_main_v50 val_main_c_9 val_main_c_10 val_main_c_11
  pointwise
  revert c
  decide +kernel

theorem even68 (c : Fin 256) : (val_main_v68 (F := Ideal) : IVec S256 1) (ix1 c) = if c.val / 64 % 2 = 0 then 1#1 else 0#1 := by
  unfold val_main_v68 val_main_v67 val_main_v66 val_main_v65 val_main_v64 val_main_v63 val_main_v62 val_main_c_13 val_main_c_14 val_main_c_15
  pointwise
  revert c
  decide +kernel

theorem even77 (c : Fin 256) : (val_main_v77 (F := Ideal) : IVec S256 1) (ix1 c) = if c.val / 64 % 2 = 0 then 1#1 else 0#1 := by
  unfold val_main_v77 val_main_v76 val_main_v75 val_main_v74 val_main_v73 val_main_v72 val_main_v71 val_main_c_17 val_main_c_18 val_main_c_19
  pointwise
  revert c
  decide +kernel

theorem zero_const : (id (constant (F := Ideal) S_ .f32 0x00000000#32) : FVec Ideal S_ .f32) ix0 = 0 := Ideal.ofBits_zero_f32

/-! The queries of the even heads and of the odd heads. -/

theorem q_even (n : Fin 65536) (c : Fin 512) :
    (val_main_v49 (F := Ideal) x0 x1 x2 x3 : FVec Ideal S65536x512 .bf16) (ix2 n c) =
      if c.val / 64 % 2 = 0 then proj x0 x1 x2 x3 n ⟨c.val, by omega⟩ * Ideal.ofBits .f32 0x3E000000#32 else 0 := by
  have e := q_at x0 x1 x2 x3 n c
  have w := even47 c
  unfold val_main_v49 val_main_v48 val_main_call0_v2 val_main_call0_v1 val_main_call0_v0 val_main_cst_8
  revert e w
  generalize (val_main_v37 (F := Ideal) x0 x1 x2 x3 : FVec Ideal S65536x512 .f32) = A
  generalize (val_main_v47 (F := Ideal) : IVec S512 1) = M
  intro e w
  pointwise
  rw [w, e]
  by_cases h : c.val / 64 % 2 = 0
  · rw [if_pos h, if_pos h]; rfl
  · rw [if_neg h, if_neg h]; exact zero_const

theorem q_odd (n : Fin 65536) (c : Fin 512) :
    (val_main_v58 (F := Ideal) x0 x1 x2 x3 : FVec Ideal S65536x512 .bf16) (ix2 n c) =
      if c.val / 64 % 2 = 0 then 0 else proj x0 x1 x2 x3 n ⟨c.val, by omega⟩ * Ideal.ofBits .f32 0x3E000000#32 := by
  have e := q_at x0 x1 x2 x3 n c
  have w := even56 c
  unfold val_main_v58 val_main_v57 val_main_call1_v2 val_main_call1_v1 val_main_call1_v0 val_main_cst_12
  revert e w
  generalize (val_main_v37 (F := Ideal) x0 x1 x2 x3 : FVec Ideal S65536x512 .f32) = A
  generalize (val_main_v56 (F := Ideal) : IVec S512 1) = M
  intro e w
  pointwise
  rw [w, e]
  by_cases h : c.val / 64 % 2 = 0
  · rw [if_pos h, if_pos h]; exact zero_const
  · rw [if_neg h, if_neg h]; rfl

theorem qm_even (n : Fin 65536) (c : Fin 256) :
    (val_main_v70 (F := Ideal) x0 x1 x2 x3 : FVec Ideal S65536x256 .bf16) (ix2 n c) =
      if c.val / 64 % 2 = 0 then proj x0 x1 x2 x3 n ⟨1792 + c.val, by omega⟩ * Ideal.ofBits .f32 0x3E000000#32 else 0 := by
  have e := qm_at x0 x1 x2 x3 n c
  have w := even68 c
  unfold val_main_v70 val_main_v69 val_main_call2_v2 val_main_call2_v1 val_main_call2_v0 val_main_cst_16
  revert e w
  generalize (val_main_v39 (F := Ideal) x0 x1 x2 x3 : FVec Ideal S65536x256 .f32) = A
  generalize (val_main_v68 (F := Ideal) : IVec S256 1) = M
  intro e w
  pointwise
  rw [w, e]
  by_cases h : c.val / 64 % 2 = 0
  · rw [if_pos h, if_pos h]; rfl
  · rw [if_neg h, if_neg h]; exact zero_const

theorem qm_odd (n : Fin 65536) (c : Fin 256) :
    (val_main_v79 (F := Ideal) x0 x1 x2 x3 : FVec Ideal S65536x256 .bf16) (ix2 n c) =
      if c.val / 64 % 2 = 0 then 0 else proj x0 x1 x2 x3 n ⟨1792 + c.val, by omega⟩ * Ideal.ofBits .f32 0x3E000000#32 := by
  have e := qm_at x0 x1 x2 x3 n c
  have w := even77 c
  unfold val_main_v79 val_main_v78 val_main_call3_v2 val_main_call3_v1 val_main_call3_v0 val_main_cst_20
  revert e w
  generalize (val_main_v39 (F := Ideal) x0 x1 x2 x3 : FVec Ideal S65536x256 .f32) = A
  generalize (val_main_v77 (F := Ideal) : IVec S256 1) = M
  intro e w
  pointwise
  rw [w, e]
  by_cases h : c.val / 64 % 2 = 0
  · rw [if_pos h, if_pos h]; exact zero_const
  · rw [if_neg h, if_neg h]; rfl

end Proj.InRef
-- ==== Proof.InKernel.lean ====
module
public import proofs.«01_k».proof.Proof.Norm
public import proofs.«01_k».proof.Proof.Gen.InProjIdeal.Value
public import proofs.«01_k».proof.Proof.InRef
public import Idealize.ShloMosaic.Lib.StableHlo.RunRead
public import Idealize.ShloMosaic.Lib.Pipeline.ValueKit
public import Idealize.ShloMosaic.Lib.Pointwise
public import Idealize.ShloMosaic.Lib.IdealHost
/-! The kernel of the input projection: its blocks, and its eight result arrays. -/
@[expose] public section
set_option maxRecDepth 16384
noncomputable section
namespace Proj.In
open Cert.InProjIdeal Cert.InProjIdeal.Gen Idealize.ShloMosaic Idealize.ShloMosaic.TcCoe Idealize.SL.Sem
  Idealize.ShloMosaic.StableHlo

/-! The values of the body, at variables. -/

theorem norm_at (x : FVec Ideal S512x1024 .f32) (g b : FVec Ideal S1x1024 .f32) (a : Fin 512) (c : Fin 1024) :
    (k0_pay2 (F := Ideal) x g b : FVec Ideal S512x1024 .f32) (ix2 a c) =
      norm (fun k => x (ix2 a k)) (g (ix2 0 c)) (b (ix2 0 c)) c := by
  pointwise [k0_pay2]
  rfl

theorem norm_bf_at (x : FVec Ideal S512x1024 .f32) (g b : FVec Ideal S1x1024 .f32) (a : Fin 512) (c : Fin 1024) :
    (k0_pay3 (F := Ideal) x g b : FVec Ideal S512x1024 .bf16) (ix2 a c) =
      norm (fun k => x (ix2 a k)) (g (ix2 0 c)) (b (ix2 0 c)) c := by
  rw [← norm_at x g b a c]
  unfold k0_pay3
  generalize (k0_pay2 (F := Ideal) x g b : FVec Ideal S512x1024 .f32) = Y
  pointwise

theorem scaled_at (y : FVec Ideal S512x1024 .bf16) (w : FVec Ideal S1024x512 .bf16) (a c : Fin 512) :
    (k0_pay5 (F := Ideal) y w : FVec Ideal S512x512 .bf16) (ix2 a c) =
      (∑ k : Fin 1024, y (ix2 a k) * w (ix2 k c)) * Ideal.ofBits .f32 0x3E000000#32 := by
  pointwise [k0_pay5]

theorem keys_at (y : FVec Ideal S512x1024 .bf16) (w : FVec Ideal S512x1024 .bf16) (a c : Fin 512) :
    (k0_pay6 (F := Ideal) y w : FVec Ideal S512x512 .bf16) (ix2 c a) = ∑ k : Fin 1024, y (ix2 a k) * w (ix2 c k) := by
  pointwise [k0_pay6]
  exact Finset.sum_congr rfl fun k _ => mul_comm _ _

theorem values_at (y : FVec Ideal S512x1024 .bf16) (w : FVec Ideal S1024x512 .bf16) (a c : Fin 512) :
    (k0_pay7 (F := Ideal) y w : FVec Ideal S512x512 .bf16) (ix2 a c) = ∑ k : Fin 1024, y (ix2 a k) * w (ix2 k c) := by
  pointwise [k0_pay7]

theorem pooled_at (y : FVec Ideal S512x1024 .bf16) (w : FVec Ideal S1024x256 .bf16) (a : Fin 512) (c : Fin 256) :
    (k0_pay8 (F := Ideal) y w : FVec Ideal S512x256 .f32) (ix2 a c) = ∑ k : Fin 1024, y (ix2 a k) * w (ix2 k c) := by
  pointwise [k0_pay8]

theorem mem_at (y : FVec Ideal S512x1024 .bf16) (w : FVec Ideal S1024x256 .bf16) (a : Fin 512) (c : Fin 256) :
    (k0_pay9 (F := Ideal) y w : FVec Ideal S512x256 .bf16) (ix2 a c) =
      (∑ k : Fin 1024, y (ix2 a k) * w (ix2 k c)) * Ideal.ofBits .f32 0x3E000000#32 := by
  pointwise [k0_pay9]

/-- A product with weights that one bit keeps or zeroes. -/
theorem masked_sum (p : Prop) [Decidable p] (y w : Fin 1024 → EReal) (s : EReal) :
    (∑ k, y k * (w k * (if p then 1 else 0))) * s = if p then (∑ k, y k * w k) * s else 0 := by
  by_cases h : p
  · simp only [if_pos h, mul_one]
  · simp only [if_neg h, mul_zero, Finset.sum_const_zero, zero_mul]

variable (m : (l : Loc nD τ sig) → Buf (Elt Ideal) l) (c : Dev nD)

abbrev arg0 : FVec Ideal S16x4096x1024 .f32 := m ((c : Thread nD τ).loc main_arg0)
abbrev arg1 : FVec Ideal S1024 .f32 := m ((c : Thread nD τ).loc main_arg1)
abbrev arg2 : FVec Ideal S1024 .f32 := m ((c : Thread nD τ).loc main_arg2)
abbrev arg3 : FVec Ideal S1x1024x2048 .f32 := m ((c : Thread nD τ).loc main_arg3)

/-! The arrays the host hands to the kernel. -/

theorem x_at (n : Fin 65536) (k : Fin 1024) : (V m c main_v6 : FVec Ideal S65536x1024 .f32) (ix2 n k) =
    arg0 m c (ix3 (⟨n.val / 4096, by omega⟩ : Fin 16) (⟨n.val % 4096, by omega⟩ : Fin 4096) k) := by
  unfold V; unfold_abbrev_sides; after_reads_simp
  pointwise
theorem g_at (d : Fin 1024) : (V m c main_v7 : FVec Ideal S1x1024 .f32) (ix2 0 d) = arg1 m c (ix1 d) := by
  unfold V; unfold_abbrev_sides; after_reads_simp
  pointwise
theorem b_at (d : Fin 1024) : (V m c main_v8 : FVec Ideal S1x1024 .f32) (ix2 0 d) = arg2 m c (ix1 d) := by
  unfold V; unfold_abbrev_sides; after_reads_simp
  pointwise
theorem wk_at (d : Fin 512) (k : Fin 1024) : (V m c main_v18 : FVec Ideal S512x1024 .bf16) (ix2 d k) =
    arg3 m c (ix3 0 k (⟨512 + d.val, by omega⟩ : Fin 2048)) := by
  unfold V; unfold_abbrev_sides; after_reads_simp
  pointwise
theorem wv_at (k : Fin 1024) (d : Fin 512) : (V m c main_v19 : FVec Ideal S1024x512 .bf16) (ix2 k d) =
    arg3 m c (ix3 0 k (⟨1024 + d.val, by omega⟩ : Fin 2048)) := by
  unfold V; unfold_abbrev_sides; after_reads_simp
  pointwise
theorem wp_at (k : Fin 1024) (d : Fin 256) : (V m c main_v20 : FVec Ideal S1024x256 .bf16) (ix2 k d) =
    arg3 m c (ix3 0 k (⟨1536 + d.val, by omega⟩ : Fin 2048)) := by
  unfold V; unfold_abbrev_sides; after_reads_simp
  pointwise

theorem lit0_at : ∀ d : Fin 512, lit0 (S512.rowMajor (ix1 d)) = if d.val / 64 % 2 = 0 then 0x3F800000#32 else 0x00000000#32 := by
  decide +kernel

theorem lit1_at : ∀ d : Fin 512, lit1 (S512.rowMajor (ix1 d)) = if d.val / 64 % 2 = 0 then 0x00000000#32 else 0x3F800000#32 := by
  decide +kernel

theorem lit2_at : ∀ d : Fin 256, lit2 (S256.rowMajor (ix1 d)) = if d.val / 64 % 2 = 0 then 0x3F800000#32 else 0x00000000#32 := by
  decide +kernel

theorem lit3_at : ∀ d : Fin 256, lit3 (S256.rowMajor (ix1 d)) = if d.val / 64 % 2 = 0 then 0x00000000#32 else 0x3F800000#32 := by
  decide +kernel

theorem wql_at (k : Fin 1024) (d : Fin 512) : (V m c main_v12 : FVec Ideal S1024x512 .bf16) (ix2 k d) =
    arg3 m c (ix3 0 k (⟨d.val, by omega⟩ : Fin 2048)) * (if d.val / 64 % 2 = 0 then 1 else 0) := by
  unfold V; unfold_abbrev_sides; after_reads_simp
  pointwise
  rw [lit0_at]
  by_cases h : d.val / 64 % 2 = 0
  · rw [if_pos h, if_pos h, Ideal.ofBits_one_f32]; rfl
  · rw [if_neg h, if_neg h, Ideal.ofBits_zero_f32]; rfl

theorem wqh_at (k : Fin 1024) (d : Fin 512) : (V m c main_v16 : FVec Ideal S1024x512 .bf16) (ix2 k d) =
    arg3 m c (ix3 0 k (⟨d.val, by omega⟩ : Fin 2048)) * (if ¬d.val / 64 % 2 = 0 then 1 else 0) := by
  unfold V; unfold_abbrev_sides; after_reads_simp
  pointwise
  rw [lit1_at]
  by_cases h : d.val / 64 % 2 = 0
  · rw [if_pos h, if_neg (not_not.mpr h), Ideal.ofBits_zero_f32]; rfl
  · rw [if_neg h, if_pos h, Ideal.ofBits_one_f32]; rfl

theorem wml_at (k : Fin 1024) (d : Fin 256) : (V m c main_v24 : FVec Ideal S1024x256 .bf16) (ix2 k d) =
    arg3 m c (ix3 0 k (⟨1792 + d.val, by omega⟩ : Fin 2048)) * (if d.val / 64 % 2 = 0 then 1 else 0) := by
  unfold V; unfold_abbrev_sides; after_reads_simp
  pointwise
  rw [lit2_at]
  by_cases h : d.val / 64 % 2 = 0
  · rw [if_pos h, if_pos h, Ideal.ofBits_one_f32]; rfl
  · rw [if_neg h, if_neg h, Ideal.ofBits_zero_f32]; rfl

theorem wmh_at (k : Fin 1024) (d : Fin 256) : (V m c main_v28 : FVec Ideal S1024x256 .bf16) (ix2 k d) =
    arg3 m c (ix3 0 k (⟨1792 + d.val, by omega⟩ : Fin 2048)) * (if ¬d.val / 64 % 2 = 0 then 1 else 0) := by
  unfold V; unfold_abbrev_sides; after_reads_simp
  pointwise
  rw [lit3_at]
  by_cases h : d.val / 64 % 2 = 0
  · rw [if_pos h, if_neg (not_not.mpr h), Ideal.ofBits_zero_f32]; rfl
  · rw [if_neg h, if_pos h, Ideal.ofBits_one_f32]; rfl

/-! The blocks at a grid point. -/

abbrev pt (t : Fin cfg0.N) : Nat := (grid0.coords t 0).val
theorem pt_lt : ∀ t : Fin cfg0.N, pt t < 128 := (by decide +kernel : ∀ t : Fin grid0.N, (grid0.coords t 0).val < 128)
theorem idx0 : ∀ t : Fin cfg0.N, win0_0.index t = ![pt t, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![pt t, 0] := (by decide +kernel : ∀ t : Fin grid0.N, _)
theorem idx11 : ∀ t : Fin cfg0.N, win0_11.index t = ![pt t, 0] := (by decide +kernel : ∀ t : Fin grid0.N, _)
theorem idx12 : ∀ t : Fin cfg0.N, win0_12.index t = ![pt t, 0] := (by decide +kernel : ∀ t : Fin grid0.N, _)
theorem idx13 : ∀ t : Fin cfg0.N, win0_13.index t = ![0, pt t] := (by decide +kernel : ∀ t : Fin grid0.N, _)
theorem idx14 : ∀ t : Fin cfg0.N, win0_14.index t = ![pt t, 0] := (by decide +kernel : ∀ t : Fin grid0.N, _)
theorem idx15 : ∀ t : Fin cfg0.N, win0_15.index t = ![pt t, 0] := (by decide +kernel : ∀ t : Fin grid0.N, _)
theorem idx16 : ∀ t : Fin cfg0.N, win0_16.index t = ![pt t, 0] := (by decide +kernel : ∀ t : Fin grid0.N, _)
theorem idx17 : ∀ t : Fin cfg0.N, win0_17.index t = ![pt t, 0] := (by decide +kernel : ∀ t : Fin grid0.N, _)

theorem blk0 (t : Fin cfg0.N) (x : S512x1024.Idx) (i : S65536x1024.Idx) (h0 : (i 0).val = pt t * 512 + (x 0).val) (h1 : (i 1).val = (x 1).val) :
    iblk m c 0 t x = (V m c main_v6 : FVec Ideal S65536x1024 .f32) i := by blk_ext [iblk, idx0 t]
theorem blk1 (t : Fin cfg0.N) (x : S1x1024.Idx) : iblk m c 1 t x = (V m c main_v7 : FVec Ideal S1x1024 .f32) x := by blk_ext [iblk, idx1 t]
theorem blk2 (t : Fin cfg0.N) (x : S1x1024.Idx) : iblk m c 2 t x = (V m c main_v8 : FVec Ideal S1x1024 .f32) x := by blk_ext [iblk, idx2 t]
theorem blk3 (t : Fin cfg0.N) (x : S1024x512.Idx) : iblk m c 3 t x = (V m c main_v12 : FVec Ideal S1024x512 .bf16) x := by blk_ext [iblk, idx3 t]
theorem blk4 (t : Fin cfg0.N) (x : S1024x512.Idx) : iblk m c 4 t x = (V m c main_v16 : FVec Ideal S1024x512 .bf16) x := by blk_ext [iblk, idx4 t]
theorem blk5 (t : Fin cfg0.N) (x : S512x1024.Idx) : iblk m c 5 t x = (V m c main_v18 : FVec Ideal S512x1024 .bf16) x := by blk_ext [iblk, idx5 t]
theorem blk6 (t : Fin cfg0.N) (x : S1024x512.Idx) : iblk m c 6 t x = (V m c main_v19 : FVec Ideal S1024x512 .bf16) x := by blk_ext [iblk, idx6 t]
theorem blk7 (t : Fin cfg0.N) (x : S1024x256.Idx) : iblk m c 7 t x = (V m c main_v20 : FVec Ideal S1024x256 .bf16) x := by blk_ext [iblk, idx7 t]
theorem blk8 (t : Fin cfg0.N) (x : S1024x256.Idx) : iblk m c 8 t x = (V m c main_v24 : FVec Ideal S1024x256 .bf16) x := by blk_ext [iblk, idx8 t]
theorem blk9 (t : Fin cfg0.N) (x : S1024x256.Idx) : iblk m c 9 t x = (V m c main_v28 : FVec Ideal S1024x256 .bf16) x := by blk_ext [iblk, idx9 t]

theorem ld0 (x : Vec Ideal S512x1024 .f32) : View.ld (Val := Elt Ideal) (e' := .f32) x r0_0 = x := funext fun i => by rw [eq_ix2 i]; pointwise
theorem ld0' (x : Vec Ideal S512x1024 .bf16) : View.ld (Val := Elt Ideal) (e' := .bf16) x r0_0 = x := funext fun i => by rw [eq_ix2 i]; pointwise
theorem ld2 (x : Vec Ideal S1024x512 .bf16) : View.ld (Val := Elt Ideal) (e' := .bf16) x r0_2 = x := funext fun i => by rw [eq_ix2 i]; pointwise
theorem ld4 (x : Vec Ideal S1024x256 .bf16) : View.ld (Val := Elt Ideal) (e' := .bf16) x r0_4 = x := funext fun i => by rw [eq_ix2 i]; pointwise
theorem ld1 (x : Vec Ideal S1x1024 .f32) : View.ld (Val := Elt Ideal) (e' := .f32) x r0_1 = x := funext fun i => by
  obtain ⟨a, d, rfl⟩ : ∃ (a : Fin 1) (d : Fin 1024), i = ix2 a d := ⟨_, _, eq_ix2 i⟩
  obtain rfl : a = 0 := Subsingleton.elim _ _
  pointwise

/-- The normalised block at a grid point, as the products read it. -/
abbrev nb (t : Fin cfg0.N) : FVec Ideal S512x1024 .bf16 := k0_pay3 (F := Ideal) (iblk m c 0 t) (iblk m c 1 t) (iblk m c 2 t)

theorem row_eq (t : Fin cfg0.N) (a : Fin 512) (n : Fin 65536) (hn : n.val = pt t * 512 + a.val) (d : Fin 1024) :
    norm (fun k => (iblk m c 0 t : FVec Ideal S512x1024 .f32) (ix2 a k)) ((iblk m c 1 t : FVec Ideal S1x1024 .f32) (ix2 0 d))
      ((iblk m c 2 t : FVec Ideal S1x1024 .f32) (ix2 0 d)) d = InRef.xn (arg0 m c) (arg1 m c) (arg2 m c) n d := by
  unfold InRef.xn
  rw [blk1, blk2, g_at, b_at]
  exact congrArg (norm · _ _ d) (funext fun k => by rw [blk0 m c t (ix2 a k) (ix2 n k) hn rfl, x_at])

theorem nb_at (t : Fin cfg0.N) (a : Fin 512) (n : Fin 65536) (hn : n.val = pt t * 512 + a.val) (d : Fin 1024) :
    nb m c t (ix2 a d) = InRef.xn (arg0 m c) (arg1 m c) (arg2 m c) n d :=
  (norm_bf_at _ _ _ a d).trans (row_eq m c t a n hn d)

/-! The eight result arrays. -/

abbrev projOf (n : Fin 65536) (j : Fin 2048) : EReal := InRef.proj (arg0 m c) (arg1 m c) (arg2 m c) (arg3 m c) n j
abbrev scale : EReal := Ideal.ofBits .f32 0x3E000000#32

abbrev of0 (n : Fin 65536) (d : Fin 1024) : EReal := InRef.xn (arg0 m c) (arg1 m c) (arg2 m c) n d
abbrev of1 (n : Fin 65536) (d : Fin 512) : EReal := if d.val / 64 % 2 = 0 then projOf m c n ⟨d.val, by omega⟩ * scale else 0
abbrev of2 (n : Fin 65536) (d : Fin 512) : EReal := if d.val / 64 % 2 = 0 then 0 else projOf m c n ⟨d.val, by omega⟩ * scale
abbrev of3 (n : Fin 65536) (d : Fin 512) : EReal := projOf m c n ⟨512 + d.val, by omega⟩
abbrev of4 (n : Fin 65536) (d : Fin 512) : EReal := projOf m c n ⟨1024 + d.val, by omega⟩
abbrev of5 (n : Fin 65536) (d : Fin 256) : EReal := projOf m c n ⟨1536 + d.val, by omega⟩
abbrev of6 (n : Fin 65536) (d : Fin 256) : EReal := if d.val / 64 % 2 = 0 then projOf m c n ⟨1792 + d.val, by omega⟩ * scale else 0
abbrev of7 (n : Fin 65536) (d : Fin 256) : EReal := if d.val / 64 % 2 = 0 then 0 else projOf m c n ⟨1792 + d.val, by omega⟩ * scale

def result0 : FVec Ideal S65536x1024 .f32 := fun i => of0 m c (i 0) (i 1)
def result1 : FVec Ideal S65536x512 .bf16 := fun i => of1 m c (i 0) (i 1)
def result2 : FVec Ideal S65536x512 .bf16 := fun i => of2 m c (i 0) (i 1)
def result3 : FVec Ideal S512x65536 .bf16 := fun i => of3 m c (i 1) (i 0)
def result4 : FVec Ideal S65536x512 .bf16 := fun i => of4 m c (i 0) (i 1)
def result5 : FVec Ideal S65536x256 .f32 := fun i => of5 m c (i 0) (i 1)
def result6 : FVec Ideal S65536x256 .bf16 := fun i => of6 m c (i 0) (i 1)
def result7 : FVec Ideal S65536x256 .bf16 := fun i => of7 m c (i 0) (i 1)

theorem piece0 (t : Fin cfg0.N) (a : Fin 512) (d : Fin 1024) (n : Fin 65536) (d' : Fin 1024) (hn : n.val = pt t * 512 + a.val)
    (hd : d'.val = d.val) :
    (k0_pay2 (F := Ideal) (iblk m c 0 t) (iblk m c 1 t) (iblk m c 2 t) : FVec Ideal S512x1024 .f32) (ix2 a d) = of0 m c n d' := by
  obtain rfl : d' = d := Fin.ext hd
  exact (norm_at _ _ _ a d').trans (row_eq m c t a n hn d')

theorem sum1 (t : Fin cfg0.N) (a : Fin 512) (d : Fin 512) (n : Fin 65536) (hn : n.val = pt t * 512 + a.val) :
    ∑ k : Fin 1024, nb m c t (ix2 a k) * (iblk m c 3 t : FVec Ideal S1024x512 .bf16) (ix2 k d) =
      ∑ k : Fin 1024, InRef.xn (arg0 m c) (arg1 m c) (arg2 m c) n k * (arg3 m c (ix3 0 k (⟨d.val, by omega⟩ : Fin 2048)) * (if d.val / 64 % 2 = 0 then 1 else 0)) := by
  refine Finset.sum_congr rfl fun k _ => ?_
  rw [nb_at m c t a n hn k, blk3, wql_at]

theorem piece1 (t : Fin cfg0.N) (a : Fin 512) (d : Fin 512) (n : Fin 65536) (d' : Fin 512) (hn : n.val = pt t * 512 + a.val)
    (hd : d'.val = d.val) :
    (k0_pay5 (F := Ideal) (nb m c t) (iblk m c 3 t) : FVec Ideal S512x512 .bf16) (ix2 a d) = of1 m c n d' := by
  obtain rfl : d' = d := Fin.ext hd
  exact (scaled_at _ _ a d').trans ((congrArg (· * scale) (sum1 m c t a d' n hn)).trans (masked_sum _ _ _ _))

theorem sum2 (t : Fin cfg0.N) (a : Fin 512) (d : Fin 512) (n : Fin 65536) (hn : n.val = pt t * 512 + a.val) :
    ∑ k : Fin 1024, nb m c t (ix2 a k) * (iblk m c 4 t : FVec Ideal S1024x512 .bf16) (ix2 k d) =
      ∑ k : Fin 1024, InRef.xn (arg0 m c) (arg1 m c) (arg2 m c) n k * (arg3 m c (ix3 0 k (⟨d.val, by omega⟩ : Fin 2048)) * (if ¬d.val / 64 % 2 = 0 then 1 else 0)) := by
  refine Finset.sum_congr rfl fun k _ => ?_
  rw [nb_at m c t a n hn k, blk4, wqh_at]

theorem piece2 (t : Fin cfg0.N) (a : Fin 512) (d : Fin 512) (n : Fin 65536) (d' : Fin 512) (hn : n.val = pt t * 512 + a.val)
    (hd : d'.val = d.val) :
    (k0_pay5 (F := Ideal) (nb m c t) (iblk m c 4 t) : FVec Ideal S512x512 .bf16) (ix2 a d) = of2 m c n d' := by
  obtain rfl : d' = d := Fin.ext hd
  exact (scaled_at _ _ a d').trans ((congrArg (· * scale) (sum2 m c t a d' n hn)).trans ((masked_sum _ _ _ _).trans (ite_not _ _ _)))

theorem sum3 (t : Fin cfg0.N) (a : Fin 512) (d : Fin 512) (n : Fin 65536) (hn : n.val = pt t * 512 + a.val) :
    ∑ k : Fin 1024, nb m c t (ix2 a k) * (iblk m c 5 t : FVec Ideal S512x1024 .bf16) (ix2 d k) =
      ∑ k : Fin 1024, InRef.xn (arg0 m c) (arg1 m c) (arg2 m c) n k * arg3 m c (ix3 0 k (⟨512 + d.val, by omega⟩ : Fin 2048)) := by
  refine Finset.sum_congr rfl fun k _ => ?_
  rw [nb_at m c t a n hn k, blk5, wk_at]

theorem piece3 (t : Fin cfg0.N) (a : Fin 512) (d : Fin 512) (n : Fin 65536) (d' : Fin 512) (hn : n.val = pt t * 512 + a.val)
    (hd : d'.val = d.val) :
    (k0_pay6 (F := Ideal) (nb m c t) (iblk m c 5 t) : FVec Ideal S512x512 .bf16) (ix2 d a) = of3 m c n d' := by
  obtain rfl : d' = d := Fin.ext hd
  exact (keys_at _ _ a d').trans (sum3 m c t a d' n hn)

theorem sum4 (t : Fin cfg0.N) (a : Fin 512) (d : Fin 512) (n : Fin 65536) (hn : n.val = pt t * 512 + a.val) :
    ∑ k : Fin 1024, nb m c t (ix2 a k) * (iblk m c 6 t : FVec Ideal S1024x512 .bf16) (ix2 k d) =
      ∑ k : Fin 1024, InRef.xn (arg0 m c) (arg1 m c) (arg2 m c) n k * arg3 m c (ix3 0 k (⟨1024 + d.val, by omega⟩ : Fin 2048)) := by
  refine Finset.sum_congr rfl fun k _ => ?_
  rw [nb_at m c t a n hn k, blk6, wv_at]

theorem piece4 (t : Fin cfg0.N) (a : Fin 512) (d : Fin 512) (n : Fin 65536) (d' : Fin 512) (hn : n.val = pt t * 512 + a.val)
    (hd : d'.val = d.val) :
    (k0_pay7 (F := Ideal) (nb m c t) (iblk m c 6 t) : FVec Ideal S512x512 .bf16) (ix2 a d) = of4 m c n d' := by
  obtain rfl : d' = d := Fin.ext hd
  exact (values_at _ _ a d').trans (sum4 m c t a d' n hn)

theorem sum5 (t : Fin cfg0.N) (a : Fin 512) (d : Fin 256) (n : Fin 65536) (hn : n.val = pt t * 512 + a.val) :
    ∑ k : Fin 1024, nb m c t (ix2 a k) * (iblk m c 7 t : FVec Ideal S1024x256 .bf16) (ix2 k d) =
      ∑ k : Fin 1024, InRef.xn (arg0 m c) (arg1 m c) (arg2 m c) n k * arg3 m c (ix3 0 k (⟨1536 + d.val, by omega⟩ : Fin 2048)) := by
  refine Finset.sum_congr rfl fun k _ => ?_
  rw [nb_at m c t a n hn k, blk7, wp_at]

theorem piece5 (t : Fin cfg0.N) (a : Fin 512) (d : Fin 256) (n : Fin 65536) (d' : Fin 256) (hn : n.val = pt t * 512 + a.val)
    (hd : d'.val = d.val) :
    (k0_pay8 (F := Ideal) (nb m c t) (iblk m c 7 t) : FVec Ideal S512x256 .f32) (ix2 a d) = of5 m c n d' := by
  obtain rfl : d' = d := Fin.ext hd
  exact (pooled_at _ _ a d').trans (sum5 m c t a d' n hn)

theorem sum6 (t : Fin cfg0.N) (a : Fin 512) (d : Fin 256) (n : Fin 65536) (hn : n.val = pt t * 512 + a.val) :
    ∑ k : Fin 1024, nb m c t (ix2 a k) * (iblk m c 8 t : FVec Ideal S1024x256 .bf16) (ix2 k d) =
      ∑ k : Fin 1024, InRef.xn (arg0 m c) (arg1 m c) (arg2 m c) n k * (arg3 m c (ix3 0 k (⟨1792 + d.val, by omega⟩ : Fin 2048)) * (if d.val / 64 % 2 = 0 then 1 else 0)) := by
  refine Finset.sum_congr rfl fun k _ => ?_
  rw [nb_at m c t a n hn k, blk8, wml_at]

theorem piece6 (t : Fin cfg0.N) (a : Fin 512) (d : Fin 256) (n : Fin 65536) (d' : Fin 256) (hn : n.val = pt t * 512 + a.val)
    (hd : d'.val = d.val) :
    (k0_pay9 (F := Ideal) (nb m c t) (iblk m c 8 t) : FVec Ideal S512x256 .bf16) (ix2 a d) = of6 m c n d' := by
  obtain rfl : d' = d := Fin.ext hd
  exact (mem_at _ _ a d').trans ((congrArg (· * scale) (sum6 m c t a d' n hn)).trans (masked_sum _ _ _ _))

theorem sum7 (t : Fin cfg0.N) (a : Fin 512) (d : Fin 256) (n : Fin 65536) (hn : n.val = pt t * 512 + a.val) :
    ∑ k : Fin 1024, nb m c t (ix2 a k) * (iblk m c 9 t : FVec Ideal S1024x256 .bf16) (ix2 k d) =
      ∑ k : Fin 1024, InRef.xn (arg0 m c) (arg1 m c) (arg2 m c) n k * (arg3 m c (ix3 0 k (⟨1792 + d.val, by omega⟩ : Fin 2048)) * (if ¬d.val / 64 % 2 = 0 then 1 else 0)) := by
  refine Finset.sum_congr rfl fun k _ => ?_
  rw [nb_at m c t a n hn k, blk9, wmh_at]

theorem piece7 (t : Fin cfg0.N) (a : Fin 512) (d : Fin 256) (n : Fin 65536) (d' : Fin 256) (hn : n.val = pt t * 512 + a.val)
    (hd : d'.val = d.val) :
    (k0_pay9 (F := Ideal) (nb m c t) (iblk m c 9 t) : FVec Ideal S512x256 .bf16) (ix2 a d) = of7 m c n d' := by
  obtain rfl : d' = d := Fin.ext hd
  exact (mem_at _ _ a d').trans ((congrArg (· * scale) (sum7 m c t a d' n hn)).trans ((masked_sum _ _ _ _).trans (ite_not _ _ _)))

end Proj.In
-- ==== Proof.InArrays.lean ====
module
public import proofs.«01_k».proof.Proof.InKernel
/-! The eight result arrays of the input projection's kernel, assembled from its blocks. -/
@[expose] public section
set_option maxRecDepth 16384
noncomputable section
namespace Proj.In
open Cert.InProjIdeal Cert.InProjIdeal.Gen Idealize.ShloMosaic Idealize.ShloMosaic.TcCoe Idealize.SL.Sem
  Idealize.ShloMosaic.StableHlo
variable (m : (l : Loc nD τ sig) → Buf (Elt Ideal) l) (c : Dev nD)

theorem result0_eq : (dats m 0 c).arrAt 10 cfg0.N = result0 m c := by
  refine (dats m 0 c).arrAt_eq_of_covers 10 _ (by decide +kernel) fun t _ y => ?_
  blk_simp
  rw [after0_10]
  unfold out0_10
  canon_tiles y h
  rw [ld0, ld1, ld1]
  obtain ⟨a, d, rfl⟩ : ∃ (a : Fin 512) (d : Fin 1024), y = ix2 a d := ⟨_, _, eq_ix2 y⟩
  refine piece0 m c t a d _ _ ?_ ?_
  · blk_simp [idx10 t]
    exact congrArg (_ + ·) h0
  · blk_simp [idx10 t]
    exact h1

theorem result1_eq : (dats m 0 c).arrAt 11 cfg0.N = result1 m c := by
  refine (dats m 0 c).arrAt_eq_of_covers 11 _ (by decide +kernel) fun t _ y => ?_
  blk_simp
  rw [after0_11]
  unfold out0_11
  canon_tiles y h
  rw [ld0, ld1, ld1, ld2]
  obtain ⟨a, d, rfl⟩ : ∃ (a : Fin 512) (d : Fin 512), y = ix2 a d := ⟨_, _, eq_ix2 y⟩
  refine piece1 m c t a d _ _ ?_ ?_
  · blk_simp [idx11 t]
    exact congrArg (_ + ·) h0
  · blk_simp [idx11 t]
    exact h1

theorem result2_eq : (dats m 0 c).arrAt 12 cfg0.N = result2 m c := by
  refine (dats m 0 c).arrAt_eq_of_covers 12 _ (by decide +kernel) fun t _ y => ?_
  blk_simp
  rw [after0_12]
  unfold out0_12 k0_pay10
  canon_tiles y h
  rw [ld0, ld1, ld1, ld2]
  obtain ⟨a, d, rfl⟩ : ∃ (a : Fin 512) (d : Fin 512), y = ix2 a d := ⟨_, _, eq_ix2 y⟩
  refine piece2 m c t a d _ _ ?_ ?_
  · blk_simp [idx12 t]
    exact congrArg (_ + ·) h0
  · blk_simp [idx12 t]
    exact h1

theorem result3_eq : (dats m 0 c).arrAt 13 cfg0.N = result3 m c := by
  refine (dats m 0 c).arrAt_eq_of_covers 13 _ (by decide +kernel) fun t _ y => ?_
  blk_simp
  rw [after0_13]
  unfold out0_13 k0_pay10
  canon_tiles y h
  rw [ld0, ld1, ld1, ld0']
  obtain ⟨d, a, rfl⟩ : ∃ (d : Fin 512) (a : Fin 512), y = ix2 d a := ⟨_, _, eq_ix2 y⟩
  refine piece3 m c t a d _ _ ?_ ?_
  · blk_simp [idx13 t]
    exact congrArg (_ + ·) h1
  · blk_simp [idx13 t]
    exact h0

theorem result4_eq : (dats m 0 c).arrAt 14 cfg0.N = result4 m c := by
  refine (dats m 0 c).arrAt_eq_of_covers 14 _ (by decide +kernel) fun t _ y => ?_
  blk_simp
  rw [after0_14]
  unfold out0_14 k0_pay10
  canon_tiles y h
  rw [ld0, ld1, ld1, ld2]
  obtain ⟨a, d, rfl⟩ : ∃ (a : Fin 512) (d : Fin 512), y = ix2 a d := ⟨_, _, eq_ix2 y⟩
  refine piece4 m c t a d _ _ ?_ ?_
  · blk_simp [idx14 t]
    exact congrArg (_ + ·) h0
  · blk_simp [idx14 t]
    exact h1

theorem result5_eq : (dats m 0 c).arrAt 15 cfg0.N = result5 m c := by
  refine (dats m 0 c).arrAt_eq_of_covers 15 _ (by decide +kernel) fun t _ y => ?_
  blk_simp
  rw [after0_15]
  unfold out0_15 k0_pay10
  canon_tiles y h
  rw [ld0, ld1, ld1, ld4]
  obtain ⟨a, d, rfl⟩ : ∃ (a : Fin 512) (d : Fin 256), y = ix2 a d := ⟨_, _, eq_ix2 y⟩
  refine piece5 m c t a d _ _ ?_ ?_
  · blk_simp [idx15 t]
    exact congrArg (_ + ·) h0
  · blk_simp [idx15 t]
    exact h1

theorem result6_eq : (dats m 0 c).arrAt 16 cfg0.N = result6 m c := by
  refine (dats m 0 c).arrAt_eq_of_covers 16 _ (by decide +kernel) fun t _ y => ?_
  blk_simp
  rw [after0_16]
  unfold out0_16 k0_pay10
  canon_tiles y h
  rw [ld0, ld1, ld1, ld4]
  obtain ⟨a, d, rfl⟩ : ∃ (a : Fin 512) (d : Fin 256), y = ix2 a d := ⟨_, _, eq_ix2 y⟩
  refine piece6 m c t a d _ _ ?_ ?_
  · blk_simp [idx16 t]
    exact congrArg (_ + ·) h0
  · blk_simp [idx16 t]
    exact h1

theorem result7_eq : (dats m 0 c).arrAt 17 cfg0.N = result7 m c := by
  refine (dats m 0 c).arrAt_eq_of_covers 17 _ (by decide +kernel) fun t _ y => ?_
  blk_simp
  rw [after0_17]
  unfold out0_17 k0_pay10
  canon_tiles y h
  rw [ld0, ld1, ld1, ld4]
  obtain ⟨a, d, rfl⟩ : ∃ (a : Fin 512) (d : Fin 256), y = ix2 a d := ⟨_, _, eq_ix2 y⟩
  refine piece7 m c t a d _ _ ?_ ?_
  · blk_simp [idx17 t]
    exact congrArg (_ + ·) h0
  · blk_simp [idx17 t]
    exact h1

end Proj.In
-- ==== Proof.InClaims.lean ====
module
public import proofs.«01_k».proof.Defs
public import proofs.«01_k».proof.Proof.Gen.InProj.Frame
public import proofs.«01_k».proof.Proof.Gen.InProjIdeal.Frame
public import proofs.«01_k».proof.Proof.Gen.InProjIdeal.Value
public import proofs.«01_k».proof.Proof.Gen.InRefIdeal.Run
public import proofs.«01_k».proof.Proof.Gen.InRefIdeal.Read
public import proofs.«01_k».proof.Proof.InRef
public import proofs.«01_k».proof.Proof.InArrays
/-! The claims on the input projection: the reference halts, and the kernel computes its eight results. -/
@[expose] public section
set_option maxRecDepth 16384
noncomputable section
namespace Proj.In
open Cert.InProjIdeal Idealize.ShloMosaic Idealize.ShloMosaic.TcCoe Idealize.SL.Sem

/-! Each array of the kernel is the reference's. -/

theorem ref0 (m : (l : Loc nD τ sig) → Buf (Elt Ideal) l) (c : Dev nD) :
    result0 m c = Cert.InRefIdeal.Read.val_main_v40 (F := Ideal) (arg0 m c) (arg1 m c) (arg2 m c) := by
  funext i
  obtain ⟨n, d, rfl⟩ : ∃ (n : Fin 65536) (d : Fin 1024), i = ix2 n d := ⟨_, _, eq_ix2 i⟩
  exact (InRef.xn_at (arg0 m c) (arg1 m c) (arg2 m c) n d).symm

theorem ref1 (m : (l : Loc nD τ sig) → Buf (Elt Ideal) l) (c : Dev nD) :
    result1 m c = Cert.InRefIdeal.Read.val_main_v49 (F := Ideal) (arg0 m c) (arg1 m c) (arg2 m c) (arg3 m c) := by
  funext i
  obtain ⟨n, d, rfl⟩ : ∃ (n : Fin 65536) (d : Fin 512), i = ix2 n d := ⟨_, _, eq_ix2 i⟩
  exact (InRef.q_even (arg0 m c) (arg1 m c) (arg2 m c) (arg3 m c) n d).symm

theorem ref2 (m : (l : Loc nD τ sig) → Buf (Elt Ideal) l) (c : Dev nD) :
    result2 m c = Cert.InRefIdeal.Read.val_main_v58 (F := Ideal) (arg0 m c) (arg1 m c) (arg2 m c) (arg3 m c) := by
  funext i
  obtain ⟨n, d, rfl⟩ : ∃ (n : Fin 65536) (d : Fin 512), i = ix2 n d := ⟨_, _, eq_ix2 i⟩
  exact (InRef.q_odd (arg0 m c) (arg1 m c) (arg2 m c) (arg3 m c) n d).symm

theorem ref3 (m : (l : Loc nD τ sig) → Buf (Elt Ideal) l) (c : Dev nD) :
    result3 m c = Cert.InRefIdeal.Read.val_main_v60 (F := Ideal) (arg0 m c) (arg1 m c) (arg2 m c) (arg3 m c) := by
  funext i
  obtain ⟨d, n, rfl⟩ : ∃ (d : Fin 512) (n : Fin 65536), i = ix2 d n := ⟨_, _, eq_ix2 i⟩
  exact (InRef.k_at (arg0 m c) (arg1 m c) (arg2 m c) (arg3 m c) n d).symm

theorem ref4 (m : (l : Loc nD τ sig) → Buf (Elt Ideal) l) (c : Dev nD) :
    result4 m c = Cert.InRefIdeal.Read.val_main_v61 (F := Ideal) (arg0 m c) (arg1 m c) (arg2 m c) (arg3 m c) := by
  funext i
  obtain ⟨n, d, rfl⟩ : ∃ (n : Fin 65536) (d : Fin 512), i = ix2 n d := ⟨_, _, eq_ix2 i⟩
  exact (InRef.v_at (arg0 m c) (arg1 m c) (arg2 m c) (arg3 m c) n d).symm

theorem ref5 (m : (l : Loc nD τ sig) → Buf (Elt Ideal) l) (c : Dev nD) :
    result5 m c = Cert.InRefIdeal.Read.val_main_v34 (F := Ideal) (arg0 m c) (arg1 m c) (arg2 m c) (arg3 m c) := by
  funext i
  obtain ⟨n, d, rfl⟩ : ∃ (n : Fin 65536) (d : Fin 256), i = ix2 n d := ⟨_, _, eq_ix2 i⟩
  exact (InRef.pool_at (arg0 m c) (arg1 m c) (arg2 m c) (arg3 m c) n d).symm

theorem ref6 (m : (l : Loc nD τ sig) → Buf (Elt Ideal) l) (c : Dev nD) :
    result6 m c = Cert.InRefIdeal.Read.val_main_v70 (F := Ideal) (arg0 m c) (arg1 m c) (arg2 m c) (arg3 m c) := by
  funext i
  obtain ⟨n, d, rfl⟩ : ∃ (n : Fin 65536) (d : Fin 256), i = ix2 n d := ⟨_, _, eq_ix2 i⟩
  exact (InRef.qm_even (arg0 m c) (arg1 m c) (arg2 m c) (arg3 m c) n d).symm

theorem ref7 (m : (l : Loc nD τ sig) → Buf (Elt Ideal) l) (c : Dev nD) :
    result7 m c = Cert.InRefIdeal.Read.val_main_v79 (F := Ideal) (arg0 m c) (arg1 m c) (arg2 m c) (arg3 m c) := by
  funext i
  obtain ⟨n, d, rfl⟩ : ∃ (n : Fin 65536) (d : Fin 256), i = ix2 n d := ⟨_, _, eq_ix2 i⟩
  exact (InRef.qm_odd (arg0 m c) (arg1 m c) (arg2 m c) (arg3 m c) n d).symm

theorem frame_ri : Cert.quiescent_InRefIdeal := fun m ρ _ =>
  (θ_run Cert.InRefIdeal.defs _ _).mono (fun r h => ⟨fun c => (h c).2.2.2.2.2.2.2.2, Idealize.ShloMosaic.sem_eq_zero_of_no_sems (by decide) r.2⟩)
    (Cert.InRefIdeal.Value.run (F := Ideal) m ρ)

theorem algebraic : Cert.algebraic_InProjIdeal_InRefIdeal := by
  intro m ρ m' ρ' _ hag
  refine ⟨fun c => result0 m c, fun c => result1 m c, fun c => result2 m c, fun c => result3 m c, fun c => result4 m c,
    fun c => result5 m c, fun c => result6 m c, fun c => result7 m c, ?_, ?_⟩
  · refine (θ_run Cert.InProjIdeal.defs _ _).mono (fun _ h c => ?_) (Cert.InProjIdeal.Value.run_blocks (F := Ideal) m ρ)
    obtain ⟨h0, h1, h2, h3, h4, h5, h6, h7, hr⟩ := h c
    exact ⟨h0.trans (result0_eq m c), h1.trans (result1_eq m c), h2.trans (result2_eq m c), h3.trans (result3_eq m c),
      h4.trans (result4_eq m c), h5.trans (result5_eq m c), h6.trans (result6_eq m c), h7.trans (result7_eq m c), hr⟩
  · refine (θ_run Cert.InRefIdeal.defs _ _).mono (fun _ h c => ?_) (Cert.InRefIdeal.Value.run (F := Ideal) m' ρ')
    obtain ⟨h0, h1, h2, h3, h4, h5, h6, h7, hr⟩ := h c
    obtain ⟨a0, a1, a2, a3⟩ := hag c
    rw [Cert.InRefIdeal.Read.val_main_v40_eq, a0, a1, a2] at h0
    rw [Cert.InRefIdeal.Read.val_main_v49_eq, a0, a1, a2, a3] at h1
    rw [Cert.InRefIdeal.Read.val_main_v58_eq, a0, a1, a2, a3] at h2
    rw [Cert.InRefIdeal.Read.val_main_v60_eq, a0, a1, a2, a3] at h3
    rw [Cert.InRefIdeal.Read.val_main_v61_eq, a0, a1, a2, a3] at h4
    rw [Cert.InRefIdeal.Read.val_main_v34_eq, a0, a1, a2, a3] at h5
    rw [Cert.InRefIdeal.Read.val_main_v70_eq, a0, a1, a2, a3] at h6
    rw [Cert.InRefIdeal.Read.val_main_v79_eq, a0, a1, a2, a3] at h7
    exact ⟨h0.trans (ref0 m c).symm, h1.trans (ref1 m c).symm, h2.trans (ref2 m c).symm, h3.trans (ref3 m c).symm, h4.trans (ref4 m c).symm, h5.trans (ref5 m c).symm, h6.trans (ref6 m c).symm, h7.trans (ref7 m c).symm, hr⟩

end Proj.In
-- ==== Proof.OutRef.lean ====
module
public import proofs.«01_k».proof.Proof.Norm
public import proofs.«01_k».proof.Proof.Gen.OutRefIdeal.Read
/-! The reference of the output projection, read at an element. -/
@[expose] public section
set_option maxRecDepth 16384
noncomputable section
namespace Proj.OutRef
open Cert.OutRefIdeal Cert.OutRefIdeal.Gen Cert.OutRefIdeal.Read Idealize.ShloMosaic
  Idealize.ShloMosaic.TcCoe Idealize.SL.Sem Idealize.ShloMosaic.StableHlo

theorem out_at (x0 : FVec Ideal S16x4096x1024 .f32) (x1 : FVec Ideal S16x4096x512 .f32) (x2 x3 : FVec Ideal S16x4096x256 .f32)
    (x4 : FVec Ideal S1x1024x1024 .f32) (x5 x6 : FVec Ideal S1x1024 .f32) (n : Fin 65536) (c : Fin 1024) :
    (val_main_v32 (F := Ideal) x0 x1 x2 x3 x4 x5 x6 : FVec Ideal S65536x1024 .f32) (ix2 n c) =
      norm (fun k => (val_main_v5 (F := Ideal) x0 x1 x2 x3 x4 : FVec Ideal S16x4096x1024 .f32)
        (ix3 (⟨n.val / 4096, by omega⟩ : Fin 16) (⟨n.val % 4096, by omega⟩ : Fin 4096) k)) (x5 (ix2 0 c)) (x6 (ix2 0 c)) c := by
  unfold val_main_v32 val_main_v31 val_main_v30 val_main_v29 val_main_v28 val_main_v27 val_main_v26 val_main_v25 val_main_v24 val_main_v23
    val_main_v22 val_main_v21 val_main_v20 val_main_v19 val_main_v18 val_main_v17 val_main_v16 val_main_v15 val_main_v14 val_main_v13
    val_main_v12 val_main_v11 val_main_v10 val_main_v9 val_main_v8 val_main_v7 val_main_v6 val_main_cst_0 val_main_cst_1 val_main_cst_2 val_main_cst_3 val_main_cst_4
  generalize (val_main_v5 (F := Ideal) x0 x1 x2 x3 x4 : FVec Ideal S16x4096x1024 .f32) = X
  pointwise
  rfl

/-- A sum over the 1024 mixed columns, by their three groups. -/
theorem sum_groups (f : Fin 1024 → EReal) : ∑ k, f k =
    ∑ l : Fin 512, f ⟨l.val, by omega⟩ + ∑ l : Fin 256, f ⟨512 + l.val, by omega⟩ + ∑ l : Fin 256, f ⟨768 + l.val, by omega⟩ := by
  have e : ∑ k, f k = ∑ k : Fin ((512 + 256) + 256), f k := rfl
  rw [e, Fin.sum_univ_add, Fin.sum_univ_add]
  rfl

/-- The residual and the projected mixed heads, before the normalisation. -/
def row (x0 : FVec Ideal S16x4096x1024 .f32) (x1 : FVec Ideal S16x4096x512 .f32) (x2 x3 : FVec Ideal S16x4096x256 .f32)
    (x4 : FVec Ideal S1x1024x1024 .f32) (b : Fin 16) (t : Fin 4096) (c : Fin 1024) : EReal :=
  Ideal.ofBits .f32 0x3F9837F0#32 * x0 (ix3 b t c) +
    (∑ l : Fin 512, x1 (ix3 b t l) * x4 (ix3 0 (⟨l.val, by omega⟩ : Fin 1024) c) +
      ∑ l : Fin 256, x2 (ix3 b t l) * x4 (ix3 0 (⟨512 + l.val, by omega⟩ : Fin 1024) c) +
      ∑ l : Fin 256, x3 (ix3 b t l) * x4 (ix3 0 (⟨768 + l.val, by omega⟩ : Fin 1024) c))

theorem row_at (x0 : FVec Ideal S16x4096x1024 .f32) (x1 : FVec Ideal S16x4096x512 .f32) (x2 x3 : FVec Ideal S16x4096x256 .f32)
    (x4 : FVec Ideal S1x1024x1024 .f32) (b : Fin 16) (t : Fin 4096) (c : Fin 1024) :
    (val_main_v5 (F := Ideal) x0 x1 x2 x3 x4 : FVec Ideal S16x4096x1024 .f32) (ix3 b t c) = row x0 x1 x2 x3 x4 b t c := by
  unfold val_main_v5 val_main_v4 val_main_v3 val_main_v2 val_main_v1 val_main_v0 val_main_cst
  pointwise
  rw [sum_groups]
  unfold row
  refine congrArg (_ + ·) (congrArg₂ (· + ·) (congrArg₂ (· + ·) ?_ ?_) ?_)
  · exact Finset.sum_congr rfl fun l _ => by rw [dif_pos (by dsimp only; omega)]
  · refine Finset.sum_congr rfl fun l _ => ?_
    rw [dif_neg (by dsimp only; omega), dif_pos (by dsimp only; omega)]
    exact congrArg (x2 · * _) (congrArg (ix3 b t) (Fin.ext (by dsimp only; omega)))
  · refine Finset.sum_congr rfl fun l _ => ?_
    rw [dif_neg (by dsimp only; omega), dif_neg (by dsimp only; omega)]
    exact congrArg (x3 · * _) (congrArg (ix3 b t) (Fin.ext (by dsimp only; omega)))

end Proj.OutRef
-- ==== Proof.OutKernel.lean ====
module
public import proofs.«01_k».proof.Proof.Norm
public import proofs.«01_k».proof.Proof.Gen.OutProjIdeal.Value
public import proofs.«01_k».proof.Proof.OutRef
public import Idealize.ShloMosaic.Lib.StableHlo.RunRead
public import Idealize.ShloMosaic.Lib.Pipeline.ValueKit
public import Idealize.ShloMosaic.Lib.Pointwise
/-! The kernel of the output projection: its block, and its whole result array. -/
@[expose] public section
set_option maxRecDepth 16384
noncomputable section
namespace Proj.Out
open Cert.OutProjIdeal Cert.OutProjIdeal.Gen Idealize.ShloMosaic Idealize.ShloMosaic.TcCoe Idealize.SL.Sem
  Idealize.ShloMosaic.StableHlo

/-- A block's row before the normalisation. -/
def blockRow (na : FVec Ideal S512x512 .bf16) (w1 : FVec Ideal S512x1024 .bf16) (po : FVec Ideal S512x256 .bf16) (w2 : FVec Ideal S256x1024 .bf16)
    (me : FVec Ideal S512x256 .bf16) (w3 : FVec Ideal S256x1024 .bf16) (x : FVec Ideal S512x1024 .f32) (a : Fin 512) (c : Fin 1024) : EReal :=
  Ideal.ofBits .f32 0x3F9837F0#32 * x (ix2 a c) +
    (∑ l : Fin 512, na (ix2 a l) * w1 (ix2 l c) + ∑ l : Fin 256, po (ix2 a l) * w2 (ix2 l c) + ∑ l : Fin 256, me (ix2 a l) * w3 (ix2 l c))

theorem centred_at (na : FVec Ideal S512x512 .bf16) (w1 : FVec Ideal S512x1024 .bf16) (po : FVec Ideal S512x256 .bf16) (w2 : FVec Ideal S256x1024 .bf16)
    (me : FVec Ideal S512x256 .bf16) (w3 : FVec Ideal S256x1024 .bf16) (x : FVec Ideal S512x1024 .f32) (a : Fin 512) (c : Fin 1024) :
    (k0_pay4 (F := Ideal) na w1 po w2 me w3 x : FVec Ideal S512x1024 .f32) (ix2 a c) =
      blockRow na w1 po w2 me w3 x a c - mean (blockRow na w1 po w2 me w3 x a) := by
  pointwise [k0_pay4]
  rfl

theorem block_at (na : FVec Ideal S512x512 .bf16) (w1 : FVec Ideal S512x1024 .bf16) (po : FVec Ideal S512x256 .bf16) (w2 : FVec Ideal S256x1024 .bf16)
    (me : FVec Ideal S512x256 .bf16) (w3 : FVec Ideal S256x1024 .bf16) (x : FVec Ideal S512x1024 .f32) (g b : FVec Ideal S1x1024 .f32) (a : Fin 512) (c : Fin 1024) :
    (k0_pay1 (F := Ideal) (k0_pay2 g) (k0_pay3 b) (k0_pay4 na w1 po w2 me w3 x) (k0_pay5 na w1 po w2 me w3 x) : FVec Ideal S512x1024 .f32) (ix2 a c) =
      norm (blockRow na w1 po w2 me w3 x a) (g (ix2 0 c)) (b (ix2 0 c)) c := by
  have e := fun k => centred_at na w1 po w2 me w3 x a k
  unfold k0_pay5
  revert e
  generalize (k0_pay4 (F := Ideal) na w1 po w2 me w3 x : FVec Ideal S512x1024 .f32) = X
  intro e
  pointwise [k0_pay1, k0_pay2, k0_pay3]
  simp only [e]
  rfl

variable (m : (l : Loc nD τ sig) → Buf (Elt Ideal) l) (c : Dev nD)

abbrev arg0 : FVec Ideal S16x4096x1024 .f32 := m ((c : Thread nD τ).loc main_arg0)
abbrev arg1 : FVec Ideal S16x4096x512 .f32 := m ((c : Thread nD τ).loc main_arg1)
abbrev arg2 : FVec Ideal S16x4096x256 .f32 := m ((c : Thread nD τ).loc main_arg2)
abbrev arg3 : FVec Ideal S16x4096x256 .f32 := m ((c : Thread nD τ).loc main_arg3)
abbrev arg4 : FVec Ideal S1x1024x1024 .f32 := m ((c : Thread nD τ).loc main_arg4)
abbrev arg5 : FVec Ideal S1x1024 .f32 := m ((c : Thread nD τ).loc main_arg5)
abbrev arg6 : FVec Ideal S1x1024 .f32 := m ((c : Thread nD τ).loc main_arg6)

/-! The arrays the host hands to the kernel. -/

theorem x_at (n : Fin 65536) (k : Fin 1024) : (V m c main_v2 : FVec Ideal S65536x1024 .f32) (ix2 n k) =
    arg0 m c (ix3 (⟨n.val / 4096, by omega⟩ : Fin 16) (⟨n.val % 4096, by omega⟩ : Fin 4096) k) := by
  unfold V; unfold_abbrev_sides; after_reads_simp
  pointwise
theorem na_at (n : Fin 65536) (k : Fin 512) : (V m c main_v4 : FVec Ideal S65536x512 .bf16) (ix2 n k) =
    arg1 m c (ix3 (⟨n.val / 4096, by omega⟩ : Fin 16) (⟨n.val % 4096, by omega⟩ : Fin 4096) k) := by
  unfold V; unfold_abbrev_sides; after_reads_simp
  pointwise
theorem pool_at (n : Fin 65536) (k : Fin 256) : (V m c main_v6 : FVec Ideal S65536x256 .bf16) (ix2 n k) =
    arg2 m c (ix3 (⟨n.val / 4096, by omega⟩ : Fin 16) (⟨n.val % 4096, by omega⟩ : Fin 4096) k) := by
  unfold V; unfold_abbrev_sides; after_reads_simp
  pointwise
theorem mem_at (n : Fin 65536) (k : Fin 256) : (V m c main_v8 : FVec Ideal S65536x256 .bf16) (ix2 n k) =
    arg3 m c (ix3 (⟨n.val / 4096, by omega⟩ : Fin 16) (⟨n.val % 4096, by omega⟩ : Fin 4096) k) := by
  unfold V; unfold_abbrev_sides; after_reads_simp
  pointwise
theorem w1_at (k : Fin 512) (d : Fin 1024) : (V m c main_v9 : FVec Ideal S512x1024 .bf16) (ix2 k d) =
    arg4 m c (ix3 0 (⟨k.val, by omega⟩ : Fin 1024) d) := by
  unfold V; unfold_abbrev_sides; after_reads_simp
  pointwise
theorem w2_at (k : Fin 256) (d : Fin 1024) : (V m c main_v10 : FVec Ideal S256x1024 .bf16) (ix2 k d) =
    arg4 m c (ix3 0 (⟨512 + k.val, by omega⟩ : Fin 1024) d) := by
  unfold V; unfold_abbrev_sides; after_reads_simp
  pointwise
theorem w3_at (k : Fin 256) (d : Fin 1024) : (V m c main_v11 : FVec Ideal S256x1024 .bf16) (ix2 k d) =
    arg4 m c (ix3 0 (⟨768 + k.val, by omega⟩ : Fin 1024) d) := by
  unfold V; unfold_abbrev_sides; after_reads_simp
  pointwise
theorem g_at (d : Fin 1024) : (V m c main_v13 : FVec Ideal S1x1024 .f32) (ix2 0 d) = arg5 m c (ix2 0 d) := by
  unfold V; unfold_abbrev_sides; after_reads_simp
  pointwise
theorem b_at (d : Fin 1024) : (V m c main_v15 : FVec Ideal S1x1024 .f32) (ix2 0 d) = arg6 m c (ix2 0 d) := by
  unfold V; unfold_abbrev_sides; after_reads_simp
  pointwise

/-! The blocks at a grid point. -/

abbrev pt (t : Fin cfg0.N) : Nat := (grid0.coords t 0).val
theorem pt_lt : ∀ t : Fin cfg0.N, pt t < 128 := (by decide +kernel : ∀ t : Fin grid0.N, (grid0.coords t 0).val < 128)
theorem idx0 : ∀ t : Fin cfg0.N, win0_0.index t = ![pt t, 0] := (by decide +kernel : ∀ t : Fin grid0.N, _)
theorem idx1 : ∀ t : Fin cfg0.N, win0_1.index t = ![pt t, 0] := (by decide +kernel : ∀ t : Fin grid0.N, _)
theorem idx2 : ∀ t : Fin cfg0.N, win0_2.index t = ![pt t, 0] := (by decide +kernel : ∀ t : Fin grid0.N, _)
theorem idx3 : ∀ t : Fin cfg0.N, win0_3.index t = ![pt t, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![pt t, 0] := (by decide +kernel : ∀ t : Fin grid0.N, _)

theorem blk0 (t : Fin cfg0.N) (x : S512x1024.Idx) (i : S65536x1024.Idx) (h0 : (i 0).val = pt t * 512 + (x 0).val) (h1 : (i 1).val = (x 1).val) :
    iblk m c 0 t x = (V m c main_v2 : FVec Ideal S65536x1024 .f32) i := by blk_ext [iblk, idx0 t]
theorem blk1 (t : Fin cfg0.N) (x : S512x512.Idx) (i : S65536x512.Idx) (h0 : (i 0).val = pt t * 512 + (x 0).val) (h1 : (i 1).val = (x 1).val) :
    iblk m c 1 t x = (V m c main_v4 : FVec Ideal S65536x512 .bf16) i := by blk_ext [iblk, idx1 t]
theorem blk2 (t : Fin cfg0.N) (x : S512x256.Idx) (i : S65536x256.Idx) (h0 : (i 0).val = pt t * 512 + (x 0).val) (h1 : (i 1).val = (x 1).val) :
    iblk m c 2 t x = (V m c main_v6 : FVec Ideal S65536x256 .bf16) i := by blk_ext [iblk, idx2 t]
theorem blk3 (t : Fin cfg0.N) (x : S512x256.Idx) (i : S65536x256.Idx) (h0 : (i 0).val = pt t * 512 + (x 0).val) (h1 : (i 1).val = (x 1).val) :
    iblk m c 3 t x = (V m c main_v8 : FVec Ideal S65536x256 .bf16) i := by blk_ext [iblk, idx3 t]
theorem blk4 (t : Fin cfg0.N) (x : S512x1024.Idx) : iblk m c 4 t x = (V m c main_v9 : FVec Ideal S512x1024 .bf16) x := by blk_ext [iblk, idx4 t]
theorem blk5 (t : Fin cfg0.N) (x : S256x1024.Idx) : iblk m c 5 t x = (V m c main_v10 : FVec Ideal S256x1024 .bf16) x := by blk_ext [iblk, idx5 t]
theorem blk6 (t : Fin cfg0.N) (x : S256x1024.Idx) : iblk m c 6 t x = (V m c main_v11 : FVec Ideal S256x1024 .bf16) x := by blk_ext [iblk, idx6 t]
theorem blk7 (t : Fin cfg0.N) (x : S1x1024.Idx) : iblk m c 7 t x = (V m c main_v13 : FVec Ideal S1x1024 .f32) x := by blk_ext [iblk, idx7 t]
theorem blk8 (t : Fin cfg0.N) (x : S1x1024.Idx) : iblk m c 8 t x = (V m c main_v15 : FVec Ideal S1x1024 .f32) x := by blk_ext [iblk, idx8 t]

/-- The kernel's result for token `n` and column `d`. -/
def outOf (n : Fin 65536) (d : Fin 1024) : EReal :=
  norm (OutRef.row (arg0 m c) (arg1 m c) (arg2 m c) (arg3 m c) (arg4 m c) (⟨n.val / 4096, by omega⟩ : Fin 16) (⟨n.val % 4096, by omega⟩ : Fin 4096))
    (arg5 m c (ix2 0 d)) (arg6 m c (ix2 0 d)) d

def result : FVec Ideal S65536x1024 .f32 := fun i => outOf m c (i 0) (i 1)

theorem row_eq (t : Fin cfg0.N) (a : Fin 512) (n : Fin 65536) (hn : n.val = pt t * 512 + a.val) :
    blockRow (iblk m c 1 t) (iblk m c 4 t) (iblk m c 2 t) (iblk m c 5 t) (iblk m c 3 t) (iblk m c 6 t) (iblk m c 0 t) a =
      OutRef.row (arg0 m c) (arg1 m c) (arg2 m c) (arg3 m c) (arg4 m c) (⟨n.val / 4096, by omega⟩ : Fin 16) (⟨n.val % 4096, by omega⟩ : Fin 4096) := by
  funext d
  unfold blockRow OutRef.row
  refine congrArg₂ (· + ·) ?_ (congrArg₂ (· + ·) (congrArg₂ (· + ·) ?_ ?_) ?_)
  · rw [blk0 m c t (ix2 a d) (ix2 n d) hn rfl, x_at]
  · refine Finset.sum_congr rfl fun l _ => ?_
    rw [blk1 m c t (ix2 a l) (ix2 n l) hn rfl, blk4, na_at, w1_at]
  · refine Finset.sum_congr rfl fun l _ => ?_
    rw [blk2 m c t (ix2 a l) (ix2 n l) hn rfl, blk5, pool_at, w2_at]
  · refine Finset.sum_congr rfl fun l _ => ?_
    rw [blk3 m c t (ix2 a l) (ix2 n l) hn rfl, blk6, mem_at, w3_at]

theorem ld0 (x : Vec Ideal S512x512 .bf16) : View.ld (Val := Elt Ideal) (e' := .bf16) x r0_0 = x := funext fun i => by rw [eq_ix2 i]; pointwise
theorem ld1 (x : Vec Ideal S512x1024 .f32) : View.ld (Val := Elt Ideal) (e' := .f32) x r0_1 = x := funext fun i => by rw [eq_ix2 i]; pointwise
theorem ld1' (x : Vec Ideal S512x1024 .bf16) : View.ld (Val := Elt Ideal) (e' := .bf16) x r0_1 = x := funext fun i => by rw [eq_ix2 i]; pointwise
theorem ld2 (x : Vec Ideal S512x256 .bf16) : View.ld (Val := Elt Ideal) (e' := .bf16) x r0_2 = x := funext fun i => by rw [eq_ix2 i]; pointwise
theorem ld3 (x : Vec Ideal S256x1024 .bf16) : View.ld (Val := Elt Ideal) (e' := .bf16) x r0_3 = x := funext fun i => by rw [eq_ix2 i]; pointwise
theorem ld4 (x : Vec Ideal S1x1024 .f32) : View.ld (Val := Elt Ideal) (e' := .f32) x r0_4 = x := funext fun i => by
  obtain ⟨a, d, rfl⟩ : ∃ (a : Fin 1) (d : Fin 1024), i = ix2 a d := ⟨_, _, eq_ix2 i⟩
  obtain rfl : a = 0 := Subsingleton.elim _ _
  pointwise

theorem piece_at (t : Fin cfg0.N) (a : Fin 512) (d : Fin 1024) (n : Fin 65536) (d' : Fin 1024) (hn : n.val = pt t * 512 + a.val)
    (hd : d'.val = d.val) :
    (k0_pay1 (F := Ideal) (k0_pay2 (iblk m c 7 t)) (k0_pay3 (iblk m c 8 t))
      (k0_pay4 (iblk m c 1 t) (iblk m c 4 t) (iblk m c 2 t) (iblk m c 5 t) (iblk m c 3 t) (iblk m c 6 t) (iblk m c 0 t))
      (k0_pay5 (iblk m c 1 t) (iblk m c 4 t) (iblk m c 2 t) (iblk m c 5 t) (iblk m c 3 t) (iblk m c 6 t) (iblk m c 0 t)) :
        FVec Ideal S512x1024 .f32) (ix2 a d) = outOf m c n d' := by
  obtain rfl : d' = d := Fin.ext hd
  refine (block_at _ _ _ _ _ _ _ _ _ a d').trans ?_
  rw [row_eq m c t a n hn, blk7, blk8, g_at, b_at]
  rfl

theorem result_eq : (dats m 0 c).arrAt 9 cfg0.N = result m c := by
  refine (dats m 0 c).arrAt_eq_of_covers 9 _ (by decide +kernel) fun t _ y => ?_
  blk_simp
  rw [after0_9]
  unfold out0_9
  canon_tiles y h
  rw [ld0, ld1, ld1', ld2, ld2, ld3, ld3, ld4, ld4]
  obtain ⟨a, d, rfl⟩ : ∃ (a : Fin 512) (d : Fin 1024), y = ix2 a d := ⟨_, _, eq_ix2 y⟩
  refine piece_at m c t a d _ _ ?_ ?_
  · blk_simp [idx9 t]
    exact congrArg (_ + ·) h0
  · blk_simp [idx9 t]
    exact h1

end Proj.Out
-- ==== Proof.OutClaims.lean ====
module
public import proofs.«01_k».proof.Defs
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutRefIdeal.Run
public import proofs.«01_k».proof.Proof.Gen.OutRefIdeal.Read
public import proofs.«01_k».proof.Proof.OutRef
public import proofs.«01_k».proof.Proof.OutKernel
/-! The claims on the output projection: the reference halts, and the kernel computes it. -/
@[expose] public section
set_option maxRecDepth 16384
noncomputable section
namespace Proj.Out
open Cert.OutProjIdeal Idealize.ShloMosaic Idealize.ShloMosaic.TcCoe Idealize.SL.Sem

/-- The kernel's array is the reference's. -/
theorem result_ref (m : (l : Loc nD τ sig) → Buf (Elt Ideal) l) (c : Dev nD) :
    result m c = Cert.OutRefIdeal.Read.val_main_v32 (F := Ideal) (arg0 m c) (arg1 m c) (arg2 m c) (arg3 m c) (arg4 m c) (arg5 m c) (arg6 m c) := by
  funext i
  obtain ⟨n, d, rfl⟩ : ∃ (n : Fin 65536) (d : Fin 1024), i = ix2 n d := ⟨_, _, eq_ix2 i⟩
  refine Eq.trans ?_ (OutRef.out_at _ _ _ _ _ _ _ n d).symm
  rw [funext (OutRef.row_at (arg0 m c) (arg1 m c) (arg2 m c) (arg3 m c) (arg4 m c) _ _)]
  rfl

theorem frame_ri : Cert.quiescent_OutRefIdeal := fun m ρ _ =>
  (θ_run Cert.OutRefIdeal.defs _ _).mono (fun r h => ⟨fun c => (h c).2, Idealize.ShloMosaic.sem_eq_zero_of_no_sems (by decide) r.2⟩)
    (Cert.OutRefIdeal.Value.run (F := Ideal) m ρ)

theorem algebraic : Cert.algebraic_OutProjIdeal_OutRefIdeal := by
  intro m ρ m' ρ' _ hag
  refine ⟨fun c => result m c, ?_, ?_⟩
  · exact (θ_run Cert.OutProjIdeal.defs _ _).mono (fun _ h c => ⟨(h c).1.trans (result_eq m c), (h c).2⟩)
      (Cert.OutProjIdeal.Value.run_blocks (F := Ideal) m ρ)
  · refine (θ_run Cert.OutRefIdeal.defs _ _).mono (fun _ h c => ⟨(h c).1.trans ?_, (h c).2⟩)
      (Cert.OutRefIdeal.Value.run (F := Ideal) m' ρ')
    rw [Cert.OutRefIdeal.Read.val_main_v32_eq, (hag c).1, (hag c).2.1, (hag c).2.2.1, (hag c).2.2.2.1, (hag c).2.2.2.2.1,
      (hag c).2.2.2.2.2.1, (hag c).2.2.2.2.2.2]
    exact (result_ref m c).symm

end Proj.Out
-- ==== Proof.RouteRef.lean ====
module
public import proofs.«01_k».proof.Proof.Softmax
public import proofs.«01_k».proof.Proof.Gen.RouteRefIdeal.Read
public import Idealize.ShloMosaic.Lib.Pointwise
public import Idealize.ShloMosaic.Lib.IdealHost
/-! The reference of the routing scores, read at an element. -/
@[expose] public section
set_option maxRecDepth 16384
noncomputable section
namespace Route.Ref
open Cert.RouteRefIdeal Cert.RouteRefIdeal.Gen Cert.RouteRefIdeal.Read Idealize.ShloMosaic
  Idealize.ShloMosaic.TcCoe Idealize.SL.Sem Idealize.ShloMosaic.StableHlo

/-- The projected query of a head against second half keys: its `d`th component. -/
def query (x0 : FVec Ideal S16x4096x1024 .f32) (x1 : FVec Ideal S1x1024x1024 .f32) (n : Fin 65536) (h : Fin 8) (d : Fin 64) : EReal :=
  ∑ k : Fin 1024, x0 (ix3 (⟨n.val / 4096, by omega⟩ : Fin 16) (⟨n.val % 4096, by omega⟩ : Fin 4096) k) *
    x1 (ix3 0 k (⟨(2 * h.val + 1) * 64 + d.val, by omega⟩ : Fin 1024))

/-- The score of token `n` in head `h` against second half key `j`. -/
def score (x0 : FVec Ideal S16x4096x1024 .f32) (x1 : FVec Ideal S1x1024x1024 .f32) (x2 : FVec Ideal S1x2x128x64 .f32)
    (h : Fin 8) (n : Fin 65536) (j : Fin 128) : EReal :=
  ∑ d : Fin 64, x2 (ix4 0 1 j d) * query x0 x1 n h d

/-- Its exponential against the head's best score. -/
def expScore (x0 : FVec Ideal S16x4096x1024 .f32) (x1 : FVec Ideal S1x1024x1024 .f32) (x2 : FVec Ideal S1x2x128x64 .f32)
    (h : Fin 8) (n : Fin 65536) (j : Fin 128) : EReal :=
  Ideal.exp (score x0 x1 x2 h n j - Finset.univ.sup (score x0 x1 x2 h n))

theorem score_at (x0 : FVec Ideal S16x4096x1024 .f32) (x1 : FVec Ideal S1x1024x1024 .f32) (x2 : FVec Ideal S1x2x128x64 .f32)
    (b : Fin 16) (t : Fin 4096) (h : Fin 8) (j : Fin 128) (n : Fin 65536) (hn : n.val = b.val * 4096 + t.val) :
    (val_main_v7 (F := Ideal) x0 x1 x2 : FVec Ideal S16x4096x8x128 .f32) (ix4 b t h j) = score x0 x1 x2 h n j := by
  have e : ∀ d : Fin 64, (val_main_v2 (F := Ideal) x0 x1 : FVec Ideal S16x4096x8x2x64 .f32) (ix5 b t h 1 d) = query x0 x1 n h d := by
    intro d
    unfold val_main_v2 val_main_v1 val_main_v0
    pointwise
    unfold query
    refine Finset.sum_congr rfl fun k _ => congrArg₂ (· * ·) (congrArg₂ (fun u v => x0 (ix3 u v k)) ?_ ?_) (congrArg (fun u => x1 (ix3 0 k u)) ?_)
    · exact Fin.ext (by dsimp only; omega)
    · exact Fin.ext (by dsimp only; omega)
    · exact Fin.ext (by dsimp only; omega)
  unfold val_main_v7 val_main_v6 val_main_v5 val_main_v4 val_main_v3
  revert e
  generalize (val_main_v2 (F := Ideal) x0 x1 : FVec Ideal S16x4096x8x2x64 .f32) = Q
  intro e
  pointwise
  simp only [e]
  rfl

theorem s_at (x0 : FVec Ideal S16x4096x1024 .f32) (x1 : FVec Ideal S1x1024x1024 .f32) (x2 : FVec Ideal S1x2x128x64 .f32)
    (h : Fin 8) (j : Fin 128) (n : Fin 65536) :
    (val_main_v14 (F := Ideal) x0 x1 x2 : FVec Ideal S8x128x65536 .f32) (ix3 h j n) = score x0 x1 x2 h n j := by
  have e := score_at x0 x1 x2 (⟨n.val / 4096, by omega⟩ : Fin 16) (⟨n.val % 4096, by omega⟩ : Fin 4096) h j n (by dsimp only; omega)
  unfold val_main_v14 val_main_v13
  revert e
  generalize (val_main_v7 (F := Ideal) x0 x1 x2 : FVec Ideal S16x4096x8x128 .f32) = X
  intro e
  pointwise
  exact e

theorem e_at (x0 : FVec Ideal S16x4096x1024 .f32) (x1 : FVec Ideal S1x1024x1024 .f32) (x2 : FVec Ideal S1x2x128x64 .f32)
    (h : Fin 8) (j : Fin 128) (n : Fin 65536) :
    (val_main_v16 (F := Ideal) x0 x1 x2 : FVec Ideal S8x128x65536 .f32) (ix3 h j n) = expScore x0 x1 x2 h n j := by
  have e := fun j => score_at x0 x1 x2 (⟨n.val / 4096, by omega⟩ : Fin 16) (⟨n.val % 4096, by omega⟩ : Fin 4096) h j n (by dsimp only; omega)
  unfold val_main_v16 val_main_v15 val_main_v12 val_main_v11 val_main_v10 val_main_v9 val_main_v8 val_main_cst
  revert e
  generalize (val_main_v7 (F := Ideal) x0 x1 x2 : FVec Ideal S16x4096x8x128 .f32) = X
  intro e
  pointwise
  unfold expScore
  simp only [e]
  rfl

end Route.Ref
-- ==== Proof.RouteKernel.lean ====
module
public import proofs.«01_k».proof.Proof.RouteRef
public import proofs.«01_k».proof.Proof.Gen.RouteIdeal.Value
public import Idealize.ShloMosaic.Lib.StableHlo.RunRead
public import Idealize.ShloMosaic.Lib.Pipeline.ValueKit
public import Idealize.ShloMosaic.Lib.Pipeline.ReadBack
public import Idealize.ShloMosaic.Lib.Pointwise
public import Idealize.ShloMosaic.Lib.IdealHost
/-! The kernel of the routing scores: the arrays it is handed, its blocks at a grid point, and the scores of a block. -/
@[expose] public section
set_option maxRecDepth 16384
noncomputable section
namespace Route
open Cert.RouteIdeal Cert.RouteIdeal.Gen Idealize.ShloMosaic Idealize.ShloMosaic.TcCoe Idealize.SL.Sem
  Idealize.ShloMosaic.StableHlo

variable (m : (l : Loc nD τ sig) → Buf (Elt Ideal) l) (c : Dev nD)

abbrev arg0 : FVec Ideal S16x4096x1024 .f32 := m ((c : Thread nD τ).loc main_arg0)
abbrev arg1 : FVec Ideal S1x1024x1024 .f32 := m ((c : Thread nD τ).loc main_arg1)
abbrev arg2 : FVec Ideal S1x2x128x64 .f32 := m ((c : Thread nD τ).loc main_arg2)

/-! The arrays the host hands to the kernel. -/

theorem x_at (n : Fin 65536) (k : Fin 1024) : (V m c main_v0 : FVec Ideal S65536x1024 .f32) (ix2 n k) =
    arg0 m c (ix3 (⟨n.val / 4096, by omega⟩ : Fin 16) (⟨n.val % 4096, by omega⟩ : Fin 4096) k) := by
  unfold V; unfold_abbrev_sides; after_reads_simp
  pointwise
theorem w_at (r k : Fin 1024) : (V m c main_v3 : FVec Ideal S1024x1024 .bf16) (ix2 r k) = arg1 m c (ix3 0 k r) := by
  unfold V; unfold_abbrev_sides; after_reads_simp
  pointwise
theorem keys_at (p : Fin 2) (j : Fin 128) (d : Fin 64) : (V m c main_v5 : FVec Ideal S2x128x64 .bf16) (ix3 p j d) = arg2 m c (ix4 0 p j d) := by
  unfold V; unfold_abbrev_sides; after_reads_simp
  pointwise

/-! The blocks at a grid point. -/

abbrev pt (t : Fin cfg0.N) : Nat := (grid0.coords t 0).val
theorem idx0 : ∀ t : Fin cfg0.N, win0_0.index t = ![pt t, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, pt t] := (by decide +kernel : ∀ t : Fin grid0.N, _)
theorem idx4 : ∀ t : Fin cfg0.N, win0_4.index t = ![0, 0, pt t] := (by decide +kernel : ∀ t : Fin grid0.N, _)

theorem blk0 (t : Fin cfg0.N) (x : S256x1024.Idx) (i : S65536x1024.Idx) (h0 : (i 0).val = pt t * 256 + (x 0).val) (h1 : (i 1).val = (x 1).val) :
    iblk m c 0 t x = (V m c main_v0 : FVec Ideal S65536x1024 .f32) i := by blk_ext [iblk, idx0 t]
theorem blk1 (t : Fin cfg0.N) (x : S1024x1024.Idx) : iblk m c 1 t x = (V m c main_v3 : FVec Ideal S1024x1024 .bf16) x := by blk_ext [iblk, idx1 t]
theorem blk2 (t : Fin cfg0.N) (x : S2x128x64.Idx) : iblk m c 2 t x = (V m c main_v5 : FVec Ideal S2x128x64 .bf16) x := by blk_ext [iblk, idx2 t]

/-- The score of a block's token `a` in head `h` against second half key `j`. -/
def blockScore (x : FVec Ideal S256x1024 .f32) (w : FVec Ideal S1024x1024 .bf16) (ks : FVec Ideal S2x128x64 .bf16)
    (h : Fin 8) (a : Fin 256) (j : Fin 128) : EReal :=
  ∑ d : Fin 64, ks (ix3 1 j d) * ∑ k : Fin 1024, w (ix2 (⟨(2 * h.val + 1) * 64 + d.val, by omega⟩ : Fin 1024) k) * x (ix2 a k)

theorem blockScore_eq (t : Fin cfg0.N) (h : Fin 8) (a : Fin 256) (j : Fin 128) (n : Fin 65536) (hn : n.val = pt t * 256 + a.val) :
    blockScore (iblk m c 0 t) (iblk m c 1 t) (iblk m c 2 t) h a j = Ref.score (arg0 m c) (arg1 m c) (arg2 m c) h n j := by
  unfold blockScore Ref.score
  refine Finset.sum_congr rfl fun d _ => congrArg₂ (· * ·) ?_ ?_
  · rw [blk2, keys_at]
  · unfold Ref.query
    refine Finset.sum_congr rfl fun k _ => ?_
    rw [blk1, w_at, blk0 m c t (ix2 a k) (ix2 n k) hn rfl, x_at, mul_comm]

/-- The scores: the kernel's first result. -/
def result0 (m : (l : Loc nD τ sig) → Buf (Elt Ideal) l) (c : Dev nD) : FVec Ideal S8x128x65536 .f32 :=
  fun i => Ref.score (arg0 m c) (arg1 m c) (arg2 m c) (i 0) (i 2) (i 1)

theorem result0_at (t : Fin cfg0.N) (h : Fin 8) (a : Fin 256) (j : Fin 128) (i : S8x128x65536.Idx)
    (h0 : (i 0).val = h.val) (h1 : (i 1).val = j.val) (h2 : (i 2).val = pt t * 256 + a.val) :
    blockScore (iblk m c 0 t) (iblk m c 1 t) (iblk m c 2 t) h a j = result0 m c i := by
  obtain rfl : h = i 0 := Fin.ext h0.symm
  obtain rfl : j = i 1 := Fin.ext h1.symm
  exact blockScore_eq m c t _ a _ (i 2) h2

theorem result0_eq : (dats m 0 c).arrAt 3 cfg0.N = result0 m c := by
  refine (dats m 0 c).arrAt_eq_of_covers 3 _ (by decide +kernel) fun t _ y => ?_
  blk_simp
  rw [after0_3]
  unfold outsAt0
  frame_out
  canon_tiles y h
  case piece0 =>
    simp (disch := decide) only [↓View.readCov_skip, ↓View.readCov_cons_toLoadRect]
    obtain ⟨z, j, a, rfl⟩ : ∃ (z : Fin 1) (j : Fin 128) (a : Fin 256), y = ix3 z j a := ⟨_, _, _, eq_ix3 y⟩
    obtain rfl : z = 0 := Subsingleton.elim _ _
    open_payloads
    pointwise
    refine result0_at m c t 7 a j _ ?_ ?_ ?_
    · blk_simp [idx3 t]
      exact h0
    · blk_simp [idx3 t]
      exact h1
    · blk_simp [idx3 t]
      exact congrArg (_ + ·) h2
  case piece1 =>
    simp (disch := decide) only [↓View.readCov_skip, ↓View.readCov_cons_toLoadRect]
    obtain ⟨z, j, a, rfl⟩ : ∃ (z : Fin 1) (j : Fin 128) (a : Fin 256), y = ix3 z j a := ⟨_, _, _, eq_ix3 y⟩
    obtain rfl : z = 0 := Subsingleton.elim _ _
    open_payloads
    pointwise
    refine result0_at m c t 6 a j _ ?_ ?_ ?_
    · blk_simp [idx3 t]
      exact h0
    · blk_simp [idx3 t]
      exact h1
    · blk_simp [idx3 t]
      exact congrArg (_ + ·) h2
  case piece2 =>
    simp (disch := decide) only [↓View.readCov_skip, ↓View.readCov_cons_toLoadRect]
    obtain ⟨z, j, a, rfl⟩ : ∃ (z : Fin 1) (j : Fin 128) (a : Fin 256), y = ix3 z j a := ⟨_, _, _, eq_ix3 y⟩
    obtain rfl : z = 0 := Subsingleton.elim _ _
    open_payloads
    pointwise
    refine result0_at m c t 5 a j _ ?_ ?_ ?_
    · blk_simp [idx3 t]
      exact h0
    · blk_simp [idx3 t]
      exact h1
    · blk_simp [idx3 t]
      exact congrArg (_ + ·) h2
  case piece3 =>
    simp (disch := decide) only [↓View.readCov_skip, ↓View.readCov_cons_toLoadRect]
    obtain ⟨z, j, a, rfl⟩ : ∃ (z : Fin 1) (j : Fin 128) (a : Fin 256), y = ix3 z j a := ⟨_, _, _, eq_ix3 y⟩
    obtain rfl : z = 0 := Subsingleton.elim _ _
    open_payloads
    pointwise
    refine result0_at m c t 4 a j _ ?_ ?_ ?_
    · blk_simp [idx3 t]
      exact h0
    · blk_simp [idx3 t]
      exact h1
    · blk_simp [idx3 t]
      exact congrArg (_ + ·) h2
  case piece4 =>
    simp (disch := decide) only [↓View.readCov_skip, ↓View.readCov_cons_toLoadRect]
    obtain ⟨z, j, a, rfl⟩ : ∃ (z : Fin 1) (j : Fin 128) (a : Fin 256), y = ix3 z j a := ⟨_, _, _, eq_ix3 y⟩
    obtain rfl : z = 0 := Subsingleton.elim _ _
    open_payloads
    pointwise
    refine result0_at m c t 3 a j _ ?_ ?_ ?_
    · blk_simp [idx3 t]
      exact h0
    · blk_simp [idx3 t]
      exact h1
    · blk_simp [idx3 t]
      exact congrArg (_ + ·) h2
  case piece5 =>
    simp (disch := decide) only [↓View.readCov_skip, ↓View.readCov_cons_toLoadRect]
    obtain ⟨z, j, a, rfl⟩ : ∃ (z : Fin 1) (j : Fin 128) (a : Fin 256), y = ix3 z j a := ⟨_, _, _, eq_ix3 y⟩
    obtain rfl : z = 0 := Subsingleton.elim _ _
    open_payloads
    pointwise
    refine result0_at m c t 2 a j _ ?_ ?_ ?_
    · blk_simp [idx3 t]
      exact h0
    · blk_simp [idx3 t]
      exact h1
    · blk_simp [idx3 t]
      exact congrArg (_ + ·) h2
  case piece6 =>
    simp (disch := decide) only [↓View.readCov_skip, ↓View.readCov_cons_toLoadRect]
    obtain ⟨z, j, a, rfl⟩ : ∃ (z : Fin 1) (j : Fin 128) (a : Fin 256), y = ix3 z j a := ⟨_, _, _, eq_ix3 y⟩
    obtain rfl : z = 0 := Subsingleton.elim _ _
    open_payloads
    pointwise
    refine result0_at m c t 1 a j _ ?_ ?_ ?_
    · blk_simp [idx3 t]
      exact h0
    · blk_simp [idx3 t]
      exact h1
    · blk_simp [idx3 t]
      exact congrArg (_ + ·) h2
  case piece7 =>
    simp (disch := decide) only [↓View.readCov_skip, ↓View.readCov_cons_toLoadRect]
    obtain ⟨z, j, a, rfl⟩ : ∃ (z : Fin 1) (j : Fin 128) (a : Fin 256), y = ix3 z j a := ⟨_, _, _, eq_ix3 y⟩
    obtain rfl : z = 0 := Subsingleton.elim _ _
    open_payloads
    pointwise
    refine result0_at m c t 0 a j _ ?_ ?_ ?_
    · blk_simp [idx3 t]
      exact h0
    · blk_simp [idx3 t]
      exact h1
    · blk_simp [idx3 t]
      exact congrArg (_ + ·) h2

end Route
-- ==== Proof.RouteExp.lean ====
module
public import proofs.«01_k».proof.Proof.RouteKernel
/-! The exponentials of the routing scores: the kernel's second result. -/
@[expose] public section
set_option maxRecDepth 16384
noncomputable section
namespace Route
open Cert.RouteIdeal Cert.RouteIdeal.Gen Idealize.ShloMosaic Idealize.ShloMosaic.TcCoe Idealize.SL.Sem
  Idealize.ShloMosaic.StableHlo

/-! Each head's exponentials, over the head's scores `s` and the best scores `g` of all heads. -/

theorem exp_row0 (g : FVec Ideal S1x1x8x256 .f32) (s : FVec Ideal S1x128x256 .f32) (j : Fin 128) (a : Fin 256) :
    (k0_pay830 (F := Ideal) (shapeCast S8x256 g shapeCasts_S1x1x8x256_S8x256) (k0_pay823 s) : FVec Ideal S1x128x256 .f32) (ix3 0 j a) =
      Ideal.exp (s (ix3 0 j a) - g (ix4 0 0 0 a)) := by
  pointwise [k0_pay830, k0_pay823]

theorem exp_row1 (g : FVec Ideal S1x1x8x256 .f32) (s : FVec Ideal S1x128x256 .f32) (j : Fin 128) (a : Fin 256) :
    (k0_pay841 (F := Ideal) (shapeCast S8x256 g shapeCasts_S1x1x8x256_S8x256) (k0_pay832 s) : FVec Ideal S1x128x256 .f32) (ix3 0 j a) =
      Ideal.exp (s (ix3 0 j a) - g (ix4 0 0 1 a)) := by
  pointwise [k0_pay841, k0_pay832]

theorem exp_row2 (g : FVec Ideal S1x1x8x256 .f32) (s : FVec Ideal S1x128x256 .f32) (j : Fin 128) (a : Fin 256) :
    (k0_pay854 (F := Ideal) (shapeCast S8x256 g shapeCasts_S1x1x8x256_S8x256) (k0_pay843 s) : FVec Ideal S1x128x256 .f32) (ix3 0 j a) =
      Ideal.exp (s (ix3 0 j a) - g (ix4 0 0 2 a)) := by
  pointwise [k0_pay854, k0_pay843]

theorem exp_row3 (g : FVec Ideal S1x1x8x256 .f32) (s : FVec Ideal S1x128x256 .f32) (j : Fin 128) (a : Fin 256) :
    (k0_pay866 (F := Ideal) (k0_pay856 s) (k0_pay865 (shapeCast S8x256 g shapeCasts_S1x1x8x256_S8x256)) : FVec Ideal S1x128x256 .f32) (ix3 0 j a) =
      Ideal.exp (s (ix3 0 j a) - g (ix4 0 0 3 a)) := by
  pointwise [k0_pay866, k0_pay856, k0_pay865]

theorem exp_row4 (g : FVec Ideal S1x1x8x256 .f32) (s : FVec Ideal S1x128x256 .f32) (j : Fin 128) (a : Fin 256) :
    (k0_pay877 (F := Ideal) (shapeCast S8x256 g shapeCasts_S1x1x8x256_S8x256) (k0_pay868 s) : FVec Ideal S1x128x256 .f32) (ix3 0 j a) =
      Ideal.exp (s (ix3 0 j a) - g (ix4 0 0 4 a)) := by
  pointwise [k0_pay877, k0_pay868]

theorem exp_row5 (g : FVec Ideal S1x1x8x256 .f32) (s : FVec Ideal S1x128x256 .f32) (j : Fin 128) (a : Fin 256) :
    (k0_pay885 (F := Ideal) (shapeCast S8x256 g shapeCasts_S1x1x8x256_S8x256) (k0_pay879 s) : FVec Ideal S1x128x256 .f32) (ix3 0 j a) =
      Ideal.exp (s (ix3 0 j a) - g (ix4 0 0 5 a)) := by
  pointwise [k0_pay885, k0_pay879]

theorem exp_row6 (g : FVec Ideal S1x1x8x256 .f32) (s : FVec Ideal S1x128x256 .f32) (j : Fin 128) (a : Fin 256) :
    (k0_pay896 (F := Ideal) (shapeCast S8x256 g shapeCasts_S1x1x8x256_S8x256) (k0_pay887 s) : FVec Ideal S1x128x256 .f32) (ix3 0 j a) =
      Ideal.exp (s (ix3 0 j a) - g (ix4 0 0 6 a)) := by
  pointwise [k0_pay896, k0_pay887]

theorem exp_row7 (g : FVec Ideal S1x1x8x256 .f32) (s : FVec Ideal S1x128x256 .f32) (j : Fin 128) (a : Fin 256) :
    (k0_pay907 (F := Ideal) (shapeCast S8x256 g shapeCasts_S1x1x8x256_S8x256) (k0_pay898 s) : FVec Ideal S1x128x256 .f32) (ix3 0 j a) =
      Ideal.exp (s (ix3 0 j a) - g (ix4 0 0 7 a)) := by
  pointwise [k0_pay907, k0_pay898]

/-- The best scores of the eight heads are loaded at once; head `h`'s row of that load is the load of the row alone. -/
theorem row_load (v : View sig .tc .vmem S2x16x8x256 .f32) (L : List (View.Piece (Elt Ideal) S2x16x8x256 .f32)) (h : Fin 8) (k : ℕ) (hk : k = h.val) (a : Fin 256)
    (inb : ∀ b, (![1, 0, 0, 0] : Fin 4 → ℕ) b + (![1, 1, 8, 256] : Fin 4 → ℕ) b ≤ S2x16x8x256.size b)
    (inb' : ∀ b, (![1, 0, k, 0] : Fin 4 → ℕ) b + (![1, 1, 1, 256] : Fin 4 → ℕ) b ≤ S2x16x8x256.size b) :
    v.readCov L (Rect.unit (s := S2x16x8x256) ![1, 0, 0, 0] ![1, 1, 8, 256] inb).toLoadRect (ix4 0 0 h a : S1x1x8x256.Idx) =
      v.readCov L (Rect.unit (s := S2x16x8x256) ![1, 0, k, 0] ![1, 1, 1, 256] inb').toLoadRect (ix4 0 0 0 a : S1x1x1x256.Idx) := by
  rw [View.readCov_eq_canon', View.readCov_eq_canon']
  refine congrArg (View.canon L) (funext fun b => Fin.ext ?_)
  subst hk
  fin_cases b
  · rfl
  · rfl
  · show 0 + 1 * h.val = h.val + 1 * 0
    omega
  · rfl

variable (m : (l : Loc nD τ sig) → Buf (Elt Ideal) l) (c : Dev nD)

/-- The exponentials: the kernel's second result. -/
def result1 (m : (l : Loc nD τ sig) → Buf (Elt Ideal) l) (c : Dev nD) : FVec Ideal S8x128x65536 .f32 :=
  fun i => Ref.expScore (arg0 m c) (arg1 m c) (arg2 m c) (i 0) (i 2) (i 1)

theorem result1_at (t : Fin cfg0.N) (h : Fin 8) (a : Fin 256) (j : Fin 128) (i : S8x128x65536.Idx) (s g : EReal)
    (hs : s = blockScore (iblk m c 0 t) (iblk m c 1 t) (iblk m c 2 t) h a j)
    (hg : g = Finset.univ.sup (blockScore (iblk m c 0 t) (iblk m c 1 t) (iblk m c 2 t) h a))
    (h0 : (i 0).val = h.val) (h1 : (i 1).val = j.val) (h2 : (i 2).val = pt t * 256 + a.val) :
    Ideal.exp (s - g) = result1 m c i := by
  subst hs hg
  obtain rfl : h = i 0 := Fin.ext h0.symm
  obtain rfl : j = i 1 := Fin.ext h1.symm
  rw [funext fun j => blockScore_eq m c t (i 0) a j (i 2) h2]
  rfl

set_option maxHeartbeats 2000000 in
theorem result1_eq : (dats m 0 c).arrAt 4 cfg0.N = result1 m c := by
  refine (dats m 0 c).arrAt_eq_of_covers 4 _ (by decide +kernel) fun t _ y => ?_
  blk_simp
  rw [after0_4]
  unfold outsAt0
  frame_out
  canon_tiles y h
  case piece0 =>
    obtain ⟨z, j, a, rfl⟩ : ∃ (z : Fin 1) (j : Fin 128) (a : Fin 256), y = ix3 z j a := ⟨_, _, _, eq_ix3 y⟩
    obtain rfl : z = 0 := Subsingleton.elim _ _
    refine (exp_row7 _ _ j a).trans (result1_at m c t 7 a j _ _ _ ?_ ?_ ?_ ?_ ?_)
    · simp (disch := decide) only [↓View.readCov_skip, ↓View.readCov_cons_toLoadRect]
      open_payloads
      pointwise
      rfl
    · refine (row_load _ _ 7 7 rfl a _ (by decide)).trans ?_
      simp (disch := decide) only [↓View.readCov_skip, ↓View.readCov_cons_toLoadRect]
      open_payloads
      pointwise
      rfl
    · blk_simp [idx4 t]
      exact h0
    · blk_simp [idx4 t]
      exact h1
    · blk_simp [idx4 t]
      exact congrArg (_ + ·) h2
  case piece1 =>
    obtain ⟨z, j, a, rfl⟩ : ∃ (z : Fin 1) (j : Fin 128) (a : Fin 256), y = ix3 z j a := ⟨_, _, _, eq_ix3 y⟩
    obtain rfl : z = 0 := Subsingleton.elim _ _
    refine (exp_row6 _ _ j a).trans (result1_at m c t 6 a j _ _ _ ?_ ?_ ?_ ?_ ?_)
    · simp (disch := decide) only [↓View.readCov_skip, ↓View.readCov_cons_toLoadRect]
      open_payloads
      pointwise
      rfl
    · refine (row_load _ _ 6 6 rfl a _ (by decide)).trans ?_
      simp (disch := decide) only [↓View.readCov_skip, ↓View.readCov_cons_toLoadRect]
      open_payloads
      pointwise
      rfl
    · blk_simp [idx4 t]
      exact h0
    · blk_simp [idx4 t]
      exact h1
    · blk_simp [idx4 t]
      exact congrArg (_ + ·) h2
  case piece2 =>
    obtain ⟨z, j, a, rfl⟩ : ∃ (z : Fin 1) (j : Fin 128) (a : Fin 256), y = ix3 z j a := ⟨_, _, _, eq_ix3 y⟩
    obtain rfl : z = 0 := Subsingleton.elim _ _
    refine (exp_row5 _ _ j a).trans (result1_at m c t 5 a j _ _ _ ?_ ?_ ?_ ?_ ?_)
    · simp (disch := decide) only [↓View.readCov_skip, ↓View.readCov_cons_toLoadRect]
      open_payloads
      pointwise
      rfl
    · refine (row_load _ _ 5 5 rfl a _ (by decide)).trans ?_
      simp (disch := decide) only [↓View.readCov_skip, ↓View.readCov_cons_toLoadRect]
      open_payloads
      pointwise
      rfl
    · blk_simp [idx4 t]
      exact h0
    · blk_simp [idx4 t]
      exact h1
    · blk_simp [idx4 t]
      exact congrArg (_ + ·) h2
  case piece3 =>
    obtain ⟨z, j, a, rfl⟩ : ∃ (z : Fin 1) (j : Fin 128) (a : Fin 256), y = ix3 z j a := ⟨_, _, _, eq_ix3 y⟩
    obtain rfl : z = 0 := Subsingleton.elim _ _
    refine (exp_row4 _ _ j a).trans (result1_at m c t 4 a j _ _ _ ?_ ?_ ?_ ?_ ?_)
    · simp (disch := decide) only [↓View.readCov_skip, ↓View.readCov_cons_toLoadRect]
      open_payloads
      pointwise
      rfl
    · refine (row_load _ _ 4 4 rfl a _ (by decide)).trans ?_
      simp (disch := decide) only [↓View.readCov_skip, ↓View.readCov_cons_toLoadRect]
      open_payloads
      pointwise
      rfl
    · blk_simp [idx4 t]
      exact h0
    · blk_simp [idx4 t]
      exact h1
    · blk_simp [idx4 t]
      exact congrArg (_ + ·) h2
  case piece4 =>
    obtain ⟨z, j, a, rfl⟩ : ∃ (z : Fin 1) (j : Fin 128) (a : Fin 256), y = ix3 z j a := ⟨_, _, _, eq_ix3 y⟩
    obtain rfl : z = 0 := Subsingleton.elim _ _
    refine (exp_row3 _ _ j a).trans (result1_at m c t 3 a j _ _ _ ?_ ?_ ?_ ?_ ?_)
    · simp (disch := decide) only [↓View.readCov_skip, ↓View.readCov_cons_toLoadRect]
      open_payloads
      pointwise
      rfl
    · refine (row_load _ _ 3 3 rfl a _ (by decide)).trans ?_
      simp (disch := decide) only [↓View.readCov_skip, ↓View.readCov_cons_toLoadRect]
      open_payloads
      pointwise
      rfl
    · blk_simp [idx4 t]
      exact h0
    · blk_simp [idx4 t]
      exact h1
    · blk_simp [idx4 t]
      exact congrArg (_ + ·) h2
  case piece5 =>
    obtain ⟨z, j, a, rfl⟩ : ∃ (z : Fin 1) (j : Fin 128) (a : Fin 256), y = ix3 z j a := ⟨_, _, _, eq_ix3 y⟩
    obtain rfl : z = 0 := Subsingleton.elim _ _
    refine (exp_row2 _ _ j a).trans (result1_at m c t 2 a j _ _ _ ?_ ?_ ?_ ?_ ?_)
    · simp (disch := decide) only [↓View.readCov_skip, ↓View.readCov_cons_toLoadRect]
      open_payloads
      pointwise
      rfl
    · refine (row_load _ _ 2 2 rfl a _ (by decide)).trans ?_
      simp (disch := decide) only [↓View.readCov_skip, ↓View.readCov_cons_toLoadRect]
      open_payloads
      pointwise
      rfl
    · blk_simp [idx4 t]
      exact h0
    · blk_simp [idx4 t]
      exact h1
    · blk_simp [idx4 t]
      exact congrArg (_ + ·) h2
  case piece6 =>
    obtain ⟨z, j, a, rfl⟩ : ∃ (z : Fin 1) (j : Fin 128) (a : Fin 256), y = ix3 z j a := ⟨_, _, _, eq_ix3 y⟩
    obtain rfl : z = 0 := Subsingleton.elim _ _
    refine (exp_row1 _ _ j a).trans (result1_at m c t 1 a j _ _ _ ?_ ?_ ?_ ?_ ?_)
    · simp (disch := decide) only [↓View.readCov_skip, ↓View.readCov_cons_toLoadRect]
      open_payloads
      pointwise
      rfl
    · refine (row_load _ _ 1 1 rfl a _ (by decide)).trans ?_
      simp (disch := decide) only [↓View.readCov_skip, ↓View.readCov_cons_toLoadRect]
      open_payloads
      pointwise
      rfl
    · blk_simp [idx4 t]
      exact h0
    · blk_simp [idx4 t]
      exact h1
    · blk_simp [idx4 t]
      exact congrArg (_ + ·) h2
  case piece7 =>
    obtain ⟨z, j, a, rfl⟩ : ∃ (z : Fin 1) (j : Fin 128) (a : Fin 256), y = ix3 z j a := ⟨_, _, _, eq_ix3 y⟩
    obtain rfl : z = 0 := Subsingleton.elim _ _
    refine (exp_row0 _ _ j a).trans (result1_at m c t 0 a j _ _ _ ?_ ?_ ?_ ?_ ?_)
    · simp (disch := decide) only [↓View.readCov_skip, ↓View.readCov_cons_toLoadRect]
      open_payloads
      pointwise
      rfl
    · refine (row_load _ _ 0 0 rfl a _ (by decide)).trans ?_
      simp (disch := decide) only [↓View.readCov_skip, ↓View.readCov_cons_toLoadRect]
      open_payloads
      pointwise
      rfl
    · blk_simp [idx4 t]
      exact h0
    · blk_simp [idx4 t]
      exact h1
    · blk_simp [idx4 t]
      exact congrArg (_ + ·) h2

end Route
-- ==== Proof.RouteClaims.lean ====
module
public import proofs.«01_k».proof.Defs
public import proofs.«01_k».proof.Proof.Gen.Route.Frame
public import proofs.«01_k».proof.Proof.Gen.RouteIdeal.Frame
public import proofs.«01_k».proof.Proof.Gen.RouteIdeal.Value
public import proofs.«01_k».proof.Proof.Gen.RouteRefIdeal.Run
public import proofs.«01_k».proof.Proof.Gen.RouteRefIdeal.Read
public import proofs.«01_k».proof.Proof.RouteRef
public import proofs.«01_k».proof.Proof.RouteKernel
public import proofs.«01_k».proof.Proof.RouteExp
/-! The claims on the routing scores: the reference halts, and the kernel computes its two results. -/
@[expose] public section
set_option maxRecDepth 16384
noncomputable section
namespace Route
open Cert.RouteIdeal Idealize.ShloMosaic Idealize.ShloMosaic.TcCoe Idealize.SL.Sem

theorem ref0 (m : (l : Loc nD τ sig) → Buf (Elt Ideal) l) (c : Dev nD) :
    result0 m c = Cert.RouteRefIdeal.Read.val_main_v14 (F := Ideal) (arg0 m c) (arg1 m c) (arg2 m c) := by
  funext i
  obtain ⟨h, j, n, rfl⟩ : ∃ (h : Fin 8) (j : Fin 128) (n : Fin 65536), i = ix3 h j n := ⟨_, _, _, eq_ix3 i⟩
  exact (Ref.s_at _ _ _ h j n).symm

theorem ref1 (m : (l : Loc nD τ sig) → Buf (Elt Ideal) l) (c : Dev nD) :
    result1 m c = Cert.RouteRefIdeal.Read.val_main_v16 (F := Ideal) (arg0 m c) (arg1 m c) (arg2 m c) := by
  funext i
  obtain ⟨h, j, n, rfl⟩ : ∃ (h : Fin 8) (j : Fin 128) (n : Fin 65536), i = ix3 h j n := ⟨_, _, _, eq_ix3 i⟩
  exact (Ref.e_at _ _ _ h j n).symm

theorem frame_ri : Cert.quiescent_RouteRefIdeal := fun m ρ _ =>
  (θ_run Cert.RouteRefIdeal.defs _ _).mono (fun r h => ⟨fun c => (h c).2.2, Idealize.ShloMosaic.sem_eq_zero_of_no_sems (by decide) r.2⟩)
    (Cert.RouteRefIdeal.Value.run (F := Ideal) m ρ)

theorem algebraic : Cert.algebraic_RouteIdeal_RouteRefIdeal := by
  intro m ρ m' ρ' _ hag
  refine ⟨fun c => result0 m c, fun c => result1 m c, ?_, ?_⟩
  · refine (θ_run Cert.RouteIdeal.defs _ _).mono (fun _ h c => ?_) (Cert.RouteIdeal.Value.run_blocks (F := Ideal) m ρ)
    obtain ⟨h0, h1, -, -, hr⟩ := h c
    exact ⟨h0.trans (result0_eq m c), h1.trans (result1_eq m c), hr⟩
  · refine (θ_run Cert.RouteRefIdeal.defs _ _).mono (fun _ h c => ?_) (Cert.RouteRefIdeal.Value.run (F := Ideal) m' ρ')
    obtain ⟨h0, h1, hr⟩ := h c
    obtain ⟨a0, a1, a2⟩ := hag c
    rw [Cert.RouteRefIdeal.Read.val_main_v14_eq, a0, a1, a2] at h0
    rw [Cert.RouteRefIdeal.Read.val_main_v16_eq, a0, a1, a2] at h1
    exact ⟨h0.trans (ref0 m c).symm, h1.trans (ref1 m c).symm, hr⟩

end Route
-- ==== Proof.MemKvRef.lean ====
module
public import proofs.«01_k».proof.Proof.Gen.MemKvRefIdeal.Read
public import Idealize.ShloMosaic.Lib.Pointwise
public import Idealize.ShloMosaic.Lib.IdealHost
/-! The reference of the memory's keys and values, read at an element: the projection of a memory row by a column of the weights. -/
@[expose] public section
set_option maxRecDepth 16384
noncomputable section
namespace Memory.Kv.Ref
open Cert.MemKvRefIdeal Cert.MemKvRefIdeal.Gen Cert.MemKvRefIdeal.Read Idealize.ShloMosaic
  Idealize.ShloMosaic.TcCoe Idealize.SL.Sem Idealize.ShloMosaic.StableHlo

/-- Row `j` of memory `b`, projected by column `d`. -/
def proj (x0 : FVec Ideal S16x256x1024 .f32) (x1 : FVec Ideal S1x1024x512 .f32) (b : Fin 16) (j : Fin 256) (d : Fin 512) : EReal :=
  ∑ k : Fin 1024, x0 (ix3 b j k) * x1 (ix3 0 k d)

theorem proj_at (x0 : FVec Ideal S16x256x1024 .f32) (x1 : FVec Ideal S1x1024x512 .f32) (b : Fin 16) (j : Fin 256) (d : Fin 512) :
    (val_main_v1 (F := Ideal) x0 x1 : FVec Ideal S16x256x512 .f32) (ix3 b j d) = proj x0 x1 b j d := by
  unfold val_main_v1 val_main_v0
  pointwise
  rfl

theorem keys_at (x0 : FVec Ideal S16x256x1024 .f32) (x1 : FVec Ideal S1x1024x512 .f32) (b : Fin 16) (d j : Fin 256) :
    (val_main_v10 (F := Ideal) x0 x1 : FVec Ideal S16x256x256 .bf16) (ix3 b d j) = proj x0 x1 b j ⟨d.val, by omega⟩ := by
  have e := proj_at x0 x1 b j ⟨d.val, by omega⟩
  unfold val_main_v10 val_main_v9 val_main_v5 val_main_v4 val_main_v3 val_main_v2
  revert e
  generalize (val_main_v1 (F := Ideal) x0 x1 : FVec Ideal S16x256x512 .f32) = X
  intro e
  pointwise
  refine Eq.trans (congrArg X (congrArg (ix3 b j) (Fin.ext ?_))) e
  dsimp only; omega

theorem values_at (x0 : FVec Ideal S16x256x1024 .f32) (x1 : FVec Ideal S1x1024x512 .f32) (b : Fin 16) (j d : Fin 256) :
    (val_main_v11 (F := Ideal) x0 x1 : FVec Ideal S16x256x256 .bf16) (ix3 b j d) = proj x0 x1 b j ⟨256 + d.val, by omega⟩ := by
  have e := proj_at x0 x1 b j ⟨256 + d.val, by omega⟩
  unfold val_main_v11 val_main_v8 val_main_v7 val_main_v6 val_main_v2
  revert e
  generalize (val_main_v1 (F := Ideal) x0 x1 : FVec Ideal S16x256x512 .f32) = X
  intro e
  pointwise
  refine Eq.trans (congrArg X (congrArg (ix3 b j) (Fin.ext ?_))) e
  dsimp only; omega

end Memory.Kv.Ref
-- ==== Proof.MemKvKernel.lean ====
module
public import proofs.«01_k».proof.Proof.Gen.MemKvIdeal.Value
public import proofs.«01_k».proof.Proof.MemKvRef
public import Idealize.ShloMosaic.Lib.StableHlo.RunRead
public import Idealize.ShloMosaic.Lib.Pipeline.ValueKit
public import Idealize.ShloMosaic.Lib.Pointwise
public import Idealize.ShloMosaic.Lib.IdealHost
/-! The kernel of the memory's keys and values: its blocks, and its two result arrays. -/
@[expose] public section
set_option maxRecDepth 16384
noncomputable section
namespace Memory.Kv
open Cert.MemKvIdeal Cert.MemKvIdeal.Gen Idealize.ShloMosaic Idealize.ShloMosaic.TcCoe Idealize.SL.Sem
  Idealize.ShloMosaic.StableHlo

/-! The values of the body, at variables. -/

theorem keyBlock_at (x : FVec Ideal S1x256x1024 .f32) (w : FVec Ideal S256x1024 .bf16) (d j : Fin 256) :
    (k0_pay2 (F := Ideal) x w : FVec Ideal S1x256x256 .bf16) (ix3 0 d j) = ∑ k : Fin 1024, w (ix2 d k) * x (ix3 0 j k) := by
  pointwise [k0_pay2, k0_pay1]

theorem valueBlock_at (x : FVec Ideal S1x256x1024 .f32) (w : FVec Ideal S1024x256 .bf16) (j d : Fin 256) :
    (k0_pay3 (F := Ideal) x w : FVec Ideal S1x256x256 .bf16) (ix3 0 j d) = ∑ k : Fin 1024, x (ix3 0 j k) * w (ix2 k d) := by
  pointwise [k0_pay3, k0_pay1]

variable (m : (l : Loc nD τ sig) → Buf (Elt Ideal) l) (c : Dev nD)

abbrev arg0 : FVec Ideal S16x256x1024 .f32 := m ((c : Thread nD τ).loc main_arg0)
abbrev arg1 : FVec Ideal S1x1024x512 .f32 := m ((c : Thread nD τ).loc main_arg1)

/-! The arrays the host hands to the kernel. -/

theorem wk_at (d : Fin 256) (k : Fin 1024) : (V m c main_v3 : FVec Ideal S256x1024 .bf16) (ix2 d k) =
    arg1 m c (ix3 0 k (⟨d.val, by omega⟩ : Fin 512)) := by
  unfold V; unfold_abbrev_sides; after_reads_simp
  pointwise
theorem wv_at (k : Fin 1024) (d : Fin 256) : (V m c main_v5 : FVec Ideal S1024x256 .bf16) (ix2 k d) =
    arg1 m c (ix3 0 k (⟨256 + d.val, by omega⟩ : Fin 512)) := by
  unfold V; unfold_abbrev_sides; after_reads_simp
  pointwise

/-! The blocks at a grid point: one memory of the batch, and the whole weights. -/

abbrev pt (t : Fin cfg0.N) : Nat := (grid0.coords t 0).val
theorem idx0 : ∀ t : Fin cfg0.N, win0_0.index t = ![pt t, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![pt t, 0, 0] := (by decide +kernel : ∀ t : Fin grid0.N, _)
theorem idx4 : ∀ t : Fin cfg0.N, win0_4.index t = ![pt t, 0, 0] := (by decide +kernel : ∀ t : Fin grid0.N, _)

theorem blk0 (t : Fin cfg0.N) (j : Fin 256) (k : Fin 1024) (b : Fin 16) (hb : b.val = pt t) :
    (iblk m c 0 t : FVec Ideal S1x256x1024 .f32) (ix3 0 j k) = arg0 m c (ix3 b j k) := by
  have e : (iblk m c 0 t : FVec Ideal S1x256x1024 .f32) (ix3 0 j k) = (V m c main_arg0 : FVec Ideal S16x256x1024 .f32) (ix3 b j k) := by
    blk_ext [iblk, idx0 t, hb]
  exact e.trans (congrFun (V_main_arg0 m c) _)
theorem blk1 (t : Fin cfg0.N) (x : S256x1024.Idx) : iblk m c 1 t x = (V m c main_v3 : FVec Ideal S256x1024 .bf16) x := by blk_ext [iblk, idx1 t]
theorem blk2 (t : Fin cfg0.N) (x : S1024x256.Idx) : iblk m c 2 t x = (V m c main_v5 : FVec Ideal S1024x256 .bf16) x := by blk_ext [iblk, idx2 t]

theorem ld0 (x : Vec Ideal S1x256x1024 .f32) : View.ld (Val := Elt Ideal) (e' := .f32) x r0_0 = x := funext fun i => by
  obtain ⟨z, j, k, rfl⟩ : ∃ (z : Fin 1) (j : Fin 256) (k : Fin 1024), i = ix3 z j k := ⟨_, _, _, eq_ix3 i⟩
  obtain rfl : z = 0 := Subsingleton.elim _ _
  pointwise
theorem ld1 (x : Vec Ideal S256x1024 .bf16) : View.ld (Val := Elt Ideal) (e' := .bf16) x r0_1 = x := funext fun i => by rw [eq_ix2 i]; pointwise
theorem ld3 (x : Vec Ideal S1024x256 .bf16) : View.ld (Val := Elt Ideal) (e' := .bf16) x r0_3 = x := funext fun i => by rw [eq_ix2 i]; pointwise

/-- The transposed keys: the kernel's first result. -/
def result0 (m : (l : Loc nD τ sig) → Buf (Elt Ideal) l) (c : Dev nD) : FVec Ideal S16x256x256 .bf16 :=
  fun i => Ref.proj (arg0 m c) (arg1 m c) (i 0) (i 2) (⟨(i 1).val, Nat.lt_trans (i 1).isLt (by decide : 256 < 512)⟩ : Fin 512)

/-- The values: the kernel's second result. -/
def result1 (m : (l : Loc nD τ sig) → Buf (Elt Ideal) l) (c : Dev nD) : FVec Ideal S16x256x256 .bf16 :=
  fun i => Ref.proj (arg0 m c) (arg1 m c) (i 0) (i 1) (⟨256 + (i 2).val, Nat.add_lt_add_left (i 2).isLt 256⟩ : Fin 512)

theorem piece0 (t : Fin cfg0.N) (d j : Fin 256) (i : S16x256x256.Idx) (h0 : (i 0).val = pt t) (h1 : (i 1).val = d.val) (h2 : (i 2).val = j.val) :
    (k0_pay2 (F := Ideal) (iblk m c 0 t) (iblk m c 1 t) : FVec Ideal S1x256x256 .bf16) (ix3 0 d j) = result0 m c i := by
  rw [keyBlock_at]
  unfold result0 Ref.proj
  refine Finset.sum_congr rfl fun k _ => ?_
  rw [blk1, wk_at, blk0 m c t j k (i 0) h0, mul_comm]
  exact congrArg₂ (· * ·) (congrArg (fun u => arg0 m c (ix3 (i 0) u k)) (Fin.ext h2.symm))
    (congrArg (fun u => arg1 m c (ix3 0 k u)) (Fin.ext h1.symm))

theorem piece1 (t : Fin cfg0.N) (j d : Fin 256) (i : S16x256x256.Idx) (h0 : (i 0).val = pt t) (h1 : (i 1).val = j.val) (h2 : (i 2).val = d.val) :
    (k0_pay3 (F := Ideal) (iblk m c 0 t) (iblk m c 2 t) : FVec Ideal S1x256x256 .bf16) (ix3 0 j d) = result1 m c i := by
  rw [valueBlock_at]
  unfold result1 Ref.proj
  refine Finset.sum_congr rfl fun k _ => ?_
  rw [blk2, wv_at, blk0 m c t j k (i 0) h0]
  exact congrArg₂ (· * ·) (congrArg (fun u => arg0 m c (ix3 (i 0) u k)) (Fin.ext h1.symm))
    (congrArg (fun u => arg1 m c (ix3 0 k u)) (Fin.ext (congrArg (256 + ·) h2.symm)))

theorem result0_eq : (dats m 0 c).arrAt 3 cfg0.N = result0 m c := by
  refine (dats m 0 c).arrAt_eq_of_covers 3 _ (by decide +kernel) fun t _ y => ?_
  blk_simp
  rw [after0_3]
  unfold out0_3
  canon_tiles y h
  rw [ld0, ld1]
  obtain ⟨z, d, j, rfl⟩ : ∃ (z : Fin 1) (d j : Fin 256), y = ix3 z d j := ⟨_, _, _, eq_ix3 y⟩
  obtain rfl : z = 0 := Subsingleton.elim _ _
  refine piece0 m c t d j _ ?_ ?_ ?_
  · blk_simp [idx3 t]
  · blk_simp [idx3 t]
    exact h1
  · blk_simp [idx3 t]
    exact h2

theorem result1_eq : (dats m 0 c).arrAt 4 cfg0.N = result1 m c := by
  refine (dats m 0 c).arrAt_eq_of_covers 4 _ (by decide +kernel) fun t _ y => ?_
  blk_simp
  rw [after0_4]
  unfold out0_4
  canon_tiles y h
  rw [ld0, ld3]
  obtain ⟨z, j, d, rfl⟩ : ∃ (z : Fin 1) (j d : Fin 256), y = ix3 z j d := ⟨_, _, _, eq_ix3 y⟩
  obtain rfl : z = 0 := Subsingleton.elim _ _
  refine piece1 m c t j d _ ?_ ?_ ?_
  · blk_simp [idx4 t]
  · blk_simp [idx4 t]
    exact h1
  · blk_simp [idx4 t]
    exact h2

end Memory.Kv
-- ==== Proof.MemKvClaims.lean ====
module
public import proofs.«01_k».proof.Defs
public import proofs.«01_k».proof.Proof.Gen.MemKv.Frame
public import proofs.«01_k».proof.Proof.Gen.MemKvIdeal.Frame
public import proofs.«01_k».proof.Proof.Gen.MemKvIdeal.Value
public import proofs.«01_k».proof.Proof.Gen.MemKvRefIdeal.Run
public import proofs.«01_k».proof.Proof.Gen.MemKvRefIdeal.Read
public import proofs.«01_k».proof.Proof.MemKvKernel
/-! The claims on the memory's keys and values: the reference halts, and the kernel computes its two results. -/
@[expose] public section
set_option maxRecDepth 16384
noncomputable section
namespace Memory.Kv
open Cert.MemKvIdeal Idealize.ShloMosaic Idealize.ShloMosaic.TcCoe Idealize.SL.Sem

theorem ref0 (m : (l : Loc nD τ sig) → Buf (Elt Ideal) l) (c : Dev nD) :
    result0 m c = Cert.MemKvRefIdeal.Read.val_main_v10 (F := Ideal) (arg0 m c) (arg1 m c) := by
  funext i
  obtain ⟨b, d, j, rfl⟩ : ∃ (b : Fin 16) (d j : Fin 256), i = ix3 b d j := ⟨_, _, _, eq_ix3 i⟩
  exact (Ref.keys_at _ _ b d j).symm

theorem ref1 (m : (l : Loc nD τ sig) → Buf (Elt Ideal) l) (c : Dev nD) :
    result1 m c = Cert.MemKvRefIdeal.Read.val_main_v11 (F := Ideal) (arg0 m c) (arg1 m c) := by
  funext i
  obtain ⟨b, j, d, rfl⟩ : ∃ (b : Fin 16) (j d : Fin 256), i = ix3 b j d := ⟨_, _, _, eq_ix3 i⟩
  exact (Ref.values_at _ _ b j d).symm

theorem frame_ri : Cert.quiescent_MemKvRefIdeal := fun m ρ _ =>
  (θ_run Cert.MemKvRefIdeal.defs _ _).mono (fun r h => ⟨fun c => (h c).2.2, Idealize.ShloMosaic.sem_eq_zero_of_no_sems (by decide) r.2⟩)
    (Cert.MemKvRefIdeal.Value.run (F := Ideal) m ρ)

theorem algebraic : Cert.algebraic_MemKvIdeal_MemKvRefIdeal := by
  intro m ρ m' ρ' _ hag
  refine ⟨fun c => result0 m c, fun c => result1 m c, ?_, ?_⟩
  · refine (θ_run Cert.MemKvIdeal.defs _ _).mono (fun _ h c => ?_) (Cert.MemKvIdeal.Value.run_blocks (F := Ideal) m ρ)
    obtain ⟨h0, h1, hr⟩ := h c
    exact ⟨h0.trans (result0_eq m c), h1.trans (result1_eq m c), hr⟩
  · refine (θ_run Cert.MemKvRefIdeal.defs _ _).mono (fun _ h c => ?_) (Cert.MemKvRefIdeal.Value.run (F := Ideal) m' ρ')
    obtain ⟨h0, h1, hr⟩ := h c
    obtain ⟨a0, a1⟩ := hag c
    rw [Cert.MemKvRefIdeal.Read.val_main_v10_eq, a0, a1] at h0
    rw [Cert.MemKvRefIdeal.Read.val_main_v11_eq, a0, a1] at h1
    exact ⟨h0.trans (ref0 m c).symm, h1.trans (ref1 m c).symm, hr⟩

end Memory.Kv
-- ==== Proof.MemKernel.lean ====
module
public import proofs.«01_k».proof.Proof.Gen.MemAttnIdeal.Value
public import Idealize.ShloMosaic.Lib.StableHlo.RunRead
public import Idealize.ShloMosaic.Lib.Pipeline.ValueKit
public import Idealize.ShloMosaic.Lib.Pointwise
public import Idealize.ShloMosaic.Lib.IdealHost
/-! The kernel of the memory attention: the arrays it gets, its blocks, and its result array.

A block of 512 queries meets the 256 keys of its memory. Each 128-column piece of the result holds two heads. -/
@[expose] public section
set_option maxRecDepth 16384
noncomputable section
namespace Memory
open Cert.MemAttnIdeal Cert.MemAttnIdeal.Gen Idealize.ShloMosaic Idealize.ShloMosaic.TcCoe Idealize.SL.Sem
  Idealize.ShloMosaic.StableHlo

/-- The weighted mean of the values `v` with the weights `exp (s - max s)`, normalised at the end. -/
def mean (s v : Fin 256 → EReal) : EReal :=
  (∑ j, Ideal.exp (s j - Finset.univ.sup s) * v j) * Ideal.div 1 (∑ j, Ideal.exp (s j - Finset.univ.sup s))

/-- The product of a query's 128 columns of a piece with a key's. -/
def dot (q : FVec Ideal S512x128 .bf16) (kt : FVec Ideal S1x128x256 .bf16) (a : Fin 512) (j : Fin 256) : EReal :=
  ∑ l : Fin 128, q (ix2 a l) * kt (ix3 0 l j)

theorem lane : ∀ d : Fin 128, IntOp.cmpi .slt (BitVec.ofNat 32 d.val) 64#32 = if d.val < 64 then 1#1 else 0#1 := by
  decide +kernel

/-- The first piece: left of column 64 one head, right of it the other. -/
theorem first_at (q0 q1 : FVec Ideal S512x128 .bf16) (kt : FVec Ideal S1x128x256 .bf16) (v : FVec Ideal S1x256x128 .bf16)
    (a : Fin 512) (d : Fin 128) :
    (k0_pay9 (F := Ideal) (k0_pay3 q1 kt) (k0_pay6 q0 kt) (k0_pay7 q0 kt v) v : FVec Ideal S512x128 .bf16) (ix2 a d) =
      if d.val < 64 then mean (dot q0 kt a) (fun j => v (ix3 0 j d)) else mean (dot q1 kt a) (fun j => v (ix3 0 j d)) := by
  pointwise [k0_pay9, k0_pay7, k0_pay6, k0_pay5, k0_pay3, k0_pay2]
  rw [lane]
  by_cases hd : d.val < 64
  · rw [if_pos hd, if_pos hd]; rfl
  · rw [if_neg hd, if_neg hd]; rfl

/-- The second piece. -/
theorem second_at (q0 q1 : FVec Ideal S512x128 .bf16) (kt : FVec Ideal S1x128x256 .bf16) (v : FVec Ideal S1x256x128 .bf16)
    (a : Fin 512) (d : Fin 128) :
    (k0_pay1 (F := Ideal) (k0_pay8 (k0_pay2 (F := Ideal)) q1 kt) (k0_pay11 (k0_pay4 q0 kt)) (k0_pay12 (k0_pay4 q0 kt)) v v :
      FVec Ideal S512x128 .bf16) (ix2 a d) =
      if d.val < 64 then mean (dot q0 kt a) (fun j => v (ix3 0 j d)) else mean (dot q1 kt a) (fun j => v (ix3 0 j d)) := by
  pointwise [k0_pay1, k0_pay12, k0_pay11, k0_pay10, k0_pay8, k0_pay4, k0_pay2]
  rw [lane]
  by_cases hd : d.val < 64
  · rw [if_pos hd, if_pos hd]; rfl
  · rw [if_neg hd, if_neg hd]; rfl

variable (m : (l : Loc nD τ sig) → Buf (Elt Ideal) l) (c : Dev nD)

abbrev qArg : FVec Ideal S16x4096x4x64 .f32 := m ((c : Thread nD τ).loc main_arg0)
abbrev kArg : FVec Ideal S16x256x4x64 .f32 := m ((c : Thread nD τ).loc main_arg1)
abbrev vArg : FVec Ideal S16x256x4x64 .f32 := m ((c : Thread nD τ).loc main_arg2)

/-! The arrays the host hands to the kernel. -/

theorem vF_at (b : Fin 16) (j col : Fin 256) : (V m c main_v17 : FVec Ideal S16x256x256 .bf16) (ix3 b j col) =
    vArg m c (ix4 b j (⟨col.val / 64, by omega⟩ : Fin 4) (⟨col.val % 64, by omega⟩ : Fin 64)) := by
  unfold V; unfold_abbrev_sides; after_reads_simp
  pointwise

theorem kT_at (b : Fin 16) (col j : Fin 256) : (V m c main_v15 : FVec Ideal S16x256x256 .bf16) (ix3 b col j) =
    kArg m c (ix4 b j (⟨col.val / 64, by omega⟩ : Fin 4) (⟨col.val % 64, by omega⟩ : Fin 64)) := by
  unfold V; unfold_abbrev_sides; after_reads_simp
  pointwise

theorem lit_lo : ∀ col : Fin 256, lit0 (S256.rowMajor (ix1 col)) = if col.val / 64 % 2 = 0 then 0x3F800000#32 else 0x00000000#32 := by
  decide +kernel

/-- The queries of the even heads, scaled; zero at the odd heads. -/
theorem qLo_at (n : Fin 65536) (col : Fin 256) :
    (V m c main_v6 : FVec Ideal S65536x256 .bf16) (ix2 n col) =
      qArg m c (ix4 (⟨n.val / 4096, by omega⟩ : Fin 16) (⟨n.val % 4096, by omega⟩ : Fin 4096)
        (⟨col.val / 64, by omega⟩ : Fin 4) (⟨col.val % 64, by omega⟩ : Fin 64)) *
        (if col.val / 64 % 2 = 0 then 1 else 0) * Ideal.ofBits .f32 0x3E000000#32 := by
  unfold V; unfold_abbrev_sides; after_reads_simp
  pointwise
  rw [lit_lo]
  by_cases h : col.val / 64 % 2 = 0
  · rw [if_pos h, if_pos h, Ideal.ofBits_one_f32]; rfl
  · rw [if_neg h, if_neg h, Ideal.ofBits_zero_f32]; rfl

theorem lit_hi : ∀ col : Fin 256, lit1 (S256.rowMajor (ix1 col)) = if col.val / 64 % 2 = 0 then 0x00000000#32 else 0x3F800000#32 := by
  decide +kernel

/-- The queries of the odd heads, scaled; zero at the even heads. -/
theorem qHi_at (n : Fin 65536) (col : Fin 256) :
    (V m c main_v12 : FVec Ideal S65536x256 .bf16) (ix2 n col) =
      qArg m c (ix4 (⟨n.val / 4096, by omega⟩ : Fin 16) (⟨n.val % 4096, by omega⟩ : Fin 4096)
        (⟨col.val / 64, by omega⟩ : Fin 4) (⟨col.val % 64, by omega⟩ : Fin 64)) *
        (if col.val / 64 % 2 = 1 then 1 else 0) * Ideal.ofBits .f32 0x3E000000#32 := by
  unfold V; unfold_abbrev_sides; after_reads_simp
  pointwise
  rw [lit_hi]
  by_cases h : col.val / 64 % 2 = 0
  · rw [if_pos h, if_neg (by omega), Ideal.ofBits_zero_f32]; rfl
  · rw [if_neg h, if_pos (by omega), Ideal.ofBits_one_f32]; rfl

abbrev qLo : FVec Ideal S65536x256 .bf16 := V m c main_v6
abbrev qHi : FVec Ideal S65536x256 .bf16 := V m c main_v12
abbrev kT : FVec Ideal S16x256x256 .bf16 := V m c main_v15
abbrev vF : FVec Ideal S16x256x256 .bf16 := V m c main_v17

/-- The copy of the queries that holds head `h`. -/
def qOf (h : Nat) : FVec Ideal S65536x256 .bf16 := if h % 2 = 0 then qLo m c else qHi m c

/-! The blocks at a grid point. -/

/-- The memory and the block of queries that a grid point treats. -/
abbrev bat (t : Fin cfg0.N) : Nat := (grid0.coords t 0).val
abbrev row (t : Fin cfg0.N) : Nat := (grid0.coords t 1).val

theorem bat_lt : ∀ t : Fin cfg0.N, bat t < 16 := (by decide +kernel : ∀ t : Fin grid0.N, (grid0.coords t 0).val < 16)
theorem row_lt : ∀ t : Fin cfg0.N, row t < 8 := (by decide +kernel : ∀ t : Fin grid0.N, (grid0.coords t 1).val < 8)
theorem idx0 : ∀ t : Fin cfg0.N, win0_0.index t = ![bat t * 8 + row t, 0] := (by decide +kernel : ∀ t : Fin grid0.N, _)
theorem idx1 : ∀ t : Fin cfg0.N, win0_1.index t = ![bat t * 8 + row t, 0] := (by decide +kernel : ∀ t : Fin grid0.N, _)
theorem idx2 : ∀ t : Fin cfg0.N, win0_2.index t = ![bat t, 0, 0] := (by decide +kernel : ∀ t : Fin grid0.N, _)
theorem idx3 : ∀ t : Fin cfg0.N, win0_3.index t = ![bat t, 0, 0] := (by decide +kernel : ∀ t : Fin grid0.N, _)
theorem idx4 : ∀ t : Fin cfg0.N, win0_4.index t = ![bat t * 8 + row t, 0] := (by decide +kernel : ∀ t : Fin grid0.N, _)

theorem blk0 (t : Fin cfg0.N) (x : S512x256.Idx) (i : S65536x256.Idx)
    (h0 : (i 0).val = (bat t * 8 + row t) * 512 + (x 0).val) (h1 : (i 1).val = (x 1).val) :
    iblk m c 0 t x = (V m c main_v6 : FVec Ideal S65536x256 .bf16) i := by blk_ext [iblk, idx0 t]
theorem blk1 (t : Fin cfg0.N) (x : S512x256.Idx) (i : S65536x256.Idx)
    (h0 : (i 0).val = (bat t * 8 + row t) * 512 + (x 0).val) (h1 : (i 1).val = (x 1).val) :
    iblk m c 1 t x = (V m c main_v12 : FVec Ideal S65536x256 .bf16) i := by blk_ext [iblk, idx1 t]
theorem blk2 (t : Fin cfg0.N) (x : S1x256x256.Idx) (i : S16x256x256.Idx)
    (h0 : (i 0).val = bat t) (h1 : (i 1).val = (x 1).val) (h2 : (i 2).val = (x 2).val) :
    iblk m c 2 t x = (V m c main_v15 : FVec Ideal S16x256x256 .bf16) i := by
  have hz : (x 0).val < 1 := (x 0).isLt
  blk_ext [iblk, idx2 t]
theorem blk3 (t : Fin cfg0.N) (x : S1x256x256.Idx) (i : S16x256x256.Idx)
    (h0 : (i 0).val = bat t) (h1 : (i 1).val = (x 1).val) (h2 : (i 2).val = (x 2).val) :
    iblk m c 3 t x = (V m c main_v17 : FVec Ideal S16x256x256 .bf16) i := by
  have hz : (x 0).val < 1 := (x 0).isLt
  blk_ext [iblk, idx3 t]

/-- The score of query `n` against key `j` of its memory, for head `h`. -/
def scoreOf (n : Fin 65536) (h : Fin 4) (j : Fin 256) : EReal :=
  ∑ l : Fin 128,
    qOf m c h.val (ix2 n (⟨h.val / 2 * 128 + l.val, by omega⟩ : Fin 256)) *
    kT m c (ix3 (⟨n.val / 4096, by omega⟩ : Fin 16) (⟨h.val / 2 * 128 + l.val, by omega⟩ : Fin 256) j)

/-- The kernel's result for query `n` and column `col`. -/
def outOf (n : Fin 65536) (col : Fin 256) : EReal :=
  mean (scoreOf m c n (⟨col.val / 64, by omega⟩ : Fin 4))
    (fun j => vF m c (ix3 (⟨n.val / 4096, by omega⟩ : Fin 16) j col))

/-- A piece of a block, two heads, is the piece of the result. -/
theorem piece_at (p : Fin 2) (q0 q1 : FVec Ideal S512x128 .bf16) (kt : FVec Ideal S1x128x256 .bf16) (v : FVec Ideal S1x256x128 .bf16)
    (a : Fin 512) (d : Fin 128) (n : Fin 65536) (col : Fin 256) (h1 : col.val = p.val * 128 + d.val)
    (hq0 : ∀ l : Fin 128, q0 (ix2 a l) = qLo m c (ix2 n (⟨p.val * 128 + l.val, by omega⟩ : Fin 256)))
    (hq1 : ∀ l : Fin 128, q1 (ix2 a l) = qHi m c (ix2 n (⟨p.val * 128 + l.val, by omega⟩ : Fin 256)))
    (hk : ∀ (l : Fin 128) (j : Fin 256), kt (ix3 0 l j) = kT m c
      (ix3 (⟨n.val / 4096, by omega⟩ : Fin 16) (⟨p.val * 128 + l.val, by omega⟩ : Fin 256) j))
    (hv : ∀ j : Fin 256, v (ix3 0 j d) = vF m c (ix3 (⟨n.val / 4096, by omega⟩ : Fin 16) j col)) :
    (if d.val < 64 then mean (dot q0 kt a) (fun j => v (ix3 0 j d)) else mean (dot q1 kt a) (fun j => v (ix3 0 j d))) = outOf m c n col := by
  unfold outOf
  by_cases hd : d.val < 64
  · rw [if_pos hd]
    have e : (⟨col.val / 64, by omega⟩ : Fin 4) = ⟨2 * p.val, by omega⟩ := Fin.ext (by dsimp only; omega)
    rw [e]
    refine congrArg₂ mean (funext fun j => ?_) (funext fun j => hv j)
    unfold dot scoreOf qOf
    have e0 : 2 * p.val % 2 = 0 := by omega
    have e1 : 2 * p.val / 2 = p.val := by omega
    simp only [hq0, hk, e0, e1, if_true]
  · rw [if_neg hd]
    have e : (⟨col.val / 64, by omega⟩ : Fin 4) = ⟨2 * p.val + 1, by omega⟩ := Fin.ext (by dsimp only; omega)
    rw [e]
    refine congrArg₂ mean (funext fun j => ?_) (funext fun j => hv j)
    unfold dot scoreOf qOf
    have e0 : ¬ ((2 * p.val + 1) % 2 = 0) := by omega
    have e1 : (2 * p.val + 1) / 2 = p.val := by omega
    simp only [hq1, hk, e0, e1, if_false]

/-- The memory of a query of a block. -/
theorem batch_of {b r y a : Nat} (h : r < 8) (hy : y = a) (ha : a < 512) : ((b * 8 + r) * 512 + y) / 4096 = b := by omega

/-- The result array. -/
def result : FVec Ideal S65536x256 .bf16 := fun i => outOf m c (i 0) (i 1)

theorem result_eq : (dats m 0 c).arrAt 4 cfg0.N = result m c := by
  refine (dats m 0 c).arrAt_eq_of_covers 4 _ (by decide +kernel) fun t _ y => ?_
  have hrt := row_lt t
  blk_simp
  rw [after0_4]
  unfold_out out0_4
  canon_tiles y h
  all_goals
    obtain ⟨a, d, rfl⟩ : ∃ (a : Fin 512) (d : Fin 128), y = ix2 a d := ⟨_, _, eq_ix2 y⟩
  · rw [second_at]
    refine piece_at m c 1 _ _ _ _ a d _ _ ?_ ?_ ?_ ?_ ?_
    · blk_simp [idx4 t]
      exact h1
    · intro l
      pointwise
      refine blk0 m c t _ _ ?_ rfl
      blk_simp [idx4 t]
      exact congrArg (_ + ·) h0
    · intro l
      pointwise
      refine blk1 m c t _ _ ?_ rfl
      blk_simp [idx4 t]
      exact congrArg (_ + ·) h0
    · intro l j
      pointwise
      refine blk2 m c t _ _ ?_ rfl rfl
      blk_simp [idx4 t]
      exact batch_of hrt h0 a.isLt
    · intro j
      pointwise
      refine blk3 m c t _ _ ?_ rfl ?_
      · blk_simp [idx4 t]
        exact batch_of hrt h0 a.isLt
      · blk_simp [idx4 t]
        exact h1
  · rw [first_at]
    refine piece_at m c 0 _ _ _ _ a d _ _ ?_ ?_ ?_ ?_ ?_
    · blk_simp [idx4 t]
      exact h1.trans (Nat.zero_add _).symm
    · intro l
      pointwise
      refine blk0 m c t _ _ ?_ rfl
      blk_simp [idx4 t]
      exact congrArg (_ + ·) h0
    · intro l
      pointwise
      refine blk1 m c t _ _ ?_ rfl
      blk_simp [idx4 t]
      exact congrArg (_ + ·) h0
    · intro l j
      pointwise
      refine blk2 m c t _ _ ?_ rfl rfl
      blk_simp [idx4 t]
      exact batch_of hrt h0 a.isLt
    · intro j
      pointwise
      refine blk3 m c t _ _ ?_ rfl ?_
      · blk_simp [idx4 t]
        exact batch_of hrt h0 a.isLt
      · blk_simp [idx4 t]
        exact h1

end Memory
-- ==== Proof.MemRef.lean ====
module
public import proofs.«01_k».proof.Proof.Gen.MemAttnRefIdeal.Read
public import proofs.«01_k».proof.Proof.Softmax
public import Idealize.ShloMosaic.Lib.Pointwise
public import Idealize.ShloMosaic.Lib.IdealHost
/-! The reference of the memory attention, read at an element: the softmax-weighted mean of the 256 values of a memory. -/
@[expose] public section
set_option maxRecDepth 16384
noncomputable section
namespace Memory.Ref
open Cert.MemAttnRefIdeal Cert.MemAttnRefIdeal.Gen Cert.MemAttnRefIdeal.Read Idealize.ShloMosaic
  Idealize.ShloMosaic.TcCoe Idealize.SL.Sem Idealize.ShloMosaic.StableHlo

/-- The score of query `q` against key `k` of the memory, in head `h`. -/
def score (x0 : FVec Ideal S16x4096x4x64 .f32) (x1 : FVec Ideal S16x256x4x64 .f32) (b : Fin 16) (h : Fin 4) (q : Fin 4096) (k : Fin 256) : EReal :=
  (∑ d : Fin 64, x0 (ix4 b q h d) * x1 (ix4 b k h d)) * Ideal.ofBits .f32 0x3E000000#32

theorem score_at (x0 : FVec Ideal S16x4096x4x64 .f32) (x1 : FVec Ideal S16x256x4x64 .f32) (b : Fin 16) (h : Fin 4) (q : Fin 4096) (k : Fin 256) :
    (val_main_v2 (F := Ideal) x0 x1 : FVec Ideal S16x4x4096x256 .f32) (ix4 b h q k) = score x0 x1 b h q k := by
  unfold score
  pointwise [val_main_v2, val_main_v1, val_main_v0, val_main_cst]

theorem max_at (x0 : FVec Ideal S16x4096x4x64 .f32) (x1 : FVec Ideal S16x256x4x64 .f32) (b : Fin 16) (h : Fin 4) (q : Fin 4096) :
    (val_main_v3 (F := Ideal) x0 x1 : FVec Ideal S16x4x4096 .f32) (ix3 b h q) = Finset.univ.sup (score x0 x1 b h q) := by
  have e : score x0 x1 b h q = fun k => (val_main_v2 (F := Ideal) x0 x1 : FVec Ideal S16x4x4096x256 .f32) (ix4 b h q k) :=
    funext fun k => (score_at x0 x1 b h q k).symm
  rw [e]
  unfold val_main_v3 val_main_cst_0
  generalize (val_main_v2 (F := Ideal) x0 x1 : FVec Ideal S16x4x4096x256 .f32) = X
  pointwise
  have eb : Ideal.ofBits .f32 4286578688#32 = (⊥ : EReal) := rfl
  rw [eb]
  exact Attn.fold_max_eq_sup _

theorem exp_of {x y x' y' : EReal} (hy : y = y') (hx : x = x') :
    FloatOps.hostUnary (F := Ideal) (φ := .f32) .exp (FloatOps.subf (F := Ideal) (φ := .f32) x
      (FloatOps.maximumf (F := Ideal) (φ := .f32) (FloatOps.ofBits (F := Ideal) .f32 0xFF800000#32) y)) = Ideal.exp (x' - y') := by
  subst hy hx
  have eb : FloatOps.ofBits (F := Ideal) .f32 0xFF800000#32 = (⊥ : EReal) := rfl
  rw [eb]
  have em : FloatOps.maximumf (F := Ideal) (φ := .f32) (⊥ : EReal) y = y := max_eq_right bot_le
  rw [em]
  rfl

theorem exp_at (x0 : FVec Ideal S16x4096x4x64 .f32) (x1 : FVec Ideal S16x256x4x64 .f32) (b : Fin 16) (h : Fin 4) (q : Fin 4096) (k : Fin 256) :
    (val_main_v9 (F := Ideal) x0 x1 : FVec Ideal S16x4x4096x256 .f32) (ix4 b h q k) =
      Ideal.exp (score x0 x1 b h q k - Finset.univ.sup (score x0 x1 b h q)) := by
  have e1 := max_at x0 x1 b h q
  have e2 := score_at x0 x1 b h q k
  rw [val_main_v9_apply, val_main_v8_apply, val_main_v7_apply, val_main_v6_apply, val_main_v5_apply,
    val_main_v4_apply, val_main_cst_1_apply]
  have i1 : idx_main_v6 (idx_main_v7 (ix4 b h q k)) = ix3 b h q := funext fun a => match a with
    | ⟨0, _⟩ => rfl
    | ⟨1, _⟩ => rfl
    | ⟨2, _⟩ => rfl
  rw [i1]
  exact exp_of e1 e2

theorem weight_at (x0 : FVec Ideal S16x4096x4x64 .f32) (x1 : FVec Ideal S16x256x4x64 .f32) (b : Fin 16) (h : Fin 4) (q : Fin 4096) (k : Fin 256) :
    (val_main_v13 (F := Ideal) x0 x1 : FVec Ideal S16x4x4096x256 .f32) (ix4 b h q k) =
      Ideal.div (Ideal.exp (score x0 x1 b h q k - Finset.univ.sup (score x0 x1 b h q)))
        (∑ k, Ideal.exp (score x0 x1 b h q k - Finset.univ.sup (score x0 x1 b h q))) := by
  have e := fun k => exp_at x0 x1 b h q k
  unfold val_main_v13 val_main_v12 val_main_v11 val_main_v10 val_main_cst_2
  revert e
  generalize (val_main_v9 (F := Ideal) x0 x1 : FVec Ideal S16x4x4096x256 .f32) = X
  intro e
  pointwise
  simp only [e]

theorem ix4_congr {n0 n1 n2 n3 : Nat} {a a' : Fin n0} {b b' : Fin n1} {d d' : Fin n2} {e e' : Fin n3} (ha : a.val = a'.val)
    (hb : b.val = b'.val) (hd : d.val = d'.val) (he : e.val = e'.val) : ix4 a b d e = ix4 a' b' d' e' := by
  rw [Fin.ext ha, Fin.ext hb, Fin.ext hd, Fin.ext he]

/-- The reference's result: for query `n` and column `col`, the weighted mean over all keys of the memory. -/
theorem out_at (x0 : FVec Ideal S16x4096x4x64 .f32) (x1 x2 : FVec Ideal S16x256x4x64 .f32) (n : Fin 65536) (col : Fin 256)
    (b : Fin 16) (q : Fin 4096) (h : Fin 4) (d : Fin 64) (hb : b.val = n.val / 4096) (hq : q.val = n.val % 4096)
    (hh : h.val = col.val / 64) (hd : d.val = col.val % 64) :
    (val_main_v17 (F := Ideal) x0 x1 x2 : FVec Ideal S65536x256 .bf16) (ix2 n col) =
      ∑ k, x2 (ix4 b k h d) * Ideal.div (Ideal.exp (score x0 x1 b h q k - Finset.univ.sup (score x0 x1 b h q)))
        (∑ k, Ideal.exp (score x0 x1 b h q k - Finset.univ.sup (score x0 x1 b h q))) := by
  have e := fun k => weight_at x0 x1 b h q k
  unfold val_main_v17 val_main_v16 val_main_v15 val_main_v14
  revert e
  generalize (val_main_v13 (F := Ideal) x0 x1 : FVec Ideal S16x4x4096x256 .f32) = X
  intro e
  pointwise
  refine Finset.sum_congr rfl fun k _ => ?_
  rw [← e k]
  exact congrArg₂ (· * ·) (congrArg x2 (ix4_congr hb.symm rfl hh.symm hd.symm)) (congrArg X (ix4_congr hb.symm hh.symm hq.symm rfl))

end Memory.Ref
-- ==== Proof.MemCombine.lean ====
module
public import proofs.«01_k».proof.Proof.MemKernel
public import proofs.«01_k».proof.Proof.MemRef
public import proofs.«01_k».proof.Proof.Combine
/-! The memory attention's kernel and its reference: the scores agree, and for real scores the normalisation may be done last. -/
@[expose] public section
set_option maxRecDepth 16384
noncomputable section
namespace Memory
open Cert.MemAttnIdeal Cert.MemAttnIdeal.Gen Idealize.ShloMosaic Idealize.ShloMosaic.TcCoe Idealize.SL.Sem
variable (m : (l : Loc nD τ sig) → Buf (Elt Ideal) l) (c : Dev nD)

/-- The copy of the queries that holds head `h`: the other heads' columns are zero. -/
theorem qOf_at (h : Nat) (n : Fin 65536) (col : Fin 256) :
    qOf m c h (ix2 n col) =
      qArg m c (ix4 (⟨n.val / 4096, by omega⟩ : Fin 16) (⟨n.val % 4096, by omega⟩ : Fin 4096)
        (⟨col.val / 64, by omega⟩ : Fin 4) (⟨col.val % 64, by omega⟩ : Fin 64)) *
        (if col.val / 64 % 2 = h % 2 then 1 else 0) * Ideal.ofBits .f32 0x3E000000#32 := by
  unfold qOf
  by_cases hh : h % 2 = 0
  · rw [if_pos hh, hh]; exact qLo_at m c n col
  · have h1 : h % 2 = 1 := by omega
    rw [if_neg hh, h1]; exact qHi_at m c n col

/-- The kernel's score is the reference's. -/
theorem score_eq (n : Fin 65536) (h : Fin 4) (j : Fin 256) :
    scoreOf m c n h j = Ref.score (qArg m c) (kArg m c) (⟨n.val / 4096, by omega⟩ : Fin 16) h (⟨n.val % 4096, by omega⟩ : Fin 4096) j := by
  unfold scoreOf Ref.score
  refine Attn.dot_half (fun d => qArg m c (ix4 (⟨n.val / 4096, by omega⟩ : Fin 16) (⟨n.val % 4096, by omega⟩ : Fin 4096) h d))
    (fun d => kArg m c (ix4 (⟨n.val / 4096, by omega⟩ : Fin 16) j h d)) _ ?_ ?_ _ (h.val % 2) (by omega) ?_
  · rw [Attn.eighth]; exact EReal.coe_nonneg.mpr (by norm_num)
  · rw [Attn.eighth]; exact EReal.coe_ne_top _
  · intro l
    by_cases hl : l.val / 64 = h.val % 2
    · rw [qOf_at, show kT m c = (V m c main_v15 : FVec Ideal S16x256x256 .bf16) from rfl, kT_at,
        if_pos hl, if_pos (by dsimp only; omega)]
      exact congrArg₂ (· * ·) (congrArg (· * 1 * _) (congrArg (qArg m c) (Ref.ix4_congr rfl rfl
        (by dsimp only; omega) (by dsimp only; omega)))) (congrArg (kArg m c) (Ref.ix4_congr rfl rfl
        (by dsimp only; omega) (by dsimp only; omega)))
    · rw [qOf_at, if_neg hl, if_neg (by dsimp only; omega)]
      simp only [mul_zero, zero_mul]

/-- Finite queries and keys have real scores. -/
theorem score_real (x0 : FVec Ideal S16x4096x4x64 .f32) (x1 : FVec Ideal S16x256x4x64 .f32) (h0 : Attn.AllReal x0) (h1 : Attn.AllReal x1)
    (b : Fin 16) (h : Fin 4) (q : Fin 4096) (k : Fin 256) : ∃ r : ℝ, Ref.score x0 x1 b h q k = (r : EReal) := by
  unfold Ref.score
  choose f0 e0 using h0
  choose f1 e1 using h1
  rw [Attn.eighth]
  simp only [e0, e1, ← EReal.coe_mul]
  rw [← Attn.coe_sum, ← EReal.coe_mul]
  exact ⟨_, rfl⟩

/-- The kernel's result is the reference's. -/
theorem out_eq (h0 : Attn.AllReal (qArg m c)) (h1 : Attn.AllReal (kArg m c)) (n : Fin 65536) (col : Fin 256) :
    outOf m c n col =
      (Cert.MemAttnRefIdeal.Read.val_main_v17 (F := Ideal) (qArg m c) (kArg m c) (vArg m c) : FVec Ideal S65536x256 .bf16) (ix2 n col) := by
  have hb : n.val / 4096 < 16 := by omega
  have hq : n.val % 4096 < 4096 := by omega
  have hh : col.val / 64 < 4 := by omega
  have hd : col.val % 64 < 64 := by omega
  rw [Ref.out_at (qArg m c) (kArg m c) (vArg m c) n col ⟨_, hb⟩ ⟨_, hq⟩ ⟨_, hh⟩ ⟨_, hd⟩ rfl rfl rfl rfl]
  unfold outOf mean
  refine Attn.window_eq_all id Function.injective_id _ _ _ _ ?_ ?_ ?_ ?_ ?_
  · intro j
    exact score_eq m c n _ j
  · intro j
    rw [show vF m c = (V m c main_v17 : FVec Ideal S16x256x256 .bf16) from rfl, vF_at]
    rfl
  · intro k hk
    exact absurd rfl (hk k)
  · intro k
    obtain ⟨r, e⟩ := score_real (qArg m c) (kArg m c) h0 h1 ⟨_, hb⟩ ⟨_, hh⟩ ⟨_, hq⟩ k
    exact fun h => EReal.coe_ne_top r (e.symm.trans h)
  · obtain ⟨r, e⟩ := score_real (qArg m c) (kArg m c) h0 h1 ⟨_, hb⟩ ⟨_, hh⟩ ⟨_, hq⟩ 0
    exact ⟨0, fun h => EReal.coe_ne_bot r (e.symm.trans h)⟩

end Memory
-- ==== Proof.MemClaims.lean ====
module
public import proofs.«01_k».proof.Defs
public import proofs.«01_k».proof.Proof.Gen.MemAttn.Frame
public import proofs.«01_k».proof.Proof.Gen.MemAttnIdeal.Frame
public import proofs.«01_k».proof.Proof.Gen.MemAttnIdeal.Value
public import proofs.«01_k».proof.Proof.Gen.MemAttnRefIdeal.Run
public import proofs.«01_k».proof.Proof.Gen.MemAttnRefIdeal.Read
public import proofs.«01_k».proof.Proof.MemCombine
public import proofs.«01_k».proof.Proof.AttnClaims
/-! The claims on the memory attention: what the precondition says, and that kernel and reference agree. -/
@[expose] public section
set_option maxRecDepth 16384
noncomputable section
namespace Memory
open Cert.MemAttnIdeal Cert.MemAttnIdeal.Gen Idealize.ShloMosaic Idealize.ShloMosaic.TcCoe Idealize.SL.Sem

/-- The shape relations of the precondition. -/
theorem preFacts : Cert.Pre_finite_memory.Facts where
  bcast_S_S16x4096x4x64 := by decide
  bcast_S_S16x256x4x64 := by decide

/-- The precondition says that the queries and the keys are real numbers. -/
theorem real_of_pre (m : (l : Loc nD τ sig) → Buf (Elt Ideal) l) (h : Cert.Pre_MemAttnIdeal_finite_memory (hPre_finite_memory := preFacts) m)
    (c : Dev nD) : Attn.AllReal (qArg m c) ∧ Attn.AllReal (kArg m c) :=
  ⟨fun i => Attn.real_of_abs_lt (congrFun (h c).1 i), fun i => Attn.real_of_abs_lt (congrFun (h c).2 i)⟩

/-- The kernel's result array, as a whole, is the reference's. -/
theorem result_ref (m : (l : Loc nD τ sig) → Buf (Elt Ideal) l) (h : Cert.Pre_MemAttnIdeal_finite_memory (hPre_finite_memory := preFacts) m)
    (c : Dev nD) : result m c = Cert.MemAttnRefIdeal.Read.val_main_v17 (F := Ideal) (qArg m c) (kArg m c) (vArg m c) := by
  obtain ⟨h0, h1⟩ := real_of_pre m h c
  refine funext fun i => ?_
  rw [eq_ix2 i]
  exact out_eq m c h0 h1 (i 0) (i 1)

theorem frame_ri : Cert.quiescent_MemAttnRefIdeal := fun m ρ _ =>
  (θ_run Cert.MemAttnRefIdeal.defs _ _).mono (fun r h => ⟨fun c => (h c).2, Idealize.ShloMosaic.sem_eq_zero_of_no_sems (by decide) r.2⟩)
    (Cert.MemAttnRefIdeal.Value.run (F := Ideal) m ρ)

theorem algebraic : Cert.algebraic_MemAttnIdeal_MemAttnRefIdeal_pre_finite_memory (hPre_finite_memory := preFacts) := by
  intro m ρ m' ρ' hpre hag
  refine ⟨fun c => result m c, ?_, ?_⟩
  · exact (θ_run Cert.MemAttnIdeal.defs _ _).mono (fun _ h c => ⟨(h c).1.trans (result_eq m c), (h c).2⟩)
      (Cert.MemAttnIdeal.Value.run_blocks (F := Ideal) m ρ)
  · refine (θ_run Cert.MemAttnRefIdeal.defs _ _).mono (fun _ h c => ⟨(h c).1.trans ?_, (h c).2⟩)
      (Cert.MemAttnRefIdeal.Value.run (F := Ideal) m' ρ')
    rw [Cert.MemAttnRefIdeal.Read.val_main_v17_eq, (hag c).1, (hag c).2.1, (hag c).2.2]
    exact (result_ref m hpre c).symm

end Memory
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.AttnClaims
public import proofs.«01_k».proof.Proof.InClaims
public import proofs.«01_k».proof.Proof.OutClaims
public import proofs.«01_k».proof.Proof.RouteClaims
public import proofs.«01_k».proof.Proof.MemKvClaims
public import proofs.«01_k».proof.Proof.MemClaims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.InProj.Gen.facts, Cert.InProjIdeal.Gen.facts, Cert.InRefIdeal.Gen.facts,
    Cert.OutProj.Gen.facts, Cert.OutProjIdeal.Gen.facts, Cert.OutRefIdeal.Gen.facts,
    Cert.Route.Gen.facts, Cert.RouteIdeal.Gen.facts, Cert.RouteRefIdeal.Gen.facts,
    Cert.MemKv.Gen.facts, Cert.MemKvIdeal.Gen.facts, Cert.MemKvRefIdeal.Gen.facts,
    Cert.MemAttn.Gen.facts, Cert.MemAttnIdeal.Gen.facts, Cert.MemAttnRefIdeal.Gen.facts, Attn.preFacts, Memory.preFacts,
    fun m ρ _ => Cert.Kernel.Gen.frame m ρ, fun m ρ _ => Cert.KernelIdeal.Gen.frame m ρ,
    fun m ρ _ => Cert.KernelIdeal.Gen.frame m ρ, Attn.frame_ri, fun m ρ _ => Attn.frame_ri m ρ trivial,
    fun m ρ _ => Cert.InProj.Gen.frame m ρ, fun m ρ _ => Cert.InProjIdeal.Gen.frame m ρ, Proj.In.frame_ri,
    fun m ρ _ => Cert.OutProj.Gen.frame m ρ, fun m ρ _ => Cert.OutProjIdeal.Gen.frame m ρ, Proj.Out.frame_ri,
    fun m ρ _ => Cert.Route.Gen.frame m ρ, fun m ρ _ => Cert.RouteIdeal.Gen.frame m ρ, Route.frame_ri,
    fun m ρ _ => Cert.MemKv.Gen.frame m ρ, fun m ρ _ => Cert.MemKvIdeal.Gen.frame m ρ, Memory.Kv.frame_ri,
    fun m ρ _ => Cert.MemAttn.Gen.frame m ρ, fun m ρ _ => Cert.MemAttnIdeal.Gen.frame m ρ,
    fun m ρ _ => Cert.MemAttnIdeal.Gen.frame m ρ, Memory.frame_ri, fun m ρ _ => Memory.frame_ri m ρ trivial,
    IdealRules.named_const.statement Cert.KernelIdeal.κ "mask" .f32 0xF149F2CA#32 ⊥ rfl,
    Attn.algebraic, trivial, Proj.In.algebraic, trivial, Proj.Out.algebraic, trivial, Route.algebraic,
    trivial, Memory.Kv.algebraic, trivial, Memory.algebraic⟩

end Cert.Proof

end
